-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonzero [hPre_scales_nonzero : Cert.Pre_scales_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonzero [hPre_scales_nonzero : Cert.Pre_scales_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_scales_nonzero1 [hPre_scales_nonzero1 : Cert.Pre_scales_nonzero1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_scales_nonzero1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_scales_nonzero1 [hPre_scales_nonzero1 : Cert.Pre_scales_nonzero1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_scales_nonzero1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scales_nonzero2 [hPre_scales_nonzero2 : Cert.Pre_scales_nonzero2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scales_nonzero2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scales_nonzero2 [hPre_scales_nonzero2 : Cert.Pre_scales_nonzero2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scales_nonzero2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scales_nonzero3 [hPre_scales_nonzero3 : Cert.Pre_scales_nonzero3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scales_nonzero3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scales_nonzero3 [hPre_scales_nonzero3 : Cert.Pre_scales_nonzero3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scales_nonzero3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_out_scale_nonzero [hPre_out_scale_nonzero : Cert.Pre_out_scale_nonzero.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_out_scale_nonzero.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))) = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_out_scale_nonzero [hPre_out_scale_nonzero : Cert.Pre_out_scale_nonzero.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_out_scale_nonzero.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))) = (fun _ => 1#1)

def Pre_KernelText (m : (ℓ : Loc Cert.KernelText.nD Cert.KernelText.τ Cert.KernelText.sig) → Buf (Elt Bits) ℓ) : Prop :=
  True

def Pre_KernelTextIdeal (m : (ℓ : Loc Cert.KernelTextIdeal.nD Cert.KernelTextIdeal.τ Cert.KernelTextIdeal.sig) → Buf (Elt Ideal) ℓ) : Prop :=
  True

def Pre_ReferenceTextIdeal (m : (ℓ : Loc Cert.ReferenceTextIdeal.nD Cert.ReferenceTextIdeal.τ Cert.ReferenceTextIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_nonzero [hKernelIdeal : Cert.KernelIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_nonzero [hReferenceIdeal : Cert.ReferenceIdeal.Facts] [hPre_scales_nonzero : Cert.Pre_scales_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Kernel1Ideal_pre_scales_nonzero1 [hKernel1Ideal : Cert.Kernel1Ideal.Facts] [hPre_scales_nonzero1 : Cert.Pre_scales_nonzero1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_scales_nonzero1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Reference1Ideal_pre_scales_nonzero1 [hReference1Ideal : Cert.Reference1Ideal.Facts] [hPre_scales_nonzero1 : Cert.Pre_scales_nonzero1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_scales_nonzero1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_scales_nonzero2 [hKernel2Ideal : Cert.Kernel2Ideal.Facts] [hPre_scales_nonzero2 : Cert.Pre_scales_nonzero2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scales_nonzero2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_scales_nonzero2 [hReference2Ideal : Cert.Reference2Ideal.Facts] [hPre_scales_nonzero2 : Cert.Pre_scales_nonzero2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scales_nonzero2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_scales_nonzero3 [hKernel3Ideal : Cert.Kernel3Ideal.Facts] [hPre_scales_nonzero3 : Cert.Pre_scales_nonzero3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scales_nonzero3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_scales_nonzero3 [hReference3Ideal : Cert.Reference3Ideal.Facts] [hPre_scales_nonzero3 : Cert.Pre_scales_nonzero3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scales_nonzero3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_KernelOutIdeal_pre_out_scale_nonzero [hKernelOutIdeal : Cert.KernelOutIdeal.Facts] [hPre_out_scale_nonzero : Cert.Pre_out_scale_nonzero.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_out_scale_nonzero m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_ReferenceOutIdeal_pre_out_scale_nonzero [hReferenceOutIdeal : Cert.ReferenceOutIdeal.Facts] [hPre_out_scale_nonzero : Cert.Pre_out_scale_nonzero.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_out_scale_nonzero m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelText [hKernelText : Cert.KernelText.Facts] : Prop :=
  ∀ (m : (ℓ : Loc Cert.KernelText.nD Cert.KernelText.τ Cert.KernelText.sig) → Buf (Elt Bits) ℓ) (g : Dev Cert.KernelText.nD → PrngReg), Pre_KernelText m →
    θ_run (Cert.KernelText.defs (F := Bits)) (onTc (τ := Cert.KernelText.τ) (Cert.KernelText.main (F := Bits))) ⟨m, fun _ => 0, g⟩ (fun r => (∀ c : Dev Cert.KernelText.nD,
      r.2.mem ((c.tc : Thread Cert.KernelText.nD Cert.KernelText.τ).loc Cert.KernelText.main_arg0) = m ((c.tc : Thread Cert.KernelText.nD Cert.KernelText.τ).loc Cert.KernelText.main_arg0)
      ∧ r.2.mem ((c.tc : Thread Cert.KernelText.nD Cert.KernelText.τ).loc Cert.KernelText.main_arg1) = m ((c.tc : Thread Cert.KernelText.nD Cert.KernelText.τ).loc Cert.KernelText.main_arg1)
      ∧ r.2.mem ((c.tc : Thread Cert.KernelText.nD Cert.KernelText.τ).loc Cert.KernelText.main_arg2) = m ((c.tc : Thread Cert.KernelText.nD Cert.KernelText.τ).loc Cert.KernelText.main_arg2)
      ∧ r.2.mem ((c.tc : Thread Cert.KernelText.nD Cert.KernelText.τ).loc Cert.KernelText.main_arg3) = m ((c.tc : Thread Cert.KernelText.nD Cert.KernelText.τ).loc Cert.KernelText.main_arg3))
      ∧ r.2.sem = fun _ => 0)

def quiescent_KernelTextIdeal [hKernelTextIdeal : Cert.KernelTextIdeal.Facts] : Prop :=
  ∀ (m : (ℓ : Loc Cert.KernelTextIdeal.nD Cert.KernelTextIdeal.τ Cert.KernelTextIdeal.sig) → Buf (Elt Ideal) ℓ) (g : Dev Cert.KernelTextIdeal.nD → PrngReg), Pre_KernelTextIdeal m →
    θ_run (Cert.KernelTextIdeal.defs (F := Ideal)) (onTc (τ := Cert.KernelTextIdeal.τ) (Cert.KernelTextIdeal.main (F := Ideal))) ⟨m, fun _ => 0, g⟩ (fun r => (∀ c : Dev Cert.KernelTextIdeal.nD,
      r.2.mem ((c.tc : Thread Cert.KernelTextIdeal.nD Cert.KernelTextIdeal.τ).loc Cert.KernelTextIdeal.main_arg0) = m ((c.tc : Thread Cert.KernelTextIdeal.nD Cert.KernelTextIdeal.τ).loc Cert.KernelTextIdeal.main_arg0)
      ∧ r.2.mem ((c.tc : Thread Cert.KernelTextIdeal.nD Cert.KernelTextIdeal.τ).loc Cert.KernelTextIdeal.main_arg1) = m ((c.tc : Thread Cert.KernelTextIdeal.nD Cert.KernelTextIdeal.τ).loc Cert.KernelTextIdeal.main_arg1)
      ∧ r.2.mem ((c.tc : Thread Cert.KernelTextIdeal.nD Cert.KernelTextIdeal.τ).loc Cert.KernelTextIdeal.main_arg2) = m ((c.tc : Thread Cert.KernelTextIdeal.nD Cert.KernelTextIdeal.τ).loc Cert.KernelTextIdeal.main_arg2)
      ∧ r.2.mem ((c.tc : Thread Cert.KernelTextIdeal.nD Cert.KernelTextIdeal.τ).loc Cert.KernelTextIdeal.main_arg3) = m ((c.tc : Thread Cert.KernelTextIdeal.nD Cert.KernelTextIdeal.τ).loc Cert.KernelTextIdeal.main_arg3))
      ∧ r.2.sem = fun _ => 0)

def quiescent_ReferenceTextIdeal [hReferenceTextIdeal : Cert.ReferenceTextIdeal.Facts] : Prop :=
  ∀ (m : (ℓ : Loc Cert.ReferenceTextIdeal.nD Cert.ReferenceTextIdeal.τ Cert.ReferenceTextIdeal.sig) → Buf (Elt Ideal) ℓ) (g : Dev Cert.ReferenceTextIdeal.nD → PrngReg), Pre_ReferenceTextIdeal m →
    θ_run (Cert.ReferenceTextIdeal.defs (F := Ideal)) (onTc (τ := Cert.ReferenceTextIdeal.τ) (Cert.ReferenceTextIdeal.main (F := Ideal))) ⟨m, fun _ => 0, g⟩ (fun r => (∀ c : Dev Cert.ReferenceTextIdeal.nD,
      r.2.mem ((c.tc : Thread Cert.ReferenceTextIdeal.nD Cert.ReferenceTextIdeal.τ).loc Cert.ReferenceTextIdeal.main_arg0) = m ((c.tc : Thread Cert.ReferenceTextIdeal.nD Cert.ReferenceTextIdeal.τ).loc Cert.ReferenceTextIdeal.main_arg0)
      ∧ r.2.mem ((c.tc : Thread Cert.ReferenceTextIdeal.nD Cert.ReferenceTextIdeal.τ).loc Cert.ReferenceTextIdeal.main_arg1) = m ((c.tc : Thread Cert.ReferenceTextIdeal.nD Cert.ReferenceTextIdeal.τ).loc Cert.ReferenceTextIdeal.main_arg1)
      ∧ r.2.mem ((c.tc : Thread Cert.ReferenceTextIdeal.nD Cert.ReferenceTextIdeal.τ).loc Cert.ReferenceTextIdeal.main_arg2) = m ((c.tc : Thread Cert.ReferenceTextIdeal.nD Cert.ReferenceTextIdeal.τ).loc Cert.ReferenceTextIdeal.main_arg2)
      ∧ r.2.mem ((c.tc : Thread Cert.ReferenceTextIdeal.nD Cert.ReferenceTextIdeal.τ).loc Cert.ReferenceTextIdeal.main_arg3) = m ((c.tc : Thread Cert.ReferenceTextIdeal.nD Cert.ReferenceTextIdeal.τ).loc Cert.ReferenceTextIdeal.main_arg3))
      ∧ r.2.sem = fun _ => 0)

def preserves_Kernel_KernelIdeal : Prop :=
  True

def algebraic_KernelIdeal_ReferenceIdeal_pre_scales_nonzero [hKernelIdeal : Cert.KernelIdeal.Facts] [hReferenceIdeal : Cert.ReferenceIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel1_Kernel1Ideal : Prop :=
  True

def algebraic_Kernel1Ideal_Reference1Ideal_pre_scales_nonzero1 [hKernel1Ideal : Cert.Kernel1Ideal.Facts] [hReference1Ideal : Cert.Reference1Ideal.Facts] [hPre_scales_nonzero1 : Cert.Pre_scales_nonzero1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_scales_nonzero1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v0)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v0) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel2_Kernel2Ideal : Prop :=
  True

def algebraic_Kernel2Ideal_Reference2Ideal_pre_scales_nonzero2 [hKernel2Ideal : Cert.Kernel2Ideal.Facts] [hReference2Ideal : Cert.Reference2Ideal.Facts] [hPre_scales_nonzero2 : Cert.Pre_scales_nonzero2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scales_nonzero2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_scales_nonzero3 [hKernel3Ideal : Cert.Kernel3Ideal.Facts] [hReference3Ideal : Cert.Reference3Ideal.Facts] [hPre_scales_nonzero3 : Cert.Pre_scales_nonzero3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scales_nonzero3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_KernelOut_KernelOutIdeal : Prop :=
  True

def algebraic_KernelOutIdeal_ReferenceOutIdeal_pre_out_scale_nonzero [hKernelOutIdeal : Cert.KernelOutIdeal.Facts] [hReferenceOutIdeal : Cert.ReferenceOutIdeal.Facts] [hPre_out_scale_nonzero : Cert.Pre_out_scale_nonzero.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_out_scale_nonzero m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0_0) = v0 c
          ∧ r.2.mem ((c.tc : Thread Cert.ReferenceOutIdeal.nD Cert.ReferenceOutIdeal.τ).loc Cert.ReferenceOutIdeal.main_v0_1) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelText_KernelTextIdeal : Prop :=
  True

def algebraic_KernelTextIdeal_ReferenceTextIdeal [hKernelTextIdeal : Cert.KernelTextIdeal.Facts] [hReferenceTextIdeal : Cert.ReferenceTextIdeal.Facts] : Prop :=
  ∀ (m : (ℓ : Loc Cert.KernelTextIdeal.nD Cert.KernelTextIdeal.τ Cert.KernelTextIdeal.sig) → Buf (Elt Ideal) ℓ) (g : Dev Cert.KernelTextIdeal.nD → PrngReg)
    (m' : (ℓ : Loc Cert.ReferenceTextIdeal.nD Cert.ReferenceTextIdeal.τ Cert.ReferenceTextIdeal.sig) → Buf (Elt Ideal) ℓ) (g' : Dev Cert.ReferenceTextIdeal.nD → PrngReg), Pre_KernelTextIdeal m →
    (∀ c : Dev Cert.KernelTextIdeal.nD,
      m' ((c.tc : Thread Cert.ReferenceTextIdeal.nD Cert.ReferenceTextIdeal.τ).loc Cert.ReferenceTextIdeal.main_arg0) = m ((c.tc : Thread Cert.KernelTextIdeal.nD Cert.KernelTextIdeal.τ).loc Cert.KernelTextIdeal.main_arg0)
      ∧ m' ((c.tc : Thread Cert.ReferenceTextIdeal.nD Cert.ReferenceTextIdeal.τ).loc Cert.ReferenceTextIdeal.main_arg1) = m ((c.tc : Thread Cert.KernelTextIdeal.nD Cert.KernelTextIdeal.τ).loc Cert.KernelTextIdeal.main_arg1)
      ∧ m' ((c.tc : Thread Cert.ReferenceTextIdeal.nD Cert.ReferenceTextIdeal.τ).loc Cert.ReferenceTextIdeal.main_arg2) = m ((c.tc : Thread Cert.KernelTextIdeal.nD Cert.KernelTextIdeal.τ).loc Cert.KernelTextIdeal.main_arg2)
      ∧ m' ((c.tc : Thread Cert.ReferenceTextIdeal.nD Cert.ReferenceTextIdeal.τ).loc Cert.ReferenceTextIdeal.main_arg3) = m ((c.tc : Thread Cert.KernelTextIdeal.nD Cert.KernelTextIdeal.τ).loc Cert.KernelTextIdeal.main_arg3)) →
    ∃ (v0 : (c : Dev Cert.KernelTextIdeal.nD) → Buf (Elt Ideal) ((c.tc : Thread Cert.KernelTextIdeal.nD Cert.KernelTextIdeal.τ).loc Cert.KernelTextIdeal.main_v2)),
      θ_run (Cert.KernelTextIdeal.defs (F := Ideal)) (onTc (τ := Cert.KernelTextIdeal.τ) (Cert.KernelTextIdeal.main (F := Ideal))) ⟨m, fun _ => 0, g⟩ (fun r => ∀ c : Dev Cert.KernelTextIdeal.nD,
          r.2.mem ((c.tc : Thread Cert.KernelTextIdeal.nD Cert.KernelTextIdeal.τ).loc Cert.KernelTextIdeal.main_v2) = v0 c
          ∧ r.2.mem ((c.tc : Thread Cert.KernelTextIdeal.nD Cert.KernelTextIdeal.τ).loc Cert.KernelTextIdeal.main_arg0) = m ((c.tc : Thread Cert.KernelTextIdeal.nD Cert.KernelTextIdeal.τ).loc Cert.KernelTextIdeal.main_arg0)
          ∧ r.2.mem ((c.tc : Thread Cert.KernelTextIdeal.nD Cert.KernelTextIdeal.τ).loc Cert.KernelTextIdeal.main_arg1) = m ((c.tc : Thread Cert.KernelTextIdeal.nD Cert.KernelTextIdeal.τ).loc Cert.KernelTextIdeal.main_arg1)
          ∧ r.2.mem ((c.tc : Thread Cert.KernelTextIdeal.nD Cert.KernelTextIdeal.τ).loc Cert.KernelTextIdeal.main_arg2) = m ((c.tc : Thread Cert.KernelTextIdeal.nD Cert.KernelTextIdeal.τ).loc Cert.KernelTextIdeal.main_arg2)
          ∧ r.2.mem ((c.tc : Thread Cert.KernelTextIdeal.nD Cert.KernelTextIdeal.τ).loc Cert.KernelTextIdeal.main_arg3) = m ((c.tc : Thread Cert.KernelTextIdeal.nD Cert.KernelTextIdeal.τ).loc Cert.KernelTextIdeal.main_arg3))
      ∧ θ_run (Cert.ReferenceTextIdeal.defs (F := Ideal)) (onTc (τ := Cert.ReferenceTextIdeal.τ) (Cert.ReferenceTextIdeal.main (F := Ideal))) ⟨m', fun _ => 0, g'⟩ (fun r => ∀ c : Dev Cert.ReferenceTextIdeal.nD,
          r.2.mem ((c.tc : Thread Cert.ReferenceTextIdeal.nD Cert.ReferenceTextIdeal.τ).loc Cert.ReferenceTextIdeal.main_v2) = v0 c
          ∧ r.2.mem ((c.tc : Thread Cert.ReferenceTextIdeal.nD Cert.ReferenceTextIdeal.τ).loc Cert.ReferenceTextIdeal.main_arg0) = m' ((c.tc : Thread Cert.ReferenceTextIdeal.nD Cert.ReferenceTextIdeal.τ).loc Cert.ReferenceTextIdeal.main_arg0)
          ∧ r.2.mem ((c.tc : Thread Cert.ReferenceTextIdeal.nD Cert.ReferenceTextIdeal.τ).loc Cert.ReferenceTextIdeal.main_arg1) = m' ((c.tc : Thread Cert.ReferenceTextIdeal.nD Cert.ReferenceTextIdeal.τ).loc Cert.ReferenceTextIdeal.main_arg1)
          ∧ r.2.mem ((c.tc : Thread Cert.ReferenceTextIdeal.nD Cert.ReferenceTextIdeal.τ).loc Cert.ReferenceTextIdeal.main_arg2) = m' ((c.tc : Thread Cert.ReferenceTextIdeal.nD Cert.ReferenceTextIdeal.τ).loc Cert.ReferenceTextIdeal.main_arg2)
          ∧ r.2.mem ((c.tc : Thread Cert.ReferenceTextIdeal.nD Cert.ReferenceTextIdeal.τ).loc Cert.ReferenceTextIdeal.main_arg3) = m' ((c.tc : Thread Cert.ReferenceTextIdeal.nD Cert.ReferenceTextIdeal.τ).loc Cert.ReferenceTextIdeal.main_arg3))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernelOut : Cert.KernelOut.Facts) (hKernelOutIdeal : Cert.KernelOutIdeal.Facts) (hReferenceOutIdeal : Cert.ReferenceOutIdeal.Facts) (hKernelText : Cert.KernelText.Facts) (hKernelTextIdeal : Cert.KernelTextIdeal.Facts) (hReferenceTextIdeal : Cert.ReferenceTextIdeal.Facts) (hPre_scales_nonzero : Cert.Pre_scales_nonzero.Facts) (hPre_scales_nonzero1 : Cert.Pre_scales_nonzero1.Facts) (hPre_scales_nonzero2 : Cert.Pre_scales_nonzero2.Facts) (hPre_scales_nonzero3 : Cert.Pre_scales_nonzero3.Facts) (hPre_out_scale_nonzero : Cert.Pre_out_scale_nonzero.Facts),
    quiescent_Kernel (hKernel := hKernel)
    ∧ quiescent_KernelIdeal (hKernelIdeal := hKernelIdeal)
    ∧ quiescent_KernelIdeal_pre_scales_nonzero (hKernelIdeal := hKernelIdeal) (hPre_scales_nonzero := hPre_scales_nonzero)
    ∧ quiescent_ReferenceIdeal (hReferenceIdeal := hReferenceIdeal)
    ∧ quiescent_ReferenceIdeal_pre_scales_nonzero (hReferenceIdeal := hReferenceIdeal) (hPre_scales_nonzero := hPre_scales_nonzero)
    ∧ quiescent_Kernel1 (hKernel1 := hKernel1)
    ∧ quiescent_Kernel1Ideal (hKernel1Ideal := hKernel1Ideal)
    ∧ quiescent_Kernel1Ideal_pre_scales_nonzero1 (hKernel1Ideal := hKernel1Ideal) (hPre_scales_nonzero1 := hPre_scales_nonzero1)
    ∧ quiescent_Reference1Ideal (hReference1Ideal := hReference1Ideal)
    ∧ quiescent_Reference1Ideal_pre_scales_nonzero1 (hReference1Ideal := hReference1Ideal) (hPre_scales_nonzero1 := hPre_scales_nonzero1)
    ∧ quiescent_Kernel2 (hKernel2 := hKernel2)
    ∧ quiescent_Kernel2Ideal (hKernel2Ideal := hKernel2Ideal)
    ∧ quiescent_Kernel2Ideal_pre_scales_nonzero2 (hKernel2Ideal := hKernel2Ideal) (hPre_scales_nonzero2 := hPre_scales_nonzero2)
    ∧ quiescent_Reference2Ideal (hReference2Ideal := hReference2Ideal)
    ∧ quiescent_Reference2Ideal_pre_scales_nonzero2 (hReference2Ideal := hReference2Ideal) (hPre_scales_nonzero2 := hPre_scales_nonzero2)
    ∧ quiescent_Kernel3 (hKernel3 := hKernel3)
    ∧ quiescent_Kernel3Ideal (hKernel3Ideal := hKernel3Ideal)
    ∧ quiescent_Kernel3Ideal_pre_scales_nonzero3 (hKernel3Ideal := hKernel3Ideal) (hPre_scales_nonzero3 := hPre_scales_nonzero3)
    ∧ quiescent_Reference3Ideal (hReference3Ideal := hReference3Ideal)
    ∧ quiescent_Reference3Ideal_pre_scales_nonzero3 (hReference3Ideal := hReference3Ideal) (hPre_scales_nonzero3 := hPre_scales_nonzero3)
    ∧ quiescent_KernelOut (hKernelOut := hKernelOut)
    ∧ quiescent_KernelOutIdeal (hKernelOutIdeal := hKernelOutIdeal)
    ∧ quiescent_KernelOutIdeal_pre_out_scale_nonzero (hKernelOutIdeal := hKernelOutIdeal) (hPre_out_scale_nonzero := hPre_out_scale_nonzero)
    ∧ quiescent_ReferenceOutIdeal (hReferenceOutIdeal := hReferenceOutIdeal)
    ∧ quiescent_ReferenceOutIdeal_pre_out_scale_nonzero (hReferenceOutIdeal := hReferenceOutIdeal) (hPre_out_scale_nonzero := hPre_out_scale_nonzero)
    ∧ quiescent_KernelText (hKernelText := hKernelText)
    ∧ quiescent_KernelTextIdeal (hKernelTextIdeal := hKernelTextIdeal)
    ∧ quiescent_ReferenceTextIdeal (hReferenceTextIdeal := hReferenceTextIdeal)
    ∧ preserves_Kernel_KernelIdeal
    ∧ algebraic_KernelIdeal_ReferenceIdeal_pre_scales_nonzero (hKernelIdeal := hKernelIdeal) (hReferenceIdeal := hReferenceIdeal) (hPre_scales_nonzero := hPre_scales_nonzero)
    ∧ preserves_Kernel1_Kernel1Ideal
    ∧ algebraic_Kernel1Ideal_Reference1Ideal_pre_scales_nonzero1 (hKernel1Ideal := hKernel1Ideal) (hReference1Ideal := hReference1Ideal) (hPre_scales_nonzero1 := hPre_scales_nonzero1)
    ∧ preserves_Kernel2_Kernel2Ideal
    ∧ algebraic_Kernel2Ideal_Reference2Ideal_pre_scales_nonzero2 (hKernel2Ideal := hKernel2Ideal) (hReference2Ideal := hReference2Ideal) (hPre_scales_nonzero2 := hPre_scales_nonzero2)
    ∧ preserves_Kernel3_Kernel3Ideal
    ∧ algebraic_Kernel3Ideal_Reference3Ideal_pre_scales_nonzero3 (hKernel3Ideal := hKernel3Ideal) (hReference3Ideal := hReference3Ideal) (hPre_scales_nonzero3 := hPre_scales_nonzero3)
    ∧ preserves_KernelOut_KernelOutIdeal
    ∧ algebraic_KernelOutIdeal_ReferenceOutIdeal_pre_out_scale_nonzero (hKernelOutIdeal := hKernelOutIdeal) (hReferenceOutIdeal := hReferenceOutIdeal) (hPre_out_scale_nonzero := hPre_out_scale_nonzero)
    ∧ preserves_KernelText_KernelTextIdeal
    ∧ algebraic_KernelTextIdeal_ReferenceTextIdeal (hKernelTextIdeal := hKernelTextIdeal) (hReferenceTextIdeal := hReferenceTextIdeal)
-- ==== Pre_out_scale_nonzero.lean ====
abbrev S2 : Shape := ⟨1, ![2]⟩
abbrev S16384x1280 : Shape := ⟨2, ![16384, 1280]⟩
abbrev S1280x1280 : Shape := ⟨2, ![1280, 1280]⟩
abbrev S1280 : Shape := ⟨1, ![1280]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S2 .f32) (main_arg1 : FVec F S16384x1280 .f32) (main_arg2 : FVec F S16384x1280 .bf16) (main_arg3 : FVec F S1280x1280 .fp8e4m3) (main_arg4 : FVec F S1280 .f32) (main_arg5 : FVec F S1280 .f32) : IVec S_ 1 :=
  let main_v0 : FVec F S1 .f32 := (extractStridedSlice S1 ![1] · slices_S2_S1_1) main_arg0
  let main_v1 : FVec F S_ .f32 := shapeCast S_ main_v0 shapeCasts_S1_S_
  let main_cst : FVec F S_ .f32 := constant S_ .f32 0x00000000#32
  let main_v2 : IVec S_ 1 := cmpf .une main_v1 main_cst
  main_v2
-- ==== Pre_scales_nonzero.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x2 : Shape := ⟨2, ![1, 2]⟩
abbrev S2 : Shape := ⟨1, ![2]⟩
abbrev S_ : Shape := ⟨0, ![]⟩

class Facts : Prop where
  slices_S4x6_S1x2_0_4 : S4x6.Slices ![0, 4] S1x2
  shapeCasts_S1x2_S2 : S1x2.ShapeCasts S2
  bcast_S_S2 : S_.BroadcastsInDim S2 (![] : Fin 0 → Fin S2.rank)

variable [Facts]

def fn {F : FTy → Type} [FloatOps F] (main_arg0 : FVec F S4x6 .f32) (main_arg1 : FVec F S16384x1280 .f32) (main_arg2 : FVec F S4x1280x10240 .fp8e4m3) (main_arg3 : FVec F S4x10240 .f32) (main_arg4 : FVec F S4x10240 .f32) (main_arg5 : FVec F S4x5120x1280 .fp8e4m3) (main_arg6 : FVec F S4x1280 .f32) (main_arg7 : FVec F S4x1280 .f32) (main_arg8 : FVec F S4x1280 .f32) (main_arg9 : FVec F S4x1280 .f32) : IVec S2 1 :=
  let main_v0 : FVec F S1x2 .f32 := (extractStridedSlice S1x2 ![0, 4] · slices_S4x6_S1x2_0_4) main_arg0
  let main_v1 : FVec F S2 .f32 := shapeCast S2 main_v0 shapeCasts_S1x2_S2
  let main_cst : FVec F S_ .f32 := constant S_ .f32 0x00000000#32
  let main_v2 : FVec F S2 .f32 := broadcastInDim S2 ![] bcast_S_S2 main_cst
  let main_v3 : IVec S2 1 := cmpf .une main_v1 main_v2
  main_v3
-- ==== Pre_scales_nonzero1.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x2 : Shape := ⟨2, ![1, 2]⟩
abbrev S2 : Shape := ⟨1, ![2]⟩
abbrev S_ : Shape := ⟨0, ![]⟩

class Facts : Prop where
  slices_S4x6_S1x2_1_4 : S4x6.Slices ![1, 4] S1x2
  shapeCasts_S1x2_S2 : S1x2.ShapeCasts S2
  bcast_S_S2 : S_.BroadcastsInDim S2 (![] : Fin 0 → Fin S2.rank)

variable [Facts]

def fn {F : FTy → Type} [FloatOps F] (main_arg0 : FVec F S4x6 .f32) (main_arg1 : FVec F S16384x1280 .f32) (main_arg2 : FVec F S4x1280x10240 .fp8e4m3) (main_arg3 : FVec F S4x10240 .f32) (main_arg4 : FVec F S4x10240 .f32) (main_arg5 : FVec F S4x5120x1280 .fp8e4m3) (main_arg6 : FVec F S4x1280 .f32) (main_arg7 : FVec F S4x1280 .f32) (main_arg8 : FVec F S4x1280 .f32) (main_arg9 : FVec F S4x1280 .f32) : IVec S2 1 :=
  let main_v0 : FVec F S1x2 .f32 := (extractStridedSlice S1x2 ![1, 4] · slices_S4x6_S1x2_1_4) main_arg0
  let main_v1 : FVec F S2 .f32 := shapeCast S2 main_v0 shapeCasts_S1x2_S2
  let main_cst : FVec F S_ .f32 := constant S_ .f32 0x00000000#32
  let main_v2 : FVec F S2 .f32 := broadcastInDim S2 ![] bcast_S_S2 main_cst
  let main_v3 : IVec S2 1 := cmpf .une main_v1 main_v2
  main_v3
-- ==== Pre_scales_nonzero2.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x2 : Shape := ⟨2, ![1, 2]⟩
abbrev S2 : Shape := ⟨1, ![2]⟩
abbrev S_ : Shape := ⟨0, ![]⟩

class Facts : Prop where
  slices_S4x6_S1x2_2_4 : S4x6.Slices ![2, 4] S1x2
  shapeCasts_S1x2_S2 : S1x2.ShapeCasts S2
  bcast_S_S2 : S_.BroadcastsInDim S2 (![] : Fin 0 → Fin S2.rank)

variable [Facts]

def fn {F : FTy → Type} [FloatOps F] (main_arg0 : FVec F S4x6 .f32) (main_arg1 : FVec F S16384x1280 .f32) (main_arg2 : FVec F S4x1280x10240 .fp8e4m3) (main_arg3 : FVec F S4x10240 .f32) (main_arg4 : FVec F S4x10240 .f32) (main_arg5 : FVec F S4x5120x1280 .fp8e4m3) (main_arg6 : FVec F S4x1280 .f32) (main_arg7 : FVec F S4x1280 .f32) (main_arg8 : FVec F S4x1280 .f32) (main_arg9 : FVec F S4x1280 .f32) : IVec S2 1 :=
  let main_v0 : FVec F S1x2 .f32 := (extractStridedSlice S1x2 ![2, 4] · slices_S4x6_S1x2_2_4) main_arg0
  let main_v1 : FVec F S2 .f32 := shapeCast S2 main_v0 shapeCasts_S1x2_S2
  let main_cst : FVec F S_ .f32 := constant S_ .f32 0x00000000#32
  let main_v2 : FVec F S2 .f32 := broadcastInDim S2 ![] bcast_S_S2 main_cst
  let main_v3 : IVec S2 1 := cmpf .une main_v1 main_v2
  main_v3
-- ==== Pre_scales_nonzero3.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x2 : Shape := ⟨2, ![1, 2]⟩
abbrev S2 : Shape := ⟨1, ![2]⟩
abbrev S_ : Shape := ⟨0, ![]⟩

class Facts : Prop where
  slices_S4x6_S1x2_3_4 : S4x6.Slices ![3, 4] S1x2
  shapeCasts_S1x2_S2 : S1x2.ShapeCasts S2
  bcast_S_S2 : S_.BroadcastsInDim S2 (![] : Fin 0 → Fin S2.rank)

variable [Facts]

def fn {F : FTy → Type} [FloatOps F] (main_arg0 : FVec F S4x6 .f32) (main_arg1 : FVec F S16384x1280 .f32) (main_arg2 : FVec F S4x1280x10240 .fp8e4m3) (main_arg3 : FVec F S4x10240 .f32) (main_arg4 : FVec F S4x10240 .f32) (main_arg5 : FVec F S4x5120x1280 .fp8e4m3) (main_arg6 : FVec F S4x1280 .f32) (main_arg7 : FVec F S4x1280 .f32) (main_arg8 : FVec F S4x1280 .f32) (main_arg9 : FVec F S4x1280 .f32) : IVec S2 1 :=
  let main_v0 : FVec F S1x2 .f32 := (extractStridedSlice S1x2 ![3, 4] · slices_S4x6_S1x2_3_4) main_arg0
  let main_v1 : FVec F S2 .f32 := shapeCast S2 main_v0 shapeCasts_S1x2_S2
  let main_cst : FVec F S_ .f32 := constant S_ .f32 0x00000000#32
  let main_v2 : FVec F S2 .f32 := broadcastInDim S2 ![] bcast_S_S2 main_cst
  let main_v3 : IVec S2 1 := cmpf .une main_v1 main_v2
  main_v3
-- ==== Kernel.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S16384x5120 : Shape := ⟨2, ![16384, 5120]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 13
  | .vmem => 16
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .hbm, ⟨11, _⟩ => ⟨S16384x1280, .fp8e4m3⟩
  | .hbm, ⟨12, _⟩ => ⟨S16384x5120, .fp8e4m3⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x1280, .fp8e4m3⟩
  | .local _ .vmem, ⟨14, _⟩ => ⟨S512x5120, .fp8e4m3⟩
  | .local _ .vmem, ⟨15, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_13 : Index := 0#32
  ![v14.toNat, 0]
@[reducible] def k0_t2_loop : Scf.Loop 32 :=
  let c0_i32_7 : BitVec 32 := 0#32
  let c10_i32 : BitVec 32 := 10#32
  let v11 : BitVec 32 := Scalar.addi c0_i32_7 c10_i32
  let c1_i32_8 : BitVec 32 := 1#32
  ⟨c0_i32_7, v11, c1_i32_8⟩
def k0_mult1 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  v16
def k0_off2 (k0_t2 : Fin k0_t2_loop.trips) : Fin 3 → Nat :=
  let c0_16 : Index := 0#32
  let c0_17 : Index := 0#32
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  let v17 : BitVec 32 := v16
  let v20 : Index := Scalar.indexCast v17
  ![0, 0, v20.toNat]
def k0_off3 (k0_t2 : Fin k0_t2_loop.trips) : Fin 2 → Nat :=
  let c0_19 : Index := 0#32
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  let v17 : BitVec 32 := v16
  let v24 : Index := Scalar.indexCast v17
  ![0, v24.toNat]
def k0_off4 (k0_t2 : Fin k0_t2_loop.trips) : Fin 3 → Nat :=
  let c0_24 : Index := 0#32
  let c0_25 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v42 : Index := Scalar.indexCast v14
  ![0, 0, v42.toNat]
def k0_off5 (k0_t2 : Fin k0_t2_loop.trips) : Fin 2 → Nat :=
  let c0_27 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v46 : Index := Scalar.indexCast v14
  ![0, v46.toNat]
def k0_off6 (k0_t2 : Fin k0_t2_loop.trips) : Fin 2 → Nat :=
  let c0_31 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v64 : Index := Scalar.indexCast v14
  ![0, v64.toNat]
@[reducible] def k0_t3_loop : Scf.Loop 32 :=
  let c0_i32_10 : BitVec 32 := 0#32
  let c5_i32 : BitVec 32 := 5#32
  let v12 : BitVec 32 := Scalar.addi c0_i32_10 c5_i32
  let c1_i32_11 : BitVec 32 := 1#32
  ⟨c0_i32_10, v12, c1_i32_11⟩
def k0_mult3 (k0_t3 : Fin k0_t3_loop.trips) : BitVec 32 :=
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  v13
def k0_off7 (k0_t3 : Fin k0_t3_loop.trips) : Fin 3 → Nat :=
  let c0_15 : Index := 0#32
  let c0_16 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v17 : Index := Scalar.indexCast v14
  ![0, 0, v17.toNat]
def k0_off8 (k0_t3 : Fin k0_t3_loop.trips) : Fin 2 → Nat :=
  let c0_18 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v21 : Index := Scalar.indexCast v14
  ![0, v21.toNat]
def k0_off9 (k0_t3 : Fin k0_t3_loop.trips) : Fin 2 → Nat :=
  let c0_19 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v23 : Index := Scalar.indexCast v14
  ![0, v23.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1280 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S16384x5120 : Shape := ⟨2, ![16384, 5120]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 13
  | .vmem => 16
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .hbm, ⟨11, _⟩ => ⟨S16384x1280, .fp8e4m3⟩
  | .hbm, ⟨12, _⟩ => ⟨S16384x5120, .fp8e4m3⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x1280, .fp8e4m3⟩
  | .local _ .vmem, ⟨14, _⟩ => ⟨S512x5120, .fp8e4m3⟩
  | .local _ .vmem, ⟨15, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_13 : Index := 0#32
  ![v14.toNat, 0]
@[reducible] def k0_t2_loop : Scf.Loop 32 :=
  let c0_i32_7 : BitVec 32 := 0#32
  let c10_i32 : BitVec 32 := 10#32
  let v11 : BitVec 32 := Scalar.addi c0_i32_7 c10_i32
  let c1_i32_8 : BitVec 32 := 1#32
  ⟨c0_i32_7, v11, c1_i32_8⟩
def k0_mult1 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  v16
def k0_off2 (k0_t2 : Fin k0_t2_loop.trips) : Fin 3 → Nat :=
  let c0_16 : Index := 0#32
  let c0_17 : Index := 0#32
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  let v17 : BitVec 32 := v16
  let v20 : Index := Scalar.indexCast v17
  ![0, 0, v20.toNat]
def k0_off3 (k0_t2 : Fin k0_t2_loop.trips) : Fin 2 → Nat :=
  let c0_19 : Index := 0#32
  let c5120_i32 : BitVec 32 := 5120#32
  let c0_i32_7 : BitVec 32 := 0#32
  let c1_i32_8 : BitVec 32 := 1#32
  let arg14 : BitVec 32 := Scf.iv c0_i32_7 c1_i32_8 k0_t2
  let c512_i32_13 : BitVec 32 := 512#32
  let v15 : BitVec 32 := Scalar.muli arg14 c512_i32_13
  let v16 : BitVec 32 := Scalar.addi c5120_i32 v15
  let v17 : BitVec 32 := v16
  let v24 : Index := Scalar.indexCast v17
  ![0, v24.toNat]
def k0_off4 (k0_t2 : Fin k0_t2_loop.trips) : Fin 3 → Nat :=
  let c0_24 : Index := 0#32
  let c0_25 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v42 : Index := Scalar.indexCast v14
  ![0, 0, v42.toNat]
def k0_off5 (k0_t2 : Fin k0_t2_loop.trips) : Fin 2 → Nat :=
  let c0_27 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v46 : Index := Scalar.indexCast v14
  ![0, v46.toNat]
def k0_off6 (k0_t2 : Fin k0_t2_loop.trips) : Fin 2 → Nat :=
  let c0_31 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v13 : BitVec 32 := Scalar.muli arg14 c512_i32
  let v14 : BitVec 32 := v13
  let v64 : Index := Scalar.indexCast v14
  ![0, v64.toNat]
@[reducible] def k0_t3_loop : Scf.Loop 32 :=
  let c0_i32_10 : BitVec 32 := 0#32
  let c5_i32 : BitVec 32 := 5#32
  let v12 : BitVec 32 := Scalar.addi c0_i32_10 c5_i32
  let c1_i32_11 : BitVec 32 := 1#32
  ⟨c0_i32_10, v12, c1_i32_11⟩
def k0_mult3 (k0_t3 : Fin k0_t3_loop.trips) : BitVec 32 :=
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  v13
def k0_off7 (k0_t3 : Fin k0_t3_loop.trips) : Fin 3 → Nat :=
  let c0_15 : Index := 0#32
  let c0_16 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v17 : Index := Scalar.indexCast v14
  ![0, 0, v17.toNat]
def k0_off8 (k0_t3 : Fin k0_t3_loop.trips) : Fin 2 → Nat :=
  let c0_18 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v21 : Index := Scalar.indexCast v14
  ![0, v21.toNat]
def k0_off9 (k0_t3 : Fin k0_t3_loop.trips) : Fin 2 → Nat :=
  let c0_19 : Index := 0#32
  let c0_i32_10 : BitVec 32 := 0#32
  let c1_i32_11 : BitVec 32 := 1#32
  let arg14 : BitVec 32 := Scf.iv c0_i32_10 c1_i32_11 k0_t3
  let c256_i32 : BitVec 32 := 256#32
  let v13 : BitVec 32 := Scalar.muli arg14 c256_i32
  let v14 : BitVec 32 := v13
  let v23 : Index := Scalar.indexCast v14
  ![0, v23.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1280 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S16384x5120 : Shape := ⟨2, ![16384, 5120]⟩
abbrev S1x1 : Shape := ⟨2, ![1, 1]⟩
abbrev S1x1280 : Shape := ⟨2, ![1, 1280]⟩
abbrev S1280 : Shape := ⟨1, ![1280]⟩
abbrev S16384 : Shape := ⟨1, ![16384]⟩
abbrev S16384x1 : Shape := ⟨2, ![16384, 1]⟩
abbrev S1x1280x10240 : Shape := ⟨3, ![1, 1280, 10240]⟩
abbrev S1280x10240 : Shape := ⟨2, ![1280, 10240]⟩
abbrev S1x10240 : Shape := ⟨2, ![1, 10240]⟩
abbrev S10240 : Shape := ⟨1, ![10240]⟩
abbrev S16384x10240 : Shape := ⟨2, ![16384, 10240]⟩
abbrev S1x5120x1280 : Shape := ⟨3, ![1, 5120, 1280]⟩
abbrev S5120x1280 : Shape := ⟨2, ![5120, 1280]⟩

abbrev nBuf : Space → Nat
  | .hbm => 13
  | .vmem => 12
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .hbm, ⟨11, _⟩ => ⟨S16384x1280, .fp8e4m3⟩
  | .hbm, ⟨12, _⟩ => ⟨S16384x5120, .fp8e4m3⟩
  | .local _ .vmem, ⟨0, _⟩ => ⟨S16384x1280, .f32⟩
  | .local _ .vmem, ⟨1, _⟩ => ⟨S4x1280x10240, .fp8e4m3⟩
  | .local _ .vmem, ⟨2, _⟩ => ⟨S4x10240, .f32⟩
  | .local _ .vmem, ⟨3, _⟩ => ⟨S4x10240, .f32⟩
  | .local _ .vmem, ⟨4, _⟩ => ⟨S4x5120x1280, .fp8e4m3⟩
  | .local _ .vmem, ⟨5, _⟩ => ⟨S4x1280, .f32⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S16384x1280, .f32⟩
  | .local _ .vmem, ⟨10, _⟩ => ⟨S16384x1280, .fp8e4m3⟩
  | .local _ .vmem, ⟨11, _⟩ => ⟨S16384x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x1280 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16384x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Kernel1.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]
@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩
def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16
def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]
def k0_off3 (k0_t2 : Fin k0_t2_loop.trips) : Fin 2 → Nat :=
  let c1_18 : Index := 1#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![1, v23.toNat]
def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]
def k0_off5 (k0_t2 : Fin k0_t2_loop.trips) : Fin 2 → Nat :=
  let c1_26 : Index := 1#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![1, v45.toNat]
def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]
@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩
def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13
def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]
def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]
def k0_off9 (k0_t3 : Fin k0_t3_loop.trips) : Fin 2 → Nat :=
  let c1_18 : Index := 1#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![1, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel1Ideal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]
@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩
def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16
def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]
def k0_off3 (k0_t2 : Fin k0_t2_loop.trips) : Fin 2 → Nat :=
  let c1_18 : Index := 1#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![1, v23.toNat]
def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]
def k0_off5 (k0_t2 : Fin k0_t2_loop.trips) : Fin 2 → Nat :=
  let c1_26 : Index := 1#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![1, v45.toNat]
def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]
@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩
def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13
def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]
def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]
def k0_off9 (k0_t3 : Fin k0_t3_loop.trips) : Fin 2 → Nat :=
  let c1_18 : Index := 1#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![1, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference1Ideal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x1 : Shape := ⟨2, ![1, 1]⟩
abbrev S1x1280 : Shape := ⟨2, ![1, 1280]⟩
abbrev S1280 : Shape := ⟨1, ![1280]⟩
abbrev S16384 : Shape := ⟨1, ![16384]⟩
abbrev S16384x1 : Shape := ⟨2, ![16384, 1]⟩
abbrev S1x1280x10240 : Shape := ⟨3, ![1, 1280, 10240]⟩
abbrev S1280x10240 : Shape := ⟨2, ![1280, 10240]⟩
abbrev S1x10240 : Shape := ⟨2, ![1, 10240]⟩
abbrev S10240 : Shape := ⟨1, ![10240]⟩
abbrev S16384x10240 : Shape := ⟨2, ![16384, 10240]⟩
abbrev S16384x5120 : Shape := ⟨2, ![16384, 5120]⟩
abbrev S1x5120x1280 : Shape := ⟨3, ![1, 5120, 1280]⟩
abbrev S5120x1280 : Shape := ⟨2, ![5120, 1280]⟩

abbrev nBuf : Space → Nat
  | .hbm => 11
  | .vmem => 10
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S16384x1280, .f32⟩
  | .local _ .vmem, ⟨1, _⟩ => ⟨S4x1280x10240, .fp8e4m3⟩
  | .local _ .vmem, ⟨2, _⟩ => ⟨S4x10240, .f32⟩
  | .local _ .vmem, ⟨3, _⟩ => ⟨S4x10240, .f32⟩
  | .local _ .vmem, ⟨4, _⟩ => ⟨S4x5120x1280, .fp8e4m3⟩
  | .local _ .vmem, ⟨5, _⟩ => ⟨S4x1280, .f32⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S16384x1280, .f32⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel2.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]
@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩
def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16
def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]
def k0_off3 (k0_t2 : Fin k0_t2_loop.trips) : Fin 2 → Nat :=
  let c2_18 : Index := 2#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![2, v23.toNat]
def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]
def k0_off5 (k0_t2 : Fin k0_t2_loop.trips) : Fin 2 → Nat :=
  let c2_26 : Index := 2#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![2, v45.toNat]
def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]
@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩
def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13
def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]
def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]
def k0_off9 (k0_t3 : Fin k0_t3_loop.trips) : Fin 2 → Nat :=
  let c2_18 : Index := 2#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![2, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]
@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩
def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16
def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]
def k0_off3 (k0_t2 : Fin k0_t2_loop.trips) : Fin 2 → Nat :=
  let c2_18 : Index := 2#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![2, v23.toNat]
def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]
def k0_off5 (k0_t2 : Fin k0_t2_loop.trips) : Fin 2 → Nat :=
  let c2_26 : Index := 2#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![2, v45.toNat]
def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]
@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩
def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13
def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]
def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]
def k0_off9 (k0_t3 : Fin k0_t3_loop.trips) : Fin 2 → Nat :=
  let c2_18 : Index := 2#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![2, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x1 : Shape := ⟨2, ![1, 1]⟩
abbrev S1x1280 : Shape := ⟨2, ![1, 1280]⟩
abbrev S1280 : Shape := ⟨1, ![1280]⟩
abbrev S16384 : Shape := ⟨1, ![16384]⟩
abbrev S16384x1 : Shape := ⟨2, ![16384, 1]⟩
abbrev S1x1280x10240 : Shape := ⟨3, ![1, 1280, 10240]⟩
abbrev S1280x10240 : Shape := ⟨2, ![1280, 10240]⟩
abbrev S1x10240 : Shape := ⟨2, ![1, 10240]⟩
abbrev S10240 : Shape := ⟨1, ![10240]⟩
abbrev S16384x10240 : Shape := ⟨2, ![16384, 10240]⟩
abbrev S16384x5120 : Shape := ⟨2, ![16384, 5120]⟩
abbrev S1x5120x1280 : Shape := ⟨3, ![1, 5120, 1280]⟩
abbrev S5120x1280 : Shape := ⟨2, ![5120, 1280]⟩

abbrev nBuf : Space → Nat
  | .hbm => 11
  | .vmem => 10
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S16384x1280, .f32⟩
  | .local _ .vmem, ⟨1, _⟩ => ⟨S4x1280x10240, .fp8e4m3⟩
  | .local _ .vmem, ⟨2, _⟩ => ⟨S4x10240, .f32⟩
  | .local _ .vmem, ⟨3, _⟩ => ⟨S4x10240, .f32⟩
  | .local _ .vmem, ⟨4, _⟩ => ⟨S4x5120x1280, .fp8e4m3⟩
  | .local _ .vmem, ⟨5, _⟩ => ⟨S4x1280, .f32⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S16384x1280, .f32⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel3.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]
@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩
def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13
def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16
def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]
def k0_off3 (k0_t2 : Fin k0_t2_loop.trips) : Fin 2 → Nat :=
  let c3_18 : Index := 3#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![3, v23.toNat]
def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]
def k0_off5 (k0_t2 : Fin k0_t2_loop.trips) : Fin 2 → Nat :=
  let c3_26 : Index := 3#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![3, v45.toNat]
def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]
@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩
def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13
def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]
def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]
def k0_off9 (k0_t3 : Fin k0_t3_loop.trips) : Fin 2 → Nat :=
  let c3_18 : Index := 3#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![3, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S1x1 : Shape := ⟨2, ![1, 1]⟩
abbrev S1x1280 : Shape := ⟨2, ![1, 1280]⟩
abbrev S1280 : Shape := ⟨1, ![1280]⟩
abbrev S16384 : Shape := ⟨1, ![16384]⟩
abbrev S16384x1 : Shape := ⟨2, ![16384, 1]⟩
abbrev S1x1280x10240 : Shape := ⟨3, ![1, 1280, 10240]⟩
abbrev S1280x10240 : Shape := ⟨2, ![1280, 10240]⟩
abbrev S1x10240 : Shape := ⟨2, ![1, 10240]⟩
abbrev S10240 : Shape := ⟨1, ![10240]⟩
abbrev S16384x10240 : Shape := ⟨2, ![16384, 10240]⟩
abbrev S16384x5120 : Shape := ⟨2, ![16384, 5120]⟩
abbrev S1x5120x1280 : Shape := ⟨3, ![1, 5120, 1280]⟩
abbrev S5120x1280 : Shape := ⟨2, ![5120, 1280]⟩

abbrev nBuf : Space → Nat
  | .hbm => 11
  | .vmem => 10
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S16384x1280, .f32⟩
  | .local _ .vmem, ⟨1, _⟩ => ⟨S4x1280x10240, .fp8e4m3⟩
  | .local _ .vmem, ⟨2, _⟩ => ⟨S4x10240, .f32⟩
  | .local _ .vmem, ⟨3, _⟩ => ⟨S4x10240, .f32⟩
  | .local _ .vmem, ⟨4, _⟩ => ⟨S4x5120x1280, .fp8e4m3⟩
  | .local _ .vmem, ⟨5, _⟩ => ⟨S4x1280, .f32⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S16384x1280, .f32⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelOut.lean ====
abbrev S2 : Shape := ⟨1, ![2]⟩
abbrev S16384x1280 : Shape := ⟨2, ![16384, 1280]⟩
abbrev S1280x1280 : Shape := ⟨2, ![1280, 1280]⟩
abbrev S1280 : Shape := ⟨1, ![1280]⟩
abbrev S1x1280 : Shape := ⟨2, ![1, 1280]⟩
abbrev S1024x1280 : Shape := ⟨2, ![1024, 1280]⟩
abbrev S1 : Shape := ⟨1, ![1]⟩
abbrev S1280x256 : Shape := ⟨2, ![1280, 256]⟩
abbrev S1024x256 : Shape := ⟨2, ![1024, 256]⟩
abbrev S1x256 : Shape := ⟨2, ![1, 256]⟩

abbrev nBuf : Space → Nat
  | .hbm => 10
  | .vmem => 11
  | .smem => 1
  | _ => 0

abbrev bufTy : (tb : Table) → Fin (tcTables nBuf tb) → BufTy
  | .hbm, ⟨0, _⟩ => ⟨S2, .f32⟩
  | .hbm, ⟨1, _⟩ => ⟨S16384x1280, .f32⟩
  | .hbm, ⟨2, _⟩ => ⟨S16384x1280, .bf16⟩
  | .hbm, ⟨3, _⟩ => ⟨S1280x1280, .fp8e4m3⟩
  | .hbm, ⟨4, _⟩ => ⟨S1280, .f32⟩
  | .hbm, ⟨5, _⟩ => ⟨S1280, .f32⟩
  | .hbm, ⟨6, _⟩ => ⟨S1x1280, .f32⟩
  | .hbm, ⟨7, _⟩ => ⟨S1x1280, .f32⟩
  | .hbm, ⟨8, _⟩ => ⟨S16384x1280, .bf16⟩
  | .hbm, ⟨9, _⟩ => ⟨S16384x1280, .fp8e4m3⟩
  | .local _ .vmem, ⟨0, _⟩ => ⟨S1024x1280, .f32⟩
  | .local _ .vmem, ⟨1, _⟩ => ⟨S1024x1280, .f32⟩
  | .local _ .vmem, ⟨2, _⟩ => ⟨S1024x1280, .bf16⟩
  | .local _ .vmem, ⟨3, _⟩ => ⟨S1024x1280, .bf16⟩
  | .local _ .vmem, ⟨4, _⟩ => ⟨S1280x1280, .fp8e4m3⟩
  | .local _ .vmem, ⟨5, _⟩ => ⟨S1x1280, .f32⟩
  | .local _ .vmem, ⟨6, _⟩ => ⟨S1x1280, .f32⟩
  | .local _ .vmem, ⟨7, _⟩ => ⟨S1024x1280, .bf16⟩
  | .local _ .vmem, ⟨8, _⟩ => ⟨S1024x1280, .bf16⟩
  | .local _ .vmem, ⟨9, _⟩ => ⟨S1024x1280, .fp8e4m3⟩
  | .local _ .vmem, ⟨10, _⟩ => ⟨S1024x1280, .fp8e4m3⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c5_i32 : BitVec 32 := 5#32
  let v13 : BitVec 32 := Scalar.addi c0_i32 c5_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v14 : BitVec 32 := Scalar.muli arg9 c256_i32
  v14
def k0_off1 (k0_t1 : Fin k0_t1_loop.trips) : Fin 2 → Nat :=
  let c0_8 : Index := 0#32
  let c0_i32 : BitVec 32 := 0#32
  let c1_i32 : BitVec 32 := 1#32
  let arg9 : BitVec 32 := Scf.iv c0_i32 c1_i32 k0_t1
  let c256_i32 : BitVec 32 := 256#32
  let v14 : BitVec 32 := Scalar.muli arg9 c256_i32
  let v15 : BitVec 32 := v14
  let v18 : Index := Scalar.indexCast v15
  ![0, v18.toNat]
def k0_off2 (k0_t1 : Fin k0_t1_loop.trips) : Fin 2 → Nat :=
  let c0_10 : Index := 0#32
  let c0_i32 : BitVec 32 := 0#32
  let c1_i32 : BitVec 32 := 1#32
  let arg9 : BitVec 32 := Scf.iv c0_i32 c1_i32 k0_t1
  let c256_i32 : BitVec 32 := 256#32
  let v14 : BitVec 32 := Scalar.muli arg9 c256_i32
  let v15 : BitVec 32 := v14
  let v21 : Index := Scalar.indexCast v15
  ![0, v21.toNat]
def k0_off3 (k0_t1 : Fin k0_t1_loop.trips) : Fin 2 → Nat :=
  let c0_12 : Index := 0#32
  let c0_i32 : BitVec 32 := 0#32
  let c1_i32 : BitVec 32 := 1#32
  let arg9 : BitVec 32 := Scf.iv c0_i32 c1_i32 k0_t1
  let c256_i32 : BitVec 32 := 256#32
  let v14 : BitVec 32 := Scalar.muli arg9 c256_i32
  let v15 : BitVec 32 := v14
  let v33 : Index := Scalar.indexCast v15
  ![0, v33.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S2 : Shape := ⟨1, ![2]⟩
abbrev S16384x1280 : Shape := ⟨2, ![16384, 1280]⟩
abbrev S1280x1280 : Shape := ⟨2, ![1280, 1280]⟩
abbrev S1280 : Shape := ⟨1, ![1280]⟩
abbrev S1 : Shape := ⟨1, ![1]⟩
abbrev S1x1280 : Shape := ⟨2, ![1, 1280]⟩

abbrev nBuf : Space → Nat
  | .hbm => 8
  | .vmem => 7
  | .smem => 1
  | _ => 0

abbrev bufTy : (tb : Table) → Fin (tcTables nBuf tb) → BufTy
  | .hbm, ⟨0, _⟩ => ⟨S2, .f32⟩
  | .hbm, ⟨1, _⟩ => ⟨S16384x1280, .f32⟩
  | .hbm, ⟨2, _⟩ => ⟨S16384x1280, .bf16⟩
  | .hbm, ⟨3, _⟩ => ⟨S1280x1280, .fp8e4m3⟩
  | .hbm, ⟨4, _⟩ => ⟨S1280, .f32⟩
  | .hbm, ⟨5, _⟩ => ⟨S1280, .f32⟩
  | .hbm, ⟨6, _⟩ => ⟨S16384x1280, .bf16⟩
  | .hbm, ⟨7, _⟩ => ⟨S16384x1280, .fp8e4m3⟩
  | .local _ .vmem, ⟨0, _⟩ => ⟨S16384x1280, .f32⟩
  | .local _ .vmem, ⟨1, _⟩ => ⟨S16384x1280, .bf16⟩
  | .local _ .vmem, ⟨2, _⟩ => ⟨S1280x1280, .fp8e4m3⟩
  | .local _ .vmem, ⟨3, _⟩ => ⟨S1280, .f32⟩
  | .local _ .vmem, ⟨4, _⟩ => ⟨S1280, .f32⟩
  | .local _ .vmem, ⟨5, _⟩ => ⟨S16384x1280, .bf16⟩
  | .local _ .vmem, ⟨6, _⟩ => ⟨S16384x1280, .fp8e4m3⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelText.lean ====
abbrev S_ : Shape := ⟨0, ![]⟩
abbrev S1280x2048 : Shape := ⟨2, ![1280, 2048]⟩
abbrev S4x2048x2560 : Shape := ⟨3, ![4, 2048, 2560]⟩
abbrev S4x2560 : Shape := ⟨2, ![4, 2560]⟩
abbrev S1 : Shape := ⟨1, ![1]⟩
abbrev S4x1x2560 : Shape := ⟨3, ![4, 1, 2560]⟩
abbrev S4x1280x2560 : Shape := ⟨3, ![4, 1280, 2560]⟩
abbrev S1x2048x2560 : Shape := ⟨3, ![1, 2048, 2560]⟩
abbrev S1x1x2560 : Shape := ⟨3, ![1, 1, 2560]⟩
abbrev S1x1280x2560 : Shape := ⟨3, ![1, 1280, 2560]⟩
abbrev S1x2048x256 : Shape := ⟨3, ![1, 2048, 256]⟩
abbrev S2048x256 : Shape := ⟨2, ![2048, 256]⟩
abbrev S1280x256 : Shape := ⟨2, ![1280, 256]⟩
abbrev S1x1x256 : Shape := ⟨3, ![1, 1, 256]⟩
abbrev S1x256 : Shape := ⟨2, ![1, 256]⟩
abbrev S1x1280x256 : Shape := ⟨3, ![1, 1280, 256]⟩

abbrev nBuf : Space → Nat
  | .hbm => 7
  | .vmem => 7
  | .smem => 1
  | _ => 0

abbrev bufTy : (tb : Table) → Fin (tcTables nBuf tb) → BufTy
  | .hbm, ⟨0, _⟩ => ⟨S_, .f32⟩
  | .hbm, ⟨1, _⟩ => ⟨S1280x2048, .fp8e4m3⟩
  | .hbm, ⟨2, _⟩ => ⟨S4x2048x2560, .fp8e4m3⟩
  | .hbm, ⟨3, _⟩ => ⟨S4x2560, .f32⟩
  | .hbm, ⟨4, _⟩ => ⟨S1, .f32⟩
  | .hbm, ⟨5, _⟩ => ⟨S4x1x2560, .f32⟩
  | .hbm, ⟨6, _⟩ => ⟨S4x1280x2560, .bf16⟩
  | .local _ .vmem, ⟨0, _⟩ => ⟨S1280x2048, .fp8e4m3⟩
  | .local _ .vmem, ⟨1, _⟩ => ⟨S1x2048x2560, .fp8e4m3⟩
  | .local _ .vmem, ⟨2, _⟩ => ⟨S1x2048x2560, .fp8e4m3⟩
  | .local _ .vmem, ⟨3, _⟩ => ⟨S1x1x2560, .f32⟩
  | .local _ .vmem, ⟨4, _⟩ => ⟨S1x1x2560, .f32⟩
  | .local _ .vmem, ⟨5, _⟩ => ⟨S1x1280x2560, .bf16⟩
  | .local _ .vmem, ⟨6, _⟩ => ⟨S1x1280x2560, .bf16⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c10_i32 : BitVec 32 := 10#32
  let v1 : BitVec 32 := Scalar.addi c0_i32 c10_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  v2
def k0_off1 (k0_t1 : Fin k0_t1_loop.trips) : Fin 3 → Nat :=
  let c0_3 : Index := 0#32
  let c0_4 : Index := 0#32
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v3 : BitVec 32 := v2
  let v5 : Index := Scalar.indexCast v3
  ![0, 0, v5.toNat]
def k0_off2 (k0_t1 : Fin k0_t1_loop.trips) : Fin 3 → Nat :=
  let c0_5 : Index := 0#32
  let c0_6 : Index := 0#32
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v3 : BitVec 32 := v2
  let v9 : Index := Scalar.indexCast v3
  ![0, 0, v9.toNat]
def k0_off3 (k0_t1 : Fin k0_t1_loop.trips) : Fin 3 → Nat :=
  let c0_7 : Index := 0#32
  let c0_8 : Index := 0#32
  let c0_i32 : BitVec 32 := 0#32
  let c1_i32 : BitVec 32 := 1#32
  let arg6 : BitVec 32 := Scf.iv c0_i32 c1_i32 k0_t1
  let c256_i32 : BitVec 32 := 256#32
  let v2 : BitVec 32 := Scalar.muli arg6 c256_i32
  let v3 : BitVec 32 := v2
  let v17 : Index := Scalar.indexCast v3
  ![0, 0, v17.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceTextIdeal.lean ====
abbrev S_ : Shape := ⟨0, ![]⟩
abbrev S1280x2048 : Shape := ⟨2, ![1280, 2048]⟩
abbrev S4x2048x2560 : Shape := ⟨3, ![4, 2048, 2560]⟩
abbrev S4x2560 : Shape := ⟨2, ![4, 2560]⟩
abbrev S1 : Shape := ⟨1, ![1]⟩
abbrev S4x1x2560 : Shape := ⟨3, ![4, 1, 2560]⟩
abbrev S4x1280x2560 : Shape := ⟨3, ![4, 1280, 2560]⟩
abbrev S1x2048x2560 : Shape := ⟨3, ![1, 2048, 2560]⟩
abbrev S1x1x2560 : Shape := ⟨3, ![1, 1, 2560]⟩
abbrev S1x1280x2560 : Shape := ⟨3, ![1, 1280, 2560]⟩
abbrev S2048x2560 : Shape := ⟨2, ![2048, 2560]⟩
abbrev S1x2560 : Shape := ⟨2, ![1, 2560]⟩
abbrev S1280x2560 : Shape := ⟨2, ![1280, 2560]⟩

abbrev nBuf : Space → Nat
  | .hbm => 7
  | .vmem => 7
  | .smem => 1
  | _ => 0

abbrev bufTy : (tb : Table) → Fin (tcTables nBuf tb) → BufTy
  | .hbm, ⟨0, _⟩ => ⟨S_, .f32⟩
  | .hbm, ⟨1, _⟩ => ⟨S1280x2048, .fp8e4m3⟩
  | .hbm, ⟨2, _⟩ => ⟨S4x2048x2560, .fp8e4m3⟩
  | .hbm, ⟨3, _⟩ => ⟨S4x2560, .f32⟩
  | .hbm, ⟨4, _⟩ => ⟨S1, .f32⟩
  | .hbm, ⟨5, _⟩ => ⟨S4x1x2560, .f32⟩
  | .hbm, ⟨6, _⟩ => ⟨S4x1280x2560, .bf16⟩
  | .local _ .vmem, ⟨0, _⟩ => ⟨S1280x2048, .fp8e4m3⟩
  | .local _ .vmem, ⟨1, _⟩ => ⟨S1x2048x2560, .fp8e4m3⟩
  | .local _ .vmem, ⟨2, _⟩ => ⟨S1x2048x2560, .fp8e4m3⟩
  | .local _ .vmem, ⟨3, _⟩ => ⟨S1x1x2560, .f32⟩
  | .local _ .vmem, ⟨4, _⟩ => ⟨S1x1x2560, .f32⟩
  | .local _ .vmem, ⟨5, _⟩ => ⟨S1x1280x2560, .bf16⟩
  | .local _ .vmem, ⟨6, _⟩ => ⟨S1x1280x2560, .bf16⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.Math.lean ====
/-
  The arithmetic of the kernel and of the reference on the extended reals, with no program in it: the layer norm of a
  row, the quantiser, one quantised linear layer, the GELU — each as the reference writes it — and, for each, the lemma
  that the kernel's spelling (a product with a reciprocal, a reciprocal square root, `1 + erf`) is the same number.
-/
module

public import Idealize.ShloMosaic.PureOps.Ideal
public import Idealize.ShloMosaic.PureOps.Ideal.Laws

@[expose] public section

noncomputable section

namespace Cert.Math

open Idealize.ShloMosaic

/-- The largest finite code of the 8-bit format, `448`. -/
abbrev hi : EReal := Ideal.ofBits .f32 0x43E00000#32
/-- Its negative, `-448`. -/
abbrev lo : EReal := Ideal.ofBits .f32 0xC3E00000#32
/-- The length of a row, `1280`, as the programs write it. -/
abbrev rowLen : EReal := Ideal.ofBits .f32 0x44A00000#32
/-- The variance's guard of the layer norm, `f32(1e-5)`. -/
abbrev eps : EReal := Ideal.ofBits .f32 0x3727C5AC#32
/-- `f32(1/2)`. -/
abbrev half : EReal := Ideal.ofBits .f32 0x3F000000#32
/-- `f32(√(1/2))`. -/
abbrev rootHalf : EReal := Ideal.ofBits .f32 0x3F3504F3#32

theorem rowLen_eq : rowLen = ((1280 : ℝ) : EReal) := by
  simp [Ideal.ofBits, Ideal.ieee, -EReal.coe_mul]; norm_num

theorem eps_eq : eps = ((10995116 * (2 : ℝ) ^ (-40 : ℤ) : ℝ) : EReal) := by
  simp [Ideal.ofBits, Ideal.ieee, -EReal.coe_mul]

theorem eps_pos : 0 < eps := by
  rw [eps_eq]; exact EReal.coe_pos.mpr (by positivity)

/-- The reference's quantiser of one number by a scale: the quotient, cut to the format's range. -/
def quant (v s : EReal) : EReal := min hi (max lo (Ideal.div v s))

/-- The kernel multiplies by the scale's reciprocal: off a zero scale that is the same code. -/
theorem quant_of_mul {s : EReal} (hs : s ≠ 0) (v : EReal) :
    min hi (max lo (v * Ideal.div 1 s)) = quant v s := by
  unfold quant Ideal.div
  simp only [hs, if_false, one_mul]

/-- The mean of a row. -/
def mean (x : Fin 1280 → EReal) : EReal := Ideal.div (∑ k, x k) rowLen

/-- A row less its mean. -/
def centred (x : Fin 1280 → EReal) (k : Fin 1280) : EReal := x k - mean x

/-- The variance of a row, guarded from zero. -/
def variance (x : Fin 1280 → EReal) : EReal := mean (fun k => centred x k * centred x k) + eps

/-- The layer norm of a row at a place, with the place's gain and offset. -/
def layerNorm (x : Fin 1280 → EReal) (g b : EReal) (k : Fin 1280) : EReal :=
  Ideal.div (centred x k) (Ideal.sqrt (variance x)) * g + b

theorem mul_self_nonneg' (x : EReal) : 0 ≤ x * x := by
  rcases le_total 0 x with h | h
  · exact mul_nonneg h h
  · have h' : 0 ≤ -x := by rwa [EReal.neg_nonneg]
    have := mul_nonneg h' h'
    rwa [neg_mul_neg] at this

theorem variance_pos (x : Fin 1280 → EReal) : 0 < variance x := by
  unfold variance mean
  rw [rowLen_eq, Ideal.div_coe (by norm_num)]
  refine lt_of_lt_of_le eps_pos (le_add_of_nonneg_left (mul_nonneg (Finset.sum_nonneg fun k _ => mul_self_nonneg' _) ?_))
  exact EReal.coe_nonneg.mpr (by norm_num)

/-- Dividing by the root of a positive number is multiplying by its reciprocal root. -/
theorem div_sqrt {v : EReal} (hv : 0 < v) (c : EReal) : c * Ideal.rsqrt v = Ideal.div c (Ideal.sqrt v) := by
  induction v with
  | bot => simp at hv
  | top =>
    have h : (⊤ : EReal) ≠ 0 := by simp
    show c * (0 : EReal) = Ideal.div c ⊤
    simp [Ideal.div]
  | coe r =>
    have hr : 0 < r := EReal.coe_pos.mp hv
    have hs : (Real.sqrt r) ≠ 0 := (Real.sqrt_pos.mpr hr).ne'
    rw [Ideal.sqrt_coe, if_neg (not_lt.mpr hr.le), Ideal.div_coe hs]
    show c * (if r < 0 then (⊥ : EReal) else if r = 0 then ⊤ else ((Real.sqrt r)⁻¹ : ℝ)) = _
    rw [if_neg (not_lt.mpr hr.le), if_neg hr.ne', one_div]

/-- The kernel's layer norm, by the reciprocal root. -/
theorem layerNorm_of_rsqrt (x : Fin 1280 → EReal) (g b : EReal) (k : Fin 1280) :
    centred x k * Ideal.rsqrt (variance x) * g + b = layerNorm x g b k := by
  rw [layerNorm, div_sqrt (variance_pos x)]

/-- One output of a quantised linear layer: the product of the codes, times the two scales, plus the bias. -/
def linear {n : ℕ} (x w : Fin n → EReal) (s ws b : EReal) : EReal := (∑ k, x k * w k) * (s * ws) + b

/-- The reference's GELU: `y/2 · (1 - erf (-y·√½))`. -/
def gelu (y : EReal) : EReal := half * y * (1 - Ideal.erf ((0 - y) * rootHalf))

/-- The kernel's GELU, `y/2 · (1 + erf (y·√½))`: the error function is odd. -/
theorem gelu_of_add (y : EReal) : half * y * (1 + Ideal.erf (y * rootHalf)) = gelu y := by
  unfold gelu
  rw [zero_sub, neg_mul, Ideal.erf_neg, sub_eq_add_neg, neg_neg]

/-! ## The feed-forward layer, one row at a time -/

/-- The codes of a row's layer norm. -/
def ffIn (s : EReal) (h g b : Fin 1280 → EReal) (d : Fin 1280) : EReal := quant (layerNorm h (g d) (b d) d) s

/-- The column of the first product that carries the value of hidden unit `j`. -/
def valueCol (j : Fin 5120) : Fin 10240 := ⟨j.val, by omega⟩

/-- The column of the first product that carries the gate of hidden unit `j`. -/
def gateCol (j : Fin 5120) : Fin 10240 := ⟨5120 + j.val, by omega⟩

/-- The codes of the hidden row: the first layer's value half times the GELU of its gate half, quantised by `s'`. -/
def ffMid (s s' : EReal) (x : Fin 1280 → EReal) (w : Fin 1280 → Fin 10240 → EReal) (ws b : Fin 10240 → EReal)
    (j : Fin 5120) : EReal :=
  quant (linear x (fun k => w k (valueCol j)) s (ws (valueCol j)) (b (valueCol j))
    * gelu (linear x (fun k => w k (gateCol j)) s (ws (gateCol j)) (b (gateCol j)))) s'

/-- The row the layer returns: its input plus the second layer of the hidden codes. -/
def ffOut (s' : EReal) (t : Fin 5120 → EReal) (w : Fin 5120 → Fin 1280 → EReal) (ws b h : Fin 1280 → EReal)
    (d : Fin 1280) : EReal :=
  h d + linear t (fun k => w k d) s' (ws d) (b d)

end Cert.Math
-- ==== Proof.Spec.lean ====
/-
  The three results as functions of the arguments' arrays: the feed-forward's rows (Math.lean) of whole arrays.
  `k` is the number of the transformer block: its row of the tables, its matrix of the weights.
  `a0` the scales of the quantisers, `a1` the rows, `a2 a3 a4` the first product's weights, their scales and the bias,
  `a5 a6 a7` the second's, `a8 a9` the layer norm's gain and bias.
-/
module

public import proofs.«01_k».proof.Proof.Math
public import Idealize.ShloMosaic.Lib.Pipeline.ValueKit

@[expose] public section

noncomputable section

namespace Cert.Math

open Idealize.ShloMosaic

/-- The arrays' type: `n0` rows of `n1`. -/
abbrev Arr2 (n0 n1 : ℕ) : Type := (⟨2, ![n0, n1]⟩ : Shape).Idx → EReal
/-- The weights' type: `n0` matrices. -/
abbrev Arr3 (n0 n1 n2 : ℕ) : Type := (⟨3, ![n0, n1, n2]⟩ : Shape).Idx → EReal

/-- The layer norm's codes of every row. -/
def inAll (k : Fin 4) (a0 : Arr2 4 6) (a1 : Arr2 16384 1280) (a8 a9 : Arr2 4 1280) (r : Fin 16384) : Fin 1280 → EReal :=
  ffIn (a0 (ix2 k 4)) (fun d => a1 (ix2 r d)) (fun d => a8 (ix2 k d)) (fun d => a9 (ix2 k d))

/-- The hidden units' codes of every row. -/
def midAll (k : Fin 4) (a0 : Arr2 4 6) (a1 : Arr2 16384 1280) (a2 : Arr3 4 1280 10240) (a3 a4 : Arr2 4 10240) (a8 a9 : Arr2 4 1280)
    (r : Fin 16384) : Fin 5120 → EReal :=
  ffMid (a0 (ix2 k 4)) (a0 (ix2 k 5)) (inAll k a0 a1 a8 a9 r) (fun d j => a2 (ix3 k d j)) (fun j => a3 (ix2 k j)) (fun j => a4 (ix2 k j))

/-- Every row of the sum returned. -/
def outAll (k : Fin 4) (a0 : Arr2 4 6) (a1 : Arr2 16384 1280) (a2 : Arr3 4 1280 10240) (a3 a4 : Arr2 4 10240) (a5 : Arr3 4 5120 1280)
    (a6 a7 a8 a9 : Arr2 4 1280) (r : Fin 16384) : Fin 1280 → EReal :=
  ffOut (a0 (ix2 k 5)) (midAll k a0 a1 a2 a3 a4 a8 a9 r) (fun j d => a5 (ix3 k j d)) (fun d => a6 (ix2 k d)) (fun d => a7 (ix2 k d))
    (fun d => a1 (ix2 r d))

end Cert.Math

end
-- ==== Proof.Codes.lean ====
/-
  What one grid step's block of each output holds, as functions of the inputs' blocks, and lemmas on loads and stores:
  shared by the calls of every transformer block.  `k` is the block's number: its row of the tables.
-/
module

public import proofs.«01_k».proof.Proof.Spec
public import Idealize.ShloMosaic.Lib.Pipeline.FrameBody
public import Idealize.ShloMosaic.Lib.Ring
public import Idealize.ShloMosaic.Lib.Tactic

@[expose] public section

set_option maxRecDepth 16384

noncomputable section

namespace Cert.Math

open Idealize.ShloMosaic Idealize.ShloMosaic.TcCoe Idealize.SL.Sem

/-- A whole memref's contents after writes that tile it: a function of the writes alone. -/
theorem writes_whole {F : FTy → Type} [FloatOps F] {sig : RefSig} {sp : Space} {s : Shape} {e : EltTy} {a : Memref sig .tc sp s e} (ha : a.IsWhole) (size : Fin s.rank → ℕ)
    (f : a.view.ty.Contents (Elt F)) (L : List (View.Piece (Elt F) s e)) (h : View.Piece.tiledL L size = true) :
    a.view.writes (Elt F) f L = ha.unread (View.canon L) :=
  ha.eq_unread (View.read_writes_eq_canon _ _ _ (View.cover_of_tiledL L size h))

/-- The layer norm's codes of a block of rows. -/
def codesIn (s : EReal) (x1 : Arr2 512 1280) (g b : Fin 1280 → EReal) : Arr2 512 1280 :=
  fun y => ffIn s (fun d => x1 (ix2 (y 0) d)) g b (y 1)

/-- The hidden units' codes of a block of rows. -/
def codesMid (k : Fin 4) (s s' : EReal) (x : Arr2 512 1280) (w : Arr3 1 1280 10240)
    (ws b : Arr2 4 10240) : Arr2 512 5120 :=
  fun y => ffMid s s' (fun d => x (ix2 (y 0) d)) (fun d j => w (ix3 0 d j)) (fun j => ws (ix2 k j)) (fun j => b (ix2 k j)) (y 1)

/-- The rows returned of a block of rows. -/
def rowsOut (k : Fin 4) (s' : EReal) (t : Arr2 512 5120) (w : Arr3 1 5120 1280)
    (ws b : Arr2 4 1280) (x1 : Arr2 512 1280) : Arr2 512 1280 :=
  fun y => ffOut s' (fun j => t (ix2 (y 0) j)) (fun j d => w (ix3 0 j d)) (fun d => ws (ix2 k d)) (fun d => b (ix2 k d))
    (fun d => x1 (ix2 (y 0) d)) (y 1)

/-- A load at a row and a column reads the array at the row and the column the load's offsets give. -/
theorem ld2 {A B a b : ℕ} {e : EltTy} (X : (⟨2, ![A, B]⟩ : Shape).Idx → Elt Ideal e) (off : Fin 2 → ℕ)
    (inb : ∀ x, off x + (![a, b] : Fin 2 → ℕ) x ≤ (⟨2, ![A, B]⟩ : Shape).size x) (r : Fin a) (d : Fin b) (r' : Fin A) (d' : Fin B)
    (h0 : r'.val = off 0 + r.val) (h1 : d'.val = off 1 + d.val) :
    View.ld X (Rect.unit off ![a, b] inb) (ix2 r d) = X (ix2 r' d') :=
  View.ld_unit_apply_of X off ![a, b] inb (ix2 r d) (ix2 r' d') fun x => by
    fin_cases x
    · exact h0
    · exact h1

/-- The same with a leading axis of extent one. -/
theorem ld3 {A B a b : ℕ} {e : EltTy} (X : (⟨3, ![1, A, B]⟩ : Shape).Idx → Elt Ideal e) (off : Fin 3 → ℕ)
    (inb : ∀ x, off x + (![1, a, b] : Fin 3 → ℕ) x ≤ (⟨3, ![1, A, B]⟩ : Shape).size x) (r : Fin a) (d : Fin b) (r' : Fin A) (d' : Fin B)
    (h : off 0 = 0) (h0 : r'.val = off 1 + r.val) (h1 : d'.val = off 2 + d.val) :
    View.ld X (Rect.unit off ![1, a, b] inb) (ix3 0 r d) = X (ix3 0 r' d') :=
  View.ld_unit_apply_of X off ![1, a, b] inb (ix3 0 r d) (ix3 0 r' d') fun x => by
    fin_cases x
    · show 0 = off 0 + 0; omega
    · exact h0
    · exact h1

end Cert.Math

end
-- ==== Proof.Run.lean ====
/-
  One run of the kernel's body at a grid point: from staging memrefs holding the inputs' blocks, it ends with the inputs'
  as they were and each output's memref at what the three loops wrote, a function of the inputs' blocks alone.
  The second loop reads the codes the first loop wrote and the third reads those of the second; each of these buffers is
  tiled by the loop that writes it, so what the next loop reads does not depend on what the buffer held before.
-/
module

public import proofs.«01_k».proof.Proof.Gen.KernelIdeal.Frame.Runs
public import proofs.«01_k».proof.Proof.Codes

@[expose] public section

set_option maxRecDepth 16384

noncomputable section

namespace Cert.KernelIdeal.Block

open Cert.KernelIdeal Cert.KernelIdeal.Gen Cert.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- The pieces the body writes into each output (the rows returned, the layer norm's codes, the hidden units' codes), with
    the proof that the body runs: the inputs' memrefs keep their blocks, each output's holds its pieces. -/
noncomputable def bodyRun (c : Dev nD) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole)
    (x0 : Vec F S4x6 .f32) (x1 : Vec F S512x1280 .f32) (x2 : Vec F S1x1280x10240 .fp8e4m3) (x3 : Vec F S4x10240 .f32) (x4 : Vec F S4x10240 .f32) (x5 : Vec F S1x5120x1280 .fp8e4m3) (x6 : Vec F S4x1280 .f32) (x7 : Vec F S4x1280 .f32) (x8 : Vec F S4x1280 .f32) (x9 : Vec F S4x1280 .f32) :
    Σ' (L10 : List (View.Piece (Elt F) S512x1280 .f32)), Σ' (L11 : List (View.Piece (Elt F) S512x1280 .fp8e4m3)), { L12 : List (View.Piece (Elt F) S512x5120 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (View.canon L10) ∗ owns (c : Thread nD τ) arg12 fullShare (View.canon L11) ∗ owns (c : Thread nD τ) arg13 fullShare (View.canon L12)) -∗ K ⟨⟩))
          ⊢ wp frame (wpE (defs₀ (F := F)) Variants.none c none) E (cc0_ff0 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ff0_eq_skeleton]; unfold cc0_ff0_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    rw [writes_whole harg12 S128x1280.size f11 _ (by sl_kernel_rfl)]
    rw [writes_whole harg13 S512x512.size f12 _ (by sl_kernel_rfl)]
    rw [writes_whole harg11 S512x256.size f10 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr
      swap; · iexact H10
      ipureintro; exact harg11.read_unread _
    isplitl [H11]
    · iexists _; isplitr
      swap; · iexact H11
      ipureintro; exact harg12.read_unread _
    iexists _; isplitr
    swap; · iexact H12
    ipureintro; exact harg13.read_unread _

end Cert.KernelIdeal.Block

end
-- ==== Proof.Frame.lean ====
/-
  The pipeline's run: at every grid point the body turns the inputs' blocks into the outputs' blocks of Run.lean; hence
  every execution terminates, leaves the arguments as they were, and each result array holds what the points wrote back.
-/
module

public import proofs.«01_k».proof.Proof.Run
public import Idealize.ShloMosaic.Lib.Claim

@[expose] public section

set_option maxRecDepth 16384

noncomputable section

namespace Cert.KernelIdeal.Block

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at grid point `t`: at the point's staging memrefs, from the inputs' blocks there. -/
def pointRun (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at the run's pieces. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => View.canon (pointRun m c t).1
    | ⟨11, _⟩ => View.canon (pointRun m c t).2.1
    | ⟨12, _⟩ => View.canon (pointRun m c t).2.2.1
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = View.canon (pointRun m c t).1 := by dsimp only [dats]
theorem after0_11 (c : Dev nD) (t : Fin cfg0.N) : (dats m 0 c).after 11 t = View.canon (pointRun m c t).2.1 := by dsimp only [dats]
theorem after0_12 (c : Dev nD) (t : Fin cfg0.N) : (dats m 0 c).after 12 t = View.canon (pointRun m c t).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((pointRun m c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim: every execution terminates, the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_2) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- The run with each result array named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 10 cfg0.N
      ∧ r.2.mem ((c : Thread nD τ).loc main_v0_1) = (dats m 0 c).arrAt 11 cfg0.N
      ∧ r.2.mem ((c : Thread nD τ).loc main_v0_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Block

end
-- ==== Proof.Payload.lean ====
/-
  What the kernel's stores carry, read at an index: the codes of the layer norm (first loop), the codes of the hidden
  units (second loop) and the rows returned (third loop), each as the reference's arithmetic (Math.lean) of what was
  loaded.
-/
module

public import proofs.«01_k».proof.Proof.Gen.KernelIdeal.Skeleton
public import proofs.«01_k».proof.Proof.Math
public import Idealize.ShloMosaic.Lib.Pipeline.ValueKit

@[expose] public section

set_option maxRecDepth 16384

noncomputable section

namespace Cert.KernelIdeal.Block

open Cert.KernelIdeal Cert.KernelIdeal.Gen Cert.Math
open Idealize.ShloMosaic Idealize.ShloMosaic.TcCoe Idealize.SL.Sem

/-- The first loop stores the layer norm's codes of the rows it loaded. -/
theorem pay1_at (s : Elt Ideal .f32) (hs : s ≠ (0 : EReal)) (g b : Vec Ideal S1x1280 .f32) (x : Vec Ideal S128x1280 .f32)
    (y : S128x1280.Idx) :
    k0_pay1 (F := Ideal) s g b x y
      = ffIn s (fun k => x (ix2 (y 0) k)) (fun k => g (ix2 0 k)) (fun k => b (ix2 0 k)) (y 1) := by
  obtain ⟨r, d, rfl⟩ : ∃ r d, y = ix2 r d := ⟨y 0, y 1, eq_ix2 y⟩
  pointwise [k0_pay1]
  rw [quant_of_mul hs]
  exact congrArg (quant · s) (layerNorm_of_rsqrt (fun k => x (ix2 r k)) (g (ix2 0 d)) (b (ix2 0 d)) d)

/-- The second loop stores the codes of value times GELU of gate, over the column blocks it loaded. -/
theorem pay2_at (s s' : Elt Ideal .f32) (hs : s' ≠ (0 : EReal)) (x : Vec Ideal S512x1280 .fp8e4m3)
    (wg : Vec Ideal S1x1280x512 .fp8e4m3) (wsg bg : Vec Ideal S1x512 .f32)
    (wv : Vec Ideal S1x1280x512 .fp8e4m3) (wsv bv : Vec Ideal S1x512 .f32) (y : S512x512.Idx) :
    k0_pay2 (F := Ideal) s' (k0_pay5 s x wg wsg bg) (k0_pay6 s x wv wsv) bv y
      = quant (linear (fun k => x (ix2 (y 0) k)) (fun k => wv (ix3 0 k (y 1))) s (wsv (ix2 0 (y 1))) (bv (ix2 0 (y 1)))
          * gelu (linear (fun k => x (ix2 (y 0) k)) (fun k => wg (ix3 0 k (y 1))) s (wsg (ix2 0 (y 1))) (bg (ix2 0 (y 1))))) s' := by
  obtain ⟨r, d, rfl⟩ : ∃ r d, y = ix2 r d := ⟨y 0, y 1, eq_ix2 y⟩
  pointwise [k0_pay2, k0_pay5, k0_pay6, k0_pay4]
  rw [quant_of_mul hs, Ideal.erf_def, gelu_of_add]
  rfl

/-- The third loop stores the loaded rows plus the second layer of the hidden codes. -/
theorem pay3_at (s : Elt Ideal .f32) (t : Vec Ideal S512x5120 .fp8e4m3) (w : Vec Ideal S1x5120x256 .fp8e4m3)
    (h : Vec Ideal S512x256 .f32) (ws b : Vec Ideal S1x256 .f32) (y : S512x256.Idx) :
    k0_pay3 (F := Ideal) s t w h ws b y
      = h y + linear (fun k => t (ix2 (y 0) k)) (fun k => w (ix3 0 k (y 1))) s (ws (ix2 0 (y 1))) (b (ix2 0 (y 1))) := by
  pointwise [k0_pay3]
  rfl

end Cert.KernelIdeal.Block
-- ==== Proof.Pieces.lean ====
/-
  What one grid point's block of each output holds: the three loops of Run.lean, read at an index as the reference's rows
  (Math.lean) of the inputs' blocks.  Every trip's store is a block of one function of the index, so the trips together
  leave that function.
-/
module

public import proofs.«01_k».proof.Proof.Run
public import proofs.«01_k».proof.Proof.Codes
public import proofs.«01_k».proof.Proof.Payload

@[expose] public section

set_option maxRecDepth 16384

noncomputable section

namespace Cert.KernelIdeal.Block

open Cert.KernelIdeal Cert.KernelIdeal.Gen Cert.Math
open Idealize.ShloMosaic Idealize.ShloMosaic.TcCoe Idealize.SL.Sem

/-! ## Where each trip loads and stores -/

/-- Trip `k` of the first loop: rows `128 k` on. -/
theorem off1 : ∀ k : Fin k0_t1_loop.trips, k0_off1 k 0 = 128 * k.val ∧ k0_off1 k 1 = 0 := by decide +kernel
/-- Trip `k` of the second loop: the gate's columns of the weights, -/
theorem off2 : ∀ k : Fin k0_t2_loop.trips, k0_off2 k 0 = 0 ∧ k0_off2 k 1 = 0 ∧ k0_off2 k 2 = 5120 + 512 * k.val := by decide +kernel
/-- of the scales and the bias; -/
theorem off3 : ∀ k : Fin k0_t2_loop.trips, k0_off3 k 0 = 0 ∧ k0_off3 k 1 = 5120 + 512 * k.val := by decide +kernel
/-- the value's columns of the weights, -/
theorem off4 : ∀ k : Fin k0_t2_loop.trips, k0_off4 k 0 = 0 ∧ k0_off4 k 1 = 0 ∧ k0_off4 k 2 = 512 * k.val := by decide +kernel
/-- of the scales and the bias; -/
theorem off5 : ∀ k : Fin k0_t2_loop.trips, k0_off5 k 0 = 0 ∧ k0_off5 k 1 = 512 * k.val := by decide +kernel
/-- the columns stored. -/
theorem off6 : ∀ k : Fin k0_t2_loop.trips, k0_off6 k 0 = 0 ∧ k0_off6 k 1 = 512 * k.val := by decide +kernel
/-- Trip `k` of the third loop: the columns of the weights, -/
theorem off7 : ∀ k : Fin k0_t3_loop.trips, k0_off7 k 0 = 0 ∧ k0_off7 k 1 = 0 ∧ k0_off7 k 2 = 256 * k.val := by decide +kernel
/-- of the rows read and stored, -/
theorem off8 : ∀ k : Fin k0_t3_loop.trips, k0_off8 k 0 = 0 ∧ k0_off8 k 1 = 256 * k.val := by decide +kernel
/-- of the scales and the bias. -/
theorem off9 : ∀ k : Fin k0_t3_loop.trips, k0_off9 k 0 = 0 ∧ k0_off9 k 1 = 256 * k.val := by decide +kernel

/-! ## One trip -/

variable (c : Dev nD) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole)

/-- A trip of the first loop stores a block of the layer norm's codes. -/
theorem trip1 (s : Elt Ideal .f32) (hs : s ≠ (0 : EReal)) (g b : Vec Ideal S1x1280 .f32) (x1 : Vec Ideal S512x1280 .f32)
    (k : Fin k0_t1_loop.trips) : ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 s g b (harg2.unread x1) k,
      ∀ x : p.1.shape.Idx, p.2 x = codesIn s x1 (fun d => g (ix2 0 d)) (fun d => b (ix2 0 d)) (p.1.emb x) := by
  intro p hp
  unfold tripL_k0_t1 trip_k0_t1 at hp
  obtain rfl := List.mem_singleton.mp hp
  intro x
  obtain ⟨h0, h1⟩ := off1 k
  have e0 := Rect.idx_unit_val (s := S512x1280) (k0_off1 k) S128x1280.size (k0_off1_inb k) x 0
  have e1 := Rect.idx_unit_val (s := S512x1280) (k0_off1 k) S128x1280.size (k0_off1_inb k) x 1
  show k0_pay1 (F := Ideal) s g b _ x = codesIn s x1 (fun d => g (ix2 0 d)) (fun d => b (ix2 0 d)) ((Rect.unit (s := S512x1280) (k0_off1 k) S128x1280.size (k0_off1_inb k)).idx x)
  generalize (Rect.unit (s := S512x1280) (k0_off1 k) S128x1280.size (k0_off1_inb k)).idx x = y at e0 e1
  rw [pay1_at s hs, View.readAt_eq_ld, harg2.read_unread]
  unfold codesIn
  have hx : ∀ d, View.ld x1 (Rect.unit (k0_off1 k) S128x1280.size (k0_off1_inb k)) (ix2 (x 0) d) = x1 (ix2 (y 0) d) :=
    fun d => ld2 x1 _ _ _ _ _ _ e0 (by omega)
  have hd : x 1 = y 1 := Fin.ext (by omega)
  simp only [hx, hd]

/-- A trip of the second loop stores a block of the hidden units' codes. -/
theorem trip2 (s s' : Elt Ideal .f32) (hs : s' ≠ (0 : EReal)) (X : Vec Ideal S512x1280 .fp8e4m3) (x2 : Vec Ideal S1x1280x10240 .fp8e4m3)
    (x3 x4 : Vec Ideal S4x10240 .f32) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 s s' (harg3.unread x2) (harg4.unread x3) (harg5.unread x4) (harg12.unread X) k,
      ∀ x : p.1.shape.Idx, p.2 x = codesMid 0 s s' X x2 x3 x4 (p.1.emb x) := by
  intro p hp
  unfold tripL_k0_t2 trip_k0_t2 at hp
  obtain rfl := List.mem_singleton.mp hp
  intro x
  obtain ⟨h20, h21, h22⟩ := off2 k
  obtain ⟨h30, h31⟩ := off3 k
  obtain ⟨h40, h41, h42⟩ := off4 k
  obtain ⟨h50, h51⟩ := off5 k
  obtain ⟨h60, h61⟩ := off6 k
  have e0 := Rect.idx_unit_val (s := S512x5120) (k0_off6 k) S512x512.size (k0_off6_inb k) x 0
  have e1 := Rect.idx_unit_val (s := S512x5120) (k0_off6 k) S512x512.size (k0_off6_inb k) x 1
  show k0_pay2 (F := Ideal) s' (trip_k0_t2.sl.r _ _ _ _ _ _ _ _ _ _) (trip_k0_t2.sl.r_1 _ _ _ _ _ _ _ _) (trip_k0_t2.sl.r_2 _ _ _) x
    = codesMid 0 s s' X x2 x3 x4 ((Rect.unit (s := S512x5120) (k0_off6 k) S512x512.size (k0_off6_inb k)).idx x)
  generalize (Rect.unit (s := S512x5120) (k0_off6 k) S512x512.size (k0_off6_inb k)).idx x = y at e0 e1
  unfold trip_k0_t2.sl.r trip_k0_t2.sl.r_1 trip_k0_t2.sl.r_2
  simp only [View.readAt_eq_ld, harg3.read_unread, harg4.read_unread, harg5.read_unread, harg12.read_unread]
  rw [pay2_at s s' hs]
  unfold codesMid ffMid
  have hX : ∀ d, View.ld X (Rect.unit ![0, 0] S512x1280.size inb_S512x1280_S512x1280_0_0) (ix2 (x 0) d) = X (ix2 (y 0) d) :=
    fun d => ld2 X _ _ _ _ _ _ (by show _ = 0 + _; omega) (by show _ = 0 + _; omega)
  have hw : ∀ d, View.ld x2 (Rect.unit (k0_off4 k) S1x1280x512.size (k0_off4_inb k)) (ix3 0 d (x 1)) = x2 (ix3 0 d (valueCol (y 1))) :=
    fun d => ld3 x2 _ _ _ _ _ _ h40 (by omega) (by show (y 1).val = _; omega)
  have hg : ∀ d, View.ld x2 (Rect.unit (k0_off2 k) S1x1280x512.size (k0_off2_inb k)) (ix3 0 d (x 1)) = x2 (ix3 0 d (gateCol (y 1))) :=
    fun d => ld3 x2 _ _ _ _ _ _ h20 (by omega) (by show 5120 + (y 1).val = _; omega)
  have hv : ∀ b : Vec Ideal S4x10240 .f32,
      View.ld b (Rect.unit (k0_off5 k) S1x512.size (k0_off5_inb k)) (ix2 0 (x 1)) = b (ix2 0 (valueCol (y 1))) :=
    fun b => ld2 b _ _ _ _ _ _ (by show 0 = _ + 0; omega) (by show (y 1).val = _; omega)
  have hb : ∀ b : Vec Ideal S4x10240 .f32,
      View.ld b (Rect.unit (k0_off3 k) S1x512.size (k0_off3_inb k)) (ix2 0 (x 1)) = b (ix2 0 (gateCol (y 1))) :=
    fun b => ld2 b _ _ _ _ _ _ (by show 0 = _ + 0; omega) (by show 5120 + (y 1).val = _; omega)
  simp only [hX, hw, hg]
  rw [hv x3, hv x4, hb x3, hb x4]

/-- A trip of the third loop stores a block of the rows returned. -/
theorem trip3 (s' : Elt Ideal .f32) (T : Vec Ideal S512x5120 .fp8e4m3) (x1 : Vec Ideal S512x1280 .f32) (x5 : Vec Ideal S1x5120x1280 .fp8e4m3)
    (x6 x7 : Vec Ideal S4x1280 .f32) (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 s' (harg2.unread x1) (harg6.unread x5) (harg7.unread x6) (harg8.unread x7) (harg13.unread T) k,
      ∀ x : p.1.shape.Idx, p.2 x = rowsOut 0 s' T x5 x6 x7 x1 (p.1.emb x) := by
  intro p hp
  unfold tripL_k0_t3 trip_k0_t3 at hp
  obtain rfl := List.mem_singleton.mp hp
  intro x
  obtain ⟨h70, h71, h72⟩ := off7 k
  obtain ⟨h80, h81⟩ := off8 k
  obtain ⟨h90, h91⟩ := off9 k
  have e0 := Rect.idx_unit_val (s := S512x1280) (k0_off8 k) S512x256.size (k0_off8_inb k) x 0
  have e1 := Rect.idx_unit_val (s := S512x1280) (k0_off8 k) S512x256.size (k0_off8_inb k) x 1
  show k0_pay3 (F := Ideal) s' _ _ _ _ _ x
    = rowsOut 0 s' T x5 x6 x7 x1 ((Rect.unit (s := S512x1280) (k0_off8 k) S512x256.size (k0_off8_inb k)).idx x)
  simp only [View.readAt_eq_ld, harg2.read_unread, harg6.read_unread, harg7.read_unread, harg8.read_unread, harg13.read_unread]
  have hh : View.ld x1 (Rect.unit (k0_off8 k) S512x256.size (k0_off8_inb k)) x
      = x1 ((Rect.unit (s := S512x1280) (k0_off8 k) S512x256.size (k0_off8_inb k)).idx x) := rfl
  generalize (Rect.unit (s := S512x1280) (k0_off8 k) S512x256.size (k0_off8_inb k)).idx x = y at e0 e1 hh
  rw [pay3_at s', hh]
  unfold rowsOut ffOut
  have hT : ∀ d, View.ld T (Rect.unit ![0, 0] S512x5120.size inb_S512x5120_S512x5120_0_0) (ix2 (x 0) d) = T (ix2 (y 0) d) :=
    fun d => ld2 T _ _ _ _ _ _ (by show _ = 0 + _; omega) (by show _ = 0 + _; omega)
  have hw : ∀ d, View.ld x5 (Rect.unit (k0_off7 k) S1x5120x256.size (k0_off7_inb k)) (ix3 0 d (x 1)) = x5 (ix3 0 d (y 1)) :=
    fun d => ld3 x5 _ _ _ _ _ _ h70 (by omega) (by omega)
  have hb : ∀ b : Vec Ideal S4x1280 .f32,
      View.ld b (Rect.unit (k0_off9 k) S1x256.size (k0_off9_inb k)) (ix2 0 (x 1)) = b (ix2 0 (y 1)) :=
    fun b => ld2 b _ _ _ _ _ _ (by show 0 = _ + 0; omega) (by omega)
  simp only [hT, hw]
  rw [hb x6, hb x7, ← eq_ix2 y]

/-! ## All trips -/

/-- The trips before the `n`th store blocks of the layer norm's codes, -/
theorem trips1 (s : Elt Ideal .f32) (hs : s ≠ (0 : EReal)) (g b : Vec Ideal S1x1280 .f32) (x1 : Vec Ideal S512x1280 .f32) :
    ∀ n ≤ k0_t1_loop.trips, ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 s g b (harg2.unread x1) n,
      ∀ x : p.1.shape.Idx, p.2 x = codesIn s x1 (fun d => g (ix2 0 d)) (fun d => b (ix2 0 d)) (p.1.emb x)
  | 0, _, p, hp => absurd hp List.not_mem_nil
  | n + 1, hn, p, hp => by
    rw [pb_k0_t1_succ _ _ _ _ arg1 harg1 arg2 harg2 arg3 harg3 arg4 harg4 arg5 harg5 arg6 harg6 arg7 harg7 arg8 harg8 arg9 harg9 arg10 harg10 arg11 harg11 arg12 harg12 arg13 harg13 s g b _ ⟨n, hn⟩] at hp
    rcases List.mem_append.mp hp with hp | hp
    · exact trip1 c i arg1 harg1 arg2 harg2 arg3 harg3 arg4 harg4 arg5 harg5 arg6 harg6 arg7 harg7 arg8 harg8 arg9 harg9 arg10 harg10 arg11 harg11 arg12 harg12 arg13 harg13 s hs g b x1 _ p hp
    · exact trips1 s hs g b x1 n (Nat.le_of_succ_le hn) p hp

/-- of the hidden units' codes, -/
theorem trips2 (s s' : Elt Ideal .f32) (hs : s' ≠ (0 : EReal)) (X : Vec Ideal S512x1280 .fp8e4m3) (x2 : Vec Ideal S1x1280x10240 .fp8e4m3)
    (x3 x4 : Vec Ideal S4x10240 .f32) :
    ∀ n ≤ k0_t2_loop.trips, ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 s s' (harg3.unread x2) (harg4.unread x3) (harg5.unread x4) (harg12.unread X) n,
      ∀ x : p.1.shape.Idx, p.2 x = codesMid 0 s s' X x2 x3 x4 (p.1.emb x)
  | 0, _, p, hp => absurd hp List.not_mem_nil
  | n + 1, hn, p, hp => by
    rw [pb_k0_t2_succ _ _ _ _ arg1 harg1 arg2 harg2 arg3 harg3 arg4 harg4 arg5 harg5 arg6 harg6 arg7 harg7 arg8 harg8 arg9 harg9 arg10 harg10 arg11 harg11 arg12 harg12 arg13 harg13 s s' _ _ _ _ ⟨n, hn⟩] at hp
    rcases List.mem_append.mp hp with hp | hp
    · exact trip2 c i arg1 harg1 arg2 harg2 arg3 harg3 arg4 harg4 arg5 harg5 arg6 harg6 arg7 harg7 arg8 harg8 arg9 harg9 arg10 harg10 arg11 harg11 arg12 harg12 arg13 harg13 s s' hs X x2 x3 x4 _ p hp
    · exact trips2 s s' hs X x2 x3 x4 n (Nat.le_of_succ_le hn) p hp

/-- of the rows returned. -/
theorem trips3 (s' : Elt Ideal .f32) (T : Vec Ideal S512x5120 .fp8e4m3) (x1 : Vec Ideal S512x1280 .f32) (x5 : Vec Ideal S1x5120x1280 .fp8e4m3)
    (x6 x7 : Vec Ideal S4x1280 .f32) :
    ∀ n ≤ k0_t3_loop.trips, ∀ p ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 s' (harg2.unread x1) (harg6.unread x5) (harg7.unread x6) (harg8.unread x7) (harg13.unread T) n,
      ∀ x : p.1.shape.Idx, p.2 x = rowsOut 0 s' T x5 x6 x7 x1 (p.1.emb x)
  | 0, _, p, hp => absurd hp List.not_mem_nil
  | n + 1, hn, p, hp => by
    rw [pb_k0_t3_succ _ _ _ _ arg1 harg1 arg2 harg2 arg3 harg3 arg4 harg4 arg5 harg5 arg6 harg6 arg7 harg7 arg8 harg8 arg9 harg9 arg10 harg10 arg11 harg11 arg12 harg12 arg13 harg13 s' _ _ _ _ _ ⟨n, hn⟩] at hp
    rcases List.mem_append.mp hp with hp | hp
    · exact trip3 c i arg1 harg1 arg2 harg2 arg3 harg3 arg4 harg4 arg5 harg5 arg6 harg6 arg7 harg7 arg8 harg8 arg9 harg9 arg10 harg10 arg11 harg11 arg12 harg12 arg13 harg13 s' T x1 x5 x6 x7 _ p hp
    · exact trips3 s' T x1 x5 x6 x7 n (Nat.le_of_succ_le hn) p hp

/-! ## The body's run -/

variable (x0 : Vec Ideal S4x6 .f32) (x1 : Vec Ideal S512x1280 .f32) (x2 : Vec Ideal S1x1280x10240 .fp8e4m3) (x3 x4 : Vec Ideal S4x10240 .f32)
  (x5 : Vec Ideal S1x5120x1280 .fp8e4m3) (x6 x7 x8 x9 : Vec Ideal S4x1280 .f32)

/-- The layer's row 0 of a table of four rows. -/
theorem row0 (x : Vec Ideal S4x1280 .f32) (inb) (d : Fin 1280) :
    View.ld x (Rect.unit (s := S4x1280) ![0, 0] S1x1280.size inb) (ix2 0 d) = x (ix2 0 d) :=
  ld2 x _ _ _ _ _ _ rfl (Nat.zero_add _).symm

/-- The two scales the body reads. -/
theorem scale_in : bodyRun.sl.r (F := Ideal) c arg1 harg1 x0 = x0 (ix2 0 4) := by
  unfold bodyRun.sl.r
  rw [View.readAt_eq_ld, harg1.read_unread]
  exact View.ld_unit_apply_of x0 _ _ _ _ _ fun a => by fin_cases a <;> rfl

theorem scale_mid : bodyRun.sl.r_1 (F := Ideal) c arg1 harg1 x0 = x0 (ix2 0 5) := by
  unfold bodyRun.sl.r_1
  rw [View.readAt_eq_ld, harg1.read_unread]
  exact View.ld_unit_apply_of x0 _ _ _ _ _ fun a => by fin_cases a <;> rfl

/-- What the first loop leaves: the layer norm's codes. -/
theorem loop_in (hs : x0 (ix2 0 4) ≠ (0 : EReal)) (inb inb') :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (bodyRun.sl.r c arg1 harg1 x0)
        (View.readAt (Elt Ideal) arg9.view (Rect.unit (s := S4x1280) ![0, 0] ![1, 1280] inb).toLoadRect (harg9.unread x8))
        (View.readAt (Elt Ideal) arg10.view (Rect.unit (s := S4x1280) ![0, 0] ![1, 1280] inb').toLoadRect (harg10.unread x9))
        (harg2.unread x1) (Scf.trips (0#32) (Scalar.addi 0#32 4#32) 1#32))
      = codesIn (x0 (ix2 0 4)) x1 (fun d => x8 (ix2 0 d)) (fun d => x9 (ix2 0 d)) := by
  funext y
  refine View.canon_apply_of_pieces (S := S512x1280) _ _ (fun p hp x => ?_) y (View.cover_of_tiledL (s := S512x1280) _ S128x1280.size (by sl_kernel_rfl) y)
  rw [scale_in] at hp
  refine (trips1 c i arg1 harg1 arg2 harg2 arg3 harg3 arg4 harg4 arg5 harg5 arg6 harg6 arg7 harg7 arg8 harg8 arg9 harg9 arg10 harg10 arg11 harg11 arg12 harg12 arg13 harg13 _ hs _ _ x1 _ le_rfl p hp x).trans ?_
  simp only [View.readAt_eq_ld, harg9.read_unread, harg10.read_unread]
  exact congrArg₂ (fun g b => codesIn _ x1 g b _) (funext (row0 x8 inb)) (funext (row0 x9 inb'))

/-- The block of the second output after the run: the layer norm's codes. -/
theorem run_in (hs : x0 (ix2 0 4) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1
      = codesIn (x0 (ix2 0 4)) x1 (fun d => x8 (ix2 0 d)) (fun d => x9 (ix2 0 d)) := by
  unfold bodyRun
  dsimp only
  exact loop_in c i arg1 harg1 arg2 harg2 arg3 harg3 arg4 harg4 arg5 harg5 arg6 harg6 arg7 harg7 arg8 harg8 arg9 harg9 arg10 harg10 arg11 harg11 arg12 harg12 arg13 harg13 x0 x1 x8 x9 hs _ _

/-- The block of the third output after the run: the hidden units' codes. -/
theorem run_mid (hs : x0 (ix2 0 4) ≠ (0 : EReal)) (hs' : x0 (ix2 0 5) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.2.1
      = codesMid 0 (x0 (ix2 0 4)) (x0 (ix2 0 5)) (codesIn (x0 (ix2 0 4)) x1 (fun d => x8 (ix2 0 d)) (fun d => x9 (ix2 0 d))) x2 x3 x4 := by
  unfold bodyRun
  dsimp only
  rw [loop_in c i arg1 harg1 arg2 harg2 arg3 harg3 arg4 harg4 arg5 harg5 arg6 harg6 arg7 harg7 arg8 harg8 arg9 harg9 arg10 harg10 arg11 harg11 arg12 harg12 arg13 harg13 x0 x1 x8 x9 hs, scale_in, scale_mid]
  funext y
  exact View.canon_apply_of_pieces (S := S512x5120) _ _ (trips2 c i arg1 harg1 arg2 harg2 arg3 harg3 arg4 harg4 arg5 harg5 arg6 harg6 arg7 harg7 arg8 harg8 arg9 harg9 arg10 harg10 arg11 harg11 arg12 harg12 arg13 harg13 _ _ hs' _ x2 x3 x4 _ le_rfl) y
    (View.cover_of_tiledL (s := S512x5120) _ S512x512.size (by sl_kernel_rfl) y)

/-- The block of the first output after the run: the rows returned. -/
theorem run_out (hs : x0 (ix2 0 4) ≠ (0 : EReal)) (hs' : x0 (ix2 0 5) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1
      = rowsOut 0 (x0 (ix2 0 5)) (codesMid 0 (x0 (ix2 0 4)) (x0 (ix2 0 5)) (codesIn (x0 (ix2 0 4)) x1 (fun d => x8 (ix2 0 d)) (fun d => x9 (ix2 0 d))) x2 x3 x4)
          x5 x6 x7 x1 := by
  have h := run_mid c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 hs hs'
  unfold bodyRun at h ⊢
  dsimp only at h ⊢
  rw [h, scale_mid]
  funext y
  exact View.canon_apply_of_pieces (S := S512x1280) _ _ (trips3 c i arg1 harg1 arg2 harg2 arg3 harg3 arg4 harg4 arg5 harg5 arg6 harg6 arg7 harg7 arg8 harg8 arg9 harg9 arg10 harg10 arg11 harg11 arg12 harg12 arg13 harg13 _ _ x1 x5 x6 x7 _ le_rfl) y
    (View.cover_of_tiledL (s := S512x1280) _ S512x256.size (by sl_kernel_rfl) y)

end Cert.KernelIdeal.Block

end
-- ==== Proof.Arrays.lean ====
/-
  What the kernel's three result arrays hold: at every index the reference's row of the arguments (Math.lean).
  Grid point `t` handles rows `512 t` on; every other argument is staged whole.
-/
module

public import proofs.«01_k».proof.Proof.Frame
public import proofs.«01_k».proof.Proof.Pieces
public import proofs.«01_k».proof.Proof.Spec

@[expose] public section

set_option maxRecDepth 16384

noncomputable section

namespace Cert.KernelIdeal.Block

open Cert.KernelIdeal Cert.KernelIdeal.Gen Cert.Math
open Idealize.ShloMosaic Idealize.ShloMosaic.TcCoe Idealize.SL.Sem
open Idealize.ShloMosaic.Pipeline (Dat)

variable (m : (ℓ : Loc nD τ sig) → Buf (Elt Ideal) ℓ) (c : Dev nD)

/-- The block each window stages at each grid point. -/
theorem idx : ∀ t : Fin cfg0.N, win0_0.index t = ![0, 0] ∧ win0_1.index t = ![t.val, 0] ∧ win0_2.index t = ![0, 0, 0] ∧ win0_3.index t = ![0, 0]
    ∧ win0_4.index t = ![0, 0] ∧ win0_5.index t = ![0, 0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0] :=
  (by decide +kernel : ∀ t : Fin grid0.N, _)

/-- Row `r` of the block of point `t`, in the array. -/
abbrev rowAt (t : Fin cfg0.N) (r : Fin 512) : Fin 16384 := ⟨512 * t.val + r.val, by have := t.isLt; have : cfg0.N = 32 := rfl; omega⟩

/-- Argument 0 is staged whole. -/
theorem blk0 (t : Fin cfg0.N) (r : Fin 4) (d : Fin 6) : iblk m c 0 t (ix2 r d) = m ((c.tc : Thread nD τ).loc main_arg0) (ix2 r d) := by
  blk_simp [iblk, V]
  refine congrArg _ ?_
  blk_ext [idx t]

/-- Argument 3 is staged whole. -/
theorem blk3 (t : Fin cfg0.N) (r : Fin 4) (d : Fin 10240) : iblk m c 3 t (ix2 r d) = m ((c.tc : Thread nD τ).loc main_arg3) (ix2 r d) := by
  blk_simp [iblk, V]
  refine congrArg _ ?_
  blk_ext [idx t]

/-- Argument 4 is staged whole. -/
theorem blk4 (t : Fin cfg0.N) (r : Fin 4) (d : Fin 10240) : iblk m c 4 t (ix2 r d) = m ((c.tc : Thread nD τ).loc main_arg4) (ix2 r d) := by
  blk_simp [iblk, V]
  refine congrArg _ ?_
  blk_ext [idx t]

/-- Argument 6 is staged whole. -/
theorem blk6 (t : Fin cfg0.N) (r : Fin 4) (d : Fin 1280) : iblk m c 6 t (ix2 r d) = m ((c.tc : Thread nD τ).loc main_arg6) (ix2 r d) := by
  blk_simp [iblk, V]
  refine congrArg _ ?_
  blk_ext [idx t]

/-- Argument 7 is staged whole. -/
theorem blk7 (t : Fin cfg0.N) (r : Fin 4) (d : Fin 1280) : iblk m c 7 t (ix2 r d) = m ((c.tc : Thread nD τ).loc main_arg7) (ix2 r d) := by
  blk_simp [iblk, V]
  refine congrArg _ ?_
  blk_ext [idx t]

/-- Argument 8 is staged whole. -/
theorem blk8 (t : Fin cfg0.N) (r : Fin 4) (d : Fin 1280) : iblk m c 8 t (ix2 r d) = m ((c.tc : Thread nD τ).loc main_arg8) (ix2 r d) := by
  blk_simp [iblk, V]
  refine congrArg _ ?_
  blk_ext [idx t]

/-- Argument 9 is staged whole. -/
theorem blk9 (t : Fin cfg0.N) (r : Fin 4) (d : Fin 1280) : iblk m c 9 t (ix2 r d) = m ((c.tc : Thread nD τ).loc main_arg9) (ix2 r d) := by
  blk_simp [iblk, V]
  refine congrArg _ ?_
  blk_ext [idx t]

/-- Argument 2 is staged from its first matrix. -/
theorem blk2 (t : Fin cfg0.N) (r : Fin 1280) (d : Fin 10240) : iblk m c 2 t (ix3 0 r d) = m ((c.tc : Thread nD τ).loc main_arg2) (ix3 0 r d) := by
  blk_simp [iblk, V]
  refine congrArg _ ?_
  blk_ext [idx t]

/-- Argument 5 is staged from its first matrix. -/
theorem blk5 (t : Fin cfg0.N) (r : Fin 5120) (d : Fin 1280) : iblk m c 5 t (ix3 0 r d) = m ((c.tc : Thread nD τ).loc main_arg5) (ix3 0 r d) := by
  blk_simp [iblk, V]
  refine congrArg _ ?_
  blk_ext [idx t]

/-- The rows of argument 1 are staged in turn. -/
theorem blk1 (t : Fin cfg0.N) (r : Fin 512) (d : Fin 1280) : iblk m c 1 t (ix2 r d) = m ((c.tc : Thread nD τ).loc main_arg1) (ix2 (rowAt t r) d) := by
  blk_simp [iblk, V]
  refine congrArg _ ?_
  blk_ext [idx t]

/-- Where an index of the block of output 1 lies in the array. -/
theorem emb10 (t : Fin cfg0.N) (y : S512x1280.Idx) :
    (win0_10.blk t).view.emb y 0 = rowAt t (y 0) ∧ (win0_10.blk t).view.emb y 1 = y 1 := by
  constructor
  · refine Fin.ext ?_
    blk_simp [idx t]
    show _ = 512 * t.val + (y 0).val
    omega
  · refine Fin.ext ?_
    blk_simp [idx t]

/-- Where an index of the block of output 2 lies in the array. -/
theorem emb11 (t : Fin cfg0.N) (y : S512x1280.Idx) :
    (win0_11.blk t).view.emb y 0 = rowAt t (y 0) ∧ (win0_11.blk t).view.emb y 1 = y 1 := by
  constructor
  · refine Fin.ext ?_
    blk_simp [idx t]
    show _ = 512 * t.val + (y 0).val
    omega
  · refine Fin.ext ?_
    blk_simp [idx t]

/-- Where an index of the block of output 3 lies in the array. -/
theorem emb12 (t : Fin cfg0.N) (y : S512x5120.Idx) :
    (win0_12.blk t).view.emb y 0 = rowAt t (y 0) ∧ (win0_12.blk t).view.emb y 1 = y 1 := by
  constructor
  · refine Fin.ext ?_
    blk_simp [idx t]
    show _ = 512 * t.val + (y 0).val
    omega
  · refine Fin.ext ?_
    blk_simp [idx t]

/-! ## A block's rows are the array's -/

/-- The layer norm's codes. -/
theorem in_row (t : Fin cfg0.N) (r : Fin 512) (d : Fin 1280) :
    codesIn (iblk m c 0 t (ix2 0 4)) (iblk m c 1 t) (fun d => iblk m c 8 t (ix2 0 d)) (fun d => iblk m c 9 t (ix2 0 d)) (ix2 r d)
      = inAll 0 (m ((c.tc : Thread nD τ).loc main_arg0)) (m ((c.tc : Thread nD τ).loc main_arg1)) (m ((c.tc : Thread nD τ).loc main_arg8)) (m ((c.tc : Thread nD τ).loc main_arg9)) (rowAt t r) d := by
  show ffIn (iblk m c 0 t (ix2 0 4)) (fun d => iblk m c 1 t (ix2 r d)) (fun d => iblk m c 8 t (ix2 0 d)) (fun d => iblk m c 9 t (ix2 0 d)) d = _
  simp only [blk0, blk1, blk8, blk9]
  rfl

/-- The hidden units' codes. -/
theorem mid_row (t : Fin cfg0.N) (r : Fin 512) (j : Fin 5120) :
    codesMid 0 (iblk m c 0 t (ix2 0 4)) (iblk m c 0 t (ix2 0 5)) (codesIn (iblk m c 0 t (ix2 0 4)) (iblk m c 1 t) (fun d => iblk m c 8 t (ix2 0 d)) (fun d => iblk m c 9 t (ix2 0 d))) (iblk m c 2 t) (iblk m c 3 t) (iblk m c 4 t) (ix2 r j)
      = midAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (rowAt t r) j := by
  show ffMid (iblk m c 0 t (ix2 0 4)) (iblk m c 0 t (ix2 0 5)) (fun d => (codesIn (iblk m c 0 t (ix2 0 4)) (iblk m c 1 t) (fun d => iblk m c 8 t (ix2 0 d)) (fun d => iblk m c 9 t (ix2 0 d))) (ix2 r d)) (fun d j => iblk m c 2 t (ix3 0 d j))
    (fun j => iblk m c 3 t (ix2 0 j)) (fun j => iblk m c 4 t (ix2 0 j)) j = _
  simp only [in_row]
  simp only [blk0, blk2, blk3, blk4]
  rfl

/-- The sum returned. -/
theorem out_row (t : Fin cfg0.N) (r : Fin 512) (d : Fin 1280) :
    rowsOut 0 (iblk m c 0 t (ix2 0 5)) (codesMid 0 (iblk m c 0 t (ix2 0 4)) (iblk m c 0 t (ix2 0 5)) (codesIn (iblk m c 0 t (ix2 0 4)) (iblk m c 1 t) (fun d => iblk m c 8 t (ix2 0 d)) (fun d => iblk m c 9 t (ix2 0 d))) (iblk m c 2 t) (iblk m c 3 t) (iblk m c 4 t)) (iblk m c 5 t) (iblk m c 6 t) (iblk m c 7 t) (iblk m c 1 t) (ix2 r d)
      = outAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (rowAt t r) d := by
  show ffOut (iblk m c 0 t (ix2 0 5)) (fun j => (codesMid 0 (iblk m c 0 t (ix2 0 4)) (iblk m c 0 t (ix2 0 5)) (codesIn (iblk m c 0 t (ix2 0 4)) (iblk m c 1 t) (fun d => iblk m c 8 t (ix2 0 d)) (fun d => iblk m c 9 t (ix2 0 d))) (iblk m c 2 t) (iblk m c 3 t) (iblk m c 4 t)) (ix2 r j)) (fun j d => iblk m c 5 t (ix3 0 j d))
    (fun d => iblk m c 6 t (ix2 0 d)) (fun d => iblk m c 7 t (ix2 0 d)) (fun d => iblk m c 1 t (ix2 r d)) d = _
  simp only [mid_row]
  simp only [blk0, blk1, blk5, blk6, blk7]
  rfl

/-! ## The arrays -/

/-- The second result: the layer norm's codes. -/
theorem in_array (hs : m ((c.tc : Thread nD τ).loc main_arg0) (ix2 0 4) ≠ (0 : EReal)) :
    (dats (F := Ideal) m 0 c).arrAt 11 cfg0.N = fun y : S16384x1280.Idx => inAll 0 (m ((c.tc : Thread nD τ).loc main_arg0)) (m ((c.tc : Thread nD τ).loc main_arg1)) (m ((c.tc : Thread nD τ).loc main_arg8)) (m ((c.tc : Thread nD τ).loc main_arg9)) (y 0) (y 1) := by
  refine (dats m 0 c).arrAt_eq_of_covers 11 _ (by decide +kernel) fun t hf (y : S512x1280.Idx) => ?_
  blk_simp
  rw [after0_11]
  unfold pointRun
  rw [run_in _ _ _ _ _ _ _ _ _ _ _ _ _ _ _ _ _ _ _ _ _ _ _ _ _ _ _ _ _ _ _ _ _ _ _ _ _ _ (by rw [blk0]; exact hs)]
  obtain ⟨e0, e1⟩ := emb11 t y
  rw [e0, e1]
  obtain ⟨r, d, rfl⟩ : ∃ r d, y = ix2 r d := ⟨y 0, y 1, eq_ix2 y⟩
  exact in_row m c t r d

/-- The third result: the hidden units' codes. -/
theorem mid_array (hs : m ((c.tc : Thread nD τ).loc main_arg0) (ix2 0 4) ≠ (0 : EReal)) (hs' : m ((c.tc : Thread nD τ).loc main_arg0) (ix2 0 5) ≠ (0 : EReal)) :
    (dats (F := Ideal) m 0 c).arrAt 12 cfg0.N = fun y : S16384x5120.Idx => midAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (y 0) (y 1) := by
  refine (dats m 0 c).arrAt_eq_of_covers 12 _ (by decide +kernel) fun t hf (y : S512x5120.Idx) => ?_
  blk_simp
  rw [after0_12]
  unfold pointRun
  rw [run_mid _ _ _ _ _ _ _ _ _ _ _ _ _ _ _ _ _ _ _ _ _ _ _ _ _ _ _ _ _ _ _ _ _ _ _ _ _ _ (by rw [blk0]; exact hs) (by rw [blk0]; exact hs')]
  obtain ⟨e0, e1⟩ := emb12 t y
  rw [e0, e1]
  obtain ⟨r, d, rfl⟩ : ∃ r d, y = ix2 r d := ⟨y 0, y 1, eq_ix2 y⟩
  exact mid_row m c t r d

/-- The first result: the sum returned. -/
theorem out_array (hs : m ((c.tc : Thread nD τ).loc main_arg0) (ix2 0 4) ≠ (0 : EReal)) (hs' : m ((c.tc : Thread nD τ).loc main_arg0) (ix2 0 5) ≠ (0 : EReal)) :
    (dats (F := Ideal) m 0 c).arrAt 10 cfg0.N = fun y : S16384x1280.Idx => outAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_covers 10 _ (by decide +kernel) fun t hf (y : S512x1280.Idx) => ?_
  blk_simp
  rw [after0_10]
  unfold pointRun
  rw [run_out _ _ _ _ _ _ _ _ _ _ _ _ _ _ _ _ _ _ _ _ _ _ _ _ _ _ _ _ _ _ _ _ _ _ _ _ _ _ (by rw [blk0]; exact hs) (by rw [blk0]; exact hs')]
  obtain ⟨e0, e1⟩ := emb10 t y
  rw [e0, e1]
  obtain ⟨r, d, rfl⟩ : ∃ r d, y = ix2 r d := ⟨y 0, y 1, eq_ix2 y⟩
  exact out_row m c t r d

end Cert.KernelIdeal.Block

end
-- ==== Proof.RefPayload.lean ====
/-
  What the reference stores, read at an index: the same functions of Math.lean, over its whole arrays.
-/
module

public import proofs.«01_k».proof.Proof.Gen.ReferenceIdeal.Skeleton
public import proofs.«01_k».proof.Proof.Math
public import Idealize.ShloMosaic.Lib.Pipeline.ValueKit

@[expose] public section

set_option maxRecDepth 16384

noncomputable section

namespace Cert.ReferenceIdeal.Block

open Cert.ReferenceIdeal Cert.ReferenceIdeal.Gen Cert.Math
open Idealize.ShloMosaic Idealize.ShloMosaic.TcCoe Idealize.SL.Sem

/-- The reference's first result, the layer norm's codes. -/
theorem in_at (h : Vec Ideal S16384x1280 .f32) (s : Elt Ideal .f32) (g b : Vec Ideal S1x1280 .f32) (y : S16384x1280.Idx) :
    k0_pay2 (F := Ideal) h s g b y
      = ffIn s (fun k => h (ix2 (y 0) k)) (fun k => g (ix2 0 k)) (fun k => b (ix2 0 k)) (y 1) := by
  obtain ⟨r, d, rfl⟩ : ∃ r d, y = ix2 r d := ⟨y 0, y 1, eq_ix2 y⟩
  pointwise [k0_pay2]
  rfl

/-- Its second result, the hidden codes. -/
theorem mid_at (s s' : Elt Ideal .f32) (x : FVec Ideal S16384x1280 .fp8e4m3) (w : Vec Ideal S1x1280x10240 .fp8e4m3)
    (ws b : Vec Ideal S1x10240 .f32) (y : S16384x5120.Idx) :
    k0_pay4 (F := Ideal) s s' x (k0_pay3 w) ws b y
      = ffMid s s' (fun k => x (ix2 (y 0) k)) (fun k j => w (ix3 0 k j)) (fun j => ws (ix2 0 j)) (fun j => b (ix2 0 j)) (y 1) := by
  obtain ⟨r, d, rfl⟩ : ∃ r d, y = ix2 r d := ⟨y 0, y 1, eq_ix2 y⟩
  pointwise [k0_pay4, k0_pay3]
  rfl

/-- Its third result, the rows plus the second layer. -/
theorem out_at (h : Vec Ideal S16384x1280 .f32) (s s' : Elt Ideal .f32) (x : FVec Ideal S16384x1280 .fp8e4m3)
    (w : FVec Ideal S1280x10240 .fp8e4m3)
    (ws b : Vec Ideal S1x10240 .f32) (w2 : Vec Ideal S1x5120x1280 .fp8e4m3) (ws2 b2 : Vec Ideal S1x1280 .f32)
    (y : S16384x1280.Idx) :
    k0_pay1 (F := Ideal) h (k0_pay5 ws2) (k0_pay6 b2) (k0_pay7 s s' x w ws b w2) (k0_pay8 s') y
      = ffOut s' (fun j => k0_pay4 (F := Ideal) s s' x w ws b (ix2 (y 0) j)) (fun k d => w2 (ix3 0 k d))
          (fun d => ws2 (ix2 0 d)) (fun d => b2 (ix2 0 d)) (fun d => h (ix2 (y 0) d)) (y 1) := by
  obtain ⟨r, d, rfl⟩ : ∃ r d, y = ix2 r d := ⟨y 0, y 1, eq_ix2 y⟩
  pointwise [k0_pay1, k0_pay5, k0_pay6, k0_pay7, k0_pay8]
  rfl

end Cert.ReferenceIdeal.Block
-- ==== Proof.RefArrays.lean ====
/-
  What the reference's three result arrays hold: Spec.lean's functions of the arguments.  It has one grid point, which
  stages every array whole.
-/
module

public import proofs.«01_k».proof.Proof.RefPayload
public import proofs.«01_k».proof.Proof.Spec
public import proofs.«01_k».proof.Proof.Gen.ReferenceIdeal.Value
public import Idealize.ShloMosaic.Lib.Pipeline.ValueKit

@[expose] public section

set_option maxRecDepth 16384

noncomputable section

namespace Cert.ReferenceIdeal.Block

open Cert.ReferenceIdeal Cert.ReferenceIdeal.Gen Cert.Math
open Idealize.ShloMosaic Idealize.ShloMosaic.TcCoe Idealize.SL.Sem
open Idealize.ShloMosaic.Pipeline (Dat)

/-! ## The body's loads -/

/-- A load of a table's leading row reads the table there. -/
theorem ldRow {n0 n1 : ℕ} {e : EltTy} (X : (⟨2, ![n0, n1]⟩ : Shape).Idx → Elt Ideal e) (off : Fin 2 → ℕ)
    (inb : ∀ x, off x + (![1, n1] : Fin 2 → ℕ) x ≤ (⟨2, ![n0, n1]⟩ : Shape).size x) (d : Fin n1) (r : Fin n0)
    (h0 : r.val = off 0) (h1 : off 1 = 0) :
    View.ld X (Rect.unit off ![1, n1] inb) (ix2 0 d) = X (ix2 r d) :=
  View.ld_unit_apply_of X off ![1, n1] inb (ix2 0 d) (ix2 r d) fun x => by
    fin_cases x
    · show r.val = off 0 + 0; omega
    · show d.val = off 1 + d.val; omega

/-- A load of a stack's leading matrix reads the stack there. -/
theorem ldMat {n0 n1 n2 : ℕ} {e : EltTy} (X : (⟨3, ![n0, n1, n2]⟩ : Shape).Idx → Elt Ideal e) (off : Fin 3 → ℕ)
    (inb : ∀ x, off x + (![1, n1, n2] : Fin 3 → ℕ) x ≤ (⟨3, ![n0, n1, n2]⟩ : Shape).size x) (k : Fin n1) (d : Fin n2) (r : Fin n0)
    (h0 : r.val = off 0) (h1 : off 1 = 0) (h2 : off 2 = 0) :
    View.ld X (Rect.unit off ![1, n1, n2] inb) (ix3 0 k d) = X (ix3 r k d) :=
  View.ld_unit_apply_of X off ![1, n1, n2] inb (ix3 0 k d) (ix3 r k d) fun x => by
    fin_cases x
    · show r.val = off 0 + 0; omega
    · show k.val = off 1 + k.val; omega
    · show d.val = off 2 + d.val; omega

/-- The load of one scale. -/
theorem ldScale (X : Vec Ideal S4x6 .f32) (j : Fin 6) (off : Fin 2 → ℕ)
    (inb : ∀ x, off x + (![1, 1] : Fin 2 → ℕ) x ≤ S4x6.size x) (h) (h0 : off 0 = 0) (h1 : j.val = off 1) :
    View.ld X (Rect.unit off ![1, 1] inb) (Shape.Idx.first h) = X (ix2 0 j) :=
  View.ld_unit_apply_of X off ![1, 1] inb _ (ix2 0 j) fun x => by
    fin_cases x
    · show 0 = off 0 + 0; omega
    · show j.val = off 1 + 0; omega

/-! ## The body's values -/

variable (x0 : Vec Ideal S4x6 .f32) (x1 : Vec Ideal S16384x1280 .f32) (x2 : Vec Ideal S4x1280x10240 .fp8e4m3) (x3 x4 : Vec Ideal S4x10240 .f32)
  (x5 : Vec Ideal S4x5120x1280 .fp8e4m3) (x6 x7 x8 x9 : Vec Ideal S4x1280 .f32)

/-- The scale of the layer norm's quantiser. -/
theorem ld4 (h) : View.ld x0 (Rect.unit ![0, 4] ![1, 1] inb_S4x6_S1x1_0_4) (Shape.Idx.first h) = x0 (ix2 0 4) := ldScale x0 4 _ _ h rfl rfl
/-- The scale of the hidden units' quantiser. -/
theorem ld5 (h) : View.ld x0 (Rect.unit ![0, 5] ![1, 1] inb_S4x6_S1x1_0_5) (Shape.Idx.first h) = x0 (ix2 0 5) := ldScale x0 5 _ _ h rfl rfl
/-- The leading row of a table of 1280 columns, -/
theorem ldA (X : Vec Ideal S4x1280 .f32) :
    (fun d => View.ld X (Rect.unit ![0, 0] ![1, 1280] inb_S4x1280_S1x1280_0_0) (ix2 0 d)) = fun d => X (ix2 0 d) := funext fun d => ldRow X _ _ d 0 rfl rfl
/-- of one of 10240. -/
theorem ldB (X : Vec Ideal S4x10240 .f32) :
    (fun d => View.ld X (Rect.unit ![0, 0] ![1, 10240] inb_S4x10240_S1x10240_0_0) (ix2 0 d)) = fun d => X (ix2 0 d) := funext fun d => ldRow X _ _ d 0 rfl rfl
/-- The leading matrix of the first product's weights, -/
theorem ldC :
    (fun k d => View.ld x2 (Rect.unit ![0, 0, 0] ![1, 1280, 10240] inb_S4x1280x10240_S1x1280x10240_0_0_0) (ix3 0 k d)) = fun k d => x2 (ix3 0 k d) := funext fun k => funext fun d => ldMat x2 _ _ k d 0 rfl rfl rfl
/-- of the second's. -/
theorem ldD :
    (fun k d => View.ld x5 (Rect.unit ![0, 0, 0] ![1, 5120, 1280] inb_S4x5120x1280_S1x5120x1280_0_0_0) (ix3 0 k d)) = fun k d => x5 (ix3 0 k d) := funext fun k => funext fun d => ldMat x5 _ _ k d 0 rfl rfl rfl

/-- The layer norm's codes. -/
theorem in_val (y : S16384x1280.Idx) :
    k0_pay2 (F := Ideal) x1 (x0 (ix2 0 4)) (View.ld x8 (Rect.unit ![0, 0] ![1, 1280] inb_S4x1280_S1x1280_0_0))
      (View.ld x9 (Rect.unit ![0, 0] ![1, 1280] inb_S4x1280_S1x1280_0_0)) y = inAll 0 x0 x1 x8 x9 (y 0) (y 1) := by
  rw [in_at]
  rw [ldA x8, ldA x9]
  rfl

/-- The hidden units' codes. -/
theorem mid_val (y : S16384x5120.Idx) :
    k0_pay4 (F := Ideal) (x0 (ix2 0 4)) (x0 (ix2 0 5))
      (k0_pay2 (F := Ideal) x1 (x0 (ix2 0 4)) (View.ld x8 (Rect.unit ![0, 0] ![1, 1280] inb_S4x1280_S1x1280_0_0))
        (View.ld x9 (Rect.unit ![0, 0] ![1, 1280] inb_S4x1280_S1x1280_0_0)))
      (k0_pay3 (F := Ideal) (View.ld x2 (Rect.unit ![0, 0, 0] ![1, 1280, 10240] inb_S4x1280x10240_S1x1280x10240_0_0_0)))
      (View.ld x3 (Rect.unit ![0, 0] ![1, 10240] inb_S4x10240_S1x10240_0_0))
      (View.ld x4 (Rect.unit ![0, 0] ![1, 10240] inb_S4x10240_S1x10240_0_0)) y = midAll 0 x0 x1 x2 x3 x4 x8 x9 (y 0) (y 1) := by
  rw [mid_at]
  rw [ldB x3, ldB x4, ldC x2]
  simp only [in_val]
  rfl

/-- The sum returned. -/
theorem out_val (y : S16384x1280.Idx) :
    k0_pay1 (F := Ideal) x1 (k0_pay5 (F := Ideal) (View.ld x6 (Rect.unit ![0, 0] ![1, 1280] inb_S4x1280_S1x1280_0_0)))
      (k0_pay6 (F := Ideal) (View.ld x7 (Rect.unit ![0, 0] ![1, 1280] inb_S4x1280_S1x1280_0_0)))
      (k0_pay7 (F := Ideal) (x0 (ix2 0 4)) (x0 (ix2 0 5))
        (k0_pay2 (F := Ideal) x1 (x0 (ix2 0 4)) (View.ld x8 (Rect.unit ![0, 0] ![1, 1280] inb_S4x1280_S1x1280_0_0))
          (View.ld x9 (Rect.unit ![0, 0] ![1, 1280] inb_S4x1280_S1x1280_0_0)))
        (k0_pay3 (F := Ideal) (View.ld x2 (Rect.unit ![0, 0, 0] ![1, 1280, 10240] inb_S4x1280x10240_S1x1280x10240_0_0_0)))
        (View.ld x3 (Rect.unit ![0, 0] ![1, 10240] inb_S4x10240_S1x10240_0_0))
        (View.ld x4 (Rect.unit ![0, 0] ![1, 10240] inb_S4x10240_S1x10240_0_0))
        (View.ld x5 (Rect.unit ![0, 0, 0] ![1, 5120, 1280] inb_S4x5120x1280_S1x5120x1280_0_0_0)))
      (k0_pay8 (F := Ideal) (x0 (ix2 0 5))) y = outAll 0 x0 x1 x2 x3 x4 x5 x6 x7 x8 x9 (y 0) (y 1) := by
  rw [out_at]
  rw [ldA x6, ldA x7, ldD x5]
  simp only [mid_val]
  rfl

/-! ## What the body leaves -/

variable (c : Dev nD) (arg0 : Memref sig .tc .smem S4x6 .f32) (harg0 : arg0.IsWhole) (arg1 : Memref sig .tc .vmem S16384x1280 .f32) (harg1 : arg1.IsWhole) (arg2 : Memref sig .tc .vmem S4x1280x10240 .fp8e4m3) (harg2 : arg2.IsWhole) (arg3 : Memref sig .tc .vmem S4x10240 .f32) (harg3 : arg3.IsWhole) (arg4 : Memref sig .tc .vmem S4x10240 .f32) (harg4 : arg4.IsWhole) (arg5 : Memref sig .tc .vmem S4x5120x1280 .fp8e4m3) (harg5 : arg5.IsWhole) (arg6 : Memref sig .tc .vmem S4x1280 .f32) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S16384x1280 .f32) (harg10 : arg10.IsWhole) (arg11 : Memref sig .tc .vmem S16384x1280 .fp8e4m3) (harg11 : arg11.IsWhole) (arg12 : Memref sig .tc .vmem S16384x5120 .fp8e4m3) (harg12 : arg12.IsWhole)

/-- The second result's buffer: the layer norm's codes. -/
theorem in_out : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = fun y : S16384x1280.Idx => inAll 0 x0 x1 x8 x9 (y 0) (y 1) := by
  funext y
  frame_out
  rw [ld4 x0]
  exact in_val x0 x1 x8 x9 y

/-- The third result's buffer: the hidden units' codes. -/
theorem mid_out : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = fun y : S16384x5120.Idx => midAll 0 x0 x1 x2 x3 x4 x8 x9 (y 0) (y 1) := by
  funext y
  frame_out
  rw [ld4 x0, ld5 x0]
  exact mid_val x0 x1 x2 x3 x4 x8 x9 y

/-- The first result's buffer: the sum returned. -/
theorem out_out : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = fun y : S16384x1280.Idx => outAll 0 x0 x1 x2 x3 x4 x5 x6 x7 x8 x9 (y 0) (y 1) := by
  funext y
  frame_out
  rw [ld4 x0, ld5 x0]
  exact out_val x0 x1 x2 x3 x4 x5 x6 x7 x8 x9 y

/-! ## The arrays -/

variable (m : (ℓ : Loc nD τ sig) → Buf (Elt Ideal) ℓ)

/-- The one grid point stages every argument whole. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- Argument 0 is staged whole. -/
theorem blk0 (t : Fin cfg0.N) : iblk m c 0 t = m ((c.tc : Thread nD τ).loc main_arg0) := by
  funext y
  blk_simp [iblk, V]
  refine congrArg _ ?_
  blk_ext [idx t]

/-- Argument 1 is staged whole. -/
theorem blk1 (t : Fin cfg0.N) : iblk m c 1 t = m ((c.tc : Thread nD τ).loc main_arg1) := by
  funext y
  blk_simp [iblk, V]
  refine congrArg _ ?_
  blk_ext [idx t]

/-- Argument 2 is staged whole. -/
theorem blk2 (t : Fin cfg0.N) : iblk m c 2 t = m ((c.tc : Thread nD τ).loc main_arg2) := by
  funext y
  blk_simp [iblk, V]
  refine congrArg _ ?_
  blk_ext [idx t]

/-- Argument 3 is staged whole. -/
theorem blk3 (t : Fin cfg0.N) : iblk m c 3 t = m ((c.tc : Thread nD τ).loc main_arg3) := by
  funext y
  blk_simp [iblk, V]
  refine congrArg _ ?_
  blk_ext [idx t]

/-- Argument 4 is staged whole. -/
theorem blk4 (t : Fin cfg0.N) : iblk m c 4 t = m ((c.tc : Thread nD τ).loc main_arg4) := by
  funext y
  blk_simp [iblk, V]
  refine congrArg _ ?_
  blk_ext [idx t]

/-- Argument 5 is staged whole. -/
theorem blk5 (t : Fin cfg0.N) : iblk m c 5 t = m ((c.tc : Thread nD τ).loc main_arg5) := by
  funext y
  blk_simp [iblk, V]
  refine congrArg _ ?_
  blk_ext [idx t]

/-- Argument 6 is staged whole. -/
theorem blk6 (t : Fin cfg0.N) : iblk m c 6 t = m ((c.tc : Thread nD τ).loc main_arg6) := by
  funext y
  blk_simp [iblk, V]
  refine congrArg _ ?_
  blk_ext [idx t]

/-- Argument 7 is staged whole. -/
theorem blk7 (t : Fin cfg0.N) : iblk m c 7 t = m ((c.tc : Thread nD τ).loc main_arg7) := by
  funext y
  blk_simp [iblk, V]
  refine congrArg _ ?_
  blk_ext [idx t]

/-- Argument 8 is staged whole. -/
theorem blk8 (t : Fin cfg0.N) : iblk m c 8 t = m ((c.tc : Thread nD τ).loc main_arg8) := by
  funext y
  blk_simp [iblk, V]
  refine congrArg _ ?_
  blk_ext [idx t]

/-- Argument 9 is staged whole. -/
theorem blk9 (t : Fin cfg0.N) : iblk m c 9 t = m ((c.tc : Thread nD τ).loc main_arg9) := by
  funext y
  blk_simp [iblk, V]
  refine congrArg _ ?_
  blk_ext [idx t]

/-- The second result. -/
theorem in_array :
    (dats (F := Ideal) m 0 c).arrAt 11 cfg0.N = fun y : S16384x1280.Idx => inAll 0 (m ((c.tc : Thread nD τ).loc main_arg0)) (m ((c.tc : Thread nD τ).loc main_arg1)) (m ((c.tc : Thread nD τ).loc main_arg8)) (m ((c.tc : Thread nD τ).loc main_arg9)) (y 0) (y 1) := by
  refine (dats m 0 c).arrAt_eq_of_after_last 11 t0_0 (by decide +kernel) _ fun y => ?_
  blk_simp
  rw [after0_11]
  unfold outsAt0
  dsimp only
  rw [in_out, blk0, blk1, blk8, blk9]

/-- The third result. -/
theorem mid_array :
    (dats (F := Ideal) m 0 c).arrAt 12 cfg0.N = fun y : S16384x5120.Idx => midAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (y 0) (y 1) := by
  refine (dats m 0 c).arrAt_eq_of_after_last 12 t0_0 (by decide +kernel) _ fun y => ?_
  blk_simp
  rw [after0_12]
  unfold outsAt0
  dsimp only
  rw [mid_out, blk0, blk1, blk2, blk3, blk4, blk8, blk9]

/-- The first result. -/
theorem out_array :
    (dats (F := Ideal) m 0 c).arrAt 10 cfg0.N = fun y : S16384x1280.Idx => outAll 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_after_last 10 t0_0 (by decide +kernel) _ fun y => ?_
  blk_simp
  rw [after0_10]
  unfold outsAt0
  dsimp only
  rw [out_out, blk0, blk1, blk2, blk3, blk4, blk5, blk6, blk7, blk8, blk9]

end Cert.ReferenceIdeal.Block

end
-- ==== Proof.Pre.lean ====
/-
  What the precondition says: the two scales that the quantisers divide by are not zero.
-/
module

public import proofs.«01_k».proof.Defs
public import Idealize.ShloMosaic.Lib.Pipeline.ValueKit

@[expose] public section

noncomputable section

namespace Cert.Pre_scales_nonzero

open Idealize.ShloMosaic

/-- The side conditions the predicate's operations state. -/
instance facts : Cert.Pre_scales_nonzero.Facts where
  slices_S4x6_S1x2_0_4 := by decide +kernel
  shapeCasts_S1x2_S2 := by decide +kernel
  bcast_S_S2 := by decide +kernel

variable (a0 : FVec Ideal S4x6 .f32) (a1 : FVec Ideal S16384x1280 .f32) (a2 : FVec Ideal S4x1280x10240 .fp8e4m3) (a3 a4 : FVec Ideal S4x10240 .f32)
  (a5 : FVec Ideal S4x5120x1280 .fp8e4m3) (a6 a7 a8 a9 : FVec Ideal S4x1280 .f32)

/-- Where the predicate holds, scales 4 and 5 of the leading row are not zero. -/
theorem nonzero (h : fn (F := Ideal) a0 a1 a2 a3 a4 a5 a6 a7 a8 a9 = fun _ => 1#1) :
    a0 (ix2 0 4) ≠ (0 : EReal) ∧ a0 (ix2 0 5) ≠ (0 : EReal) := by
  have h4 := congrFun h (ix1 0)
  have h5 := congrFun h (ix1 1)
  pointwise [fn] at h4 h5
  have one : ∀ b : Bool, BitVec.ofBool b = 1#1 → b = true := by decide
  exact ⟨of_decide_eq_true (one _ h4), of_decide_eq_true (one _ h5)⟩

end Cert.Pre_scales_nonzero

end
-- ==== Proof.Later.Program.lean ====
/-
  The feed-forward call of one transformer block as a program, with the block's number as a parameter: the text printed
  for a single block, in which the number of the block (the row of the tables, the slice of the weights) is `Blk.k`.
  At `k = 1, 2, 3` it is, up to names, the printed call of that block.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

set_option synthInstance.maxSize 4096

noncomputable section

namespace Cert.Later

open Idealize.ShloMosaic Idealize.SL.Sem
open Idealize.ShloMosaic.RefSig (ofTc tcTables tileCredit tileCredit_eq_zero tileCredit_pos)

/-- The block that the call belongs to: a number below four. -/
class Blk where
  k : ℕ
  lt : k < 4

abbrev S4x6 : Shape := ⟨2, ![4, 6]⟩
abbrev S16384x1280 : Shape := ⟨2, ![16384, 1280]⟩
abbrev S4x1280x10240 : Shape := ⟨3, ![4, 1280, 10240]⟩
abbrev S4x10240 : Shape := ⟨2, ![4, 10240]⟩
abbrev S4x5120x1280 : Shape := ⟨3, ![4, 5120, 1280]⟩
abbrev S4x1280 : Shape := ⟨2, ![4, 1280]⟩
abbrev S512x1280 : Shape := ⟨2, ![512, 1280]⟩
abbrev S1x1280x10240 : Shape := ⟨3, ![1, 1280, 10240]⟩
abbrev S1x5120x1280 : Shape := ⟨3, ![1, 5120, 1280]⟩
abbrev S512x5120 : Shape := ⟨2, ![512, 5120]⟩
abbrev S1x1 : Shape := ⟨2, ![1, 1]⟩
abbrev S1x1280 : Shape := ⟨2, ![1, 1280]⟩
abbrev S128x1280 : Shape := ⟨2, ![128, 1280]⟩
abbrev S128 : Shape := ⟨1, ![128]⟩
abbrev S128x1 : Shape := ⟨2, ![128, 1]⟩
abbrev S1x512 : Shape := ⟨2, ![1, 512]⟩
abbrev S1x1280x512 : Shape := ⟨3, ![1, 1280, 512]⟩
abbrev S1280x512 : Shape := ⟨2, ![1280, 512]⟩
abbrev S512x512 : Shape := ⟨2, ![512, 512]⟩
abbrev S1x5120x256 : Shape := ⟨3, ![1, 5120, 256]⟩
abbrev S5120x256 : Shape := ⟨2, ![5120, 256]⟩
abbrev S512x256 : Shape := ⟨2, ![512, 256]⟩
abbrev S1x256 : Shape := ⟨2, ![1, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x6, .f32⟩
  | .hbm, ⟨1, _⟩ => ⟨S16384x1280, .f32⟩
  | .hbm, ⟨2, _⟩ => ⟨S4x1280x10240, .fp8e4m3⟩
  | .hbm, ⟨3, _⟩ => ⟨S4x10240, .f32⟩
  | .hbm, ⟨4, _⟩ => ⟨S4x10240, .f32⟩
  | .hbm, ⟨5, _⟩ => ⟨S4x5120x1280, .fp8e4m3⟩
  | .hbm, ⟨6, _⟩ => ⟨S4x1280, .f32⟩
  | .hbm, ⟨7, _⟩ => ⟨S4x1280, .f32⟩
  | .hbm, ⟨8, _⟩ => ⟨S4x1280, .f32⟩
  | .hbm, ⟨9, _⟩ => ⟨S4x1280, .f32⟩
  | .hbm, ⟨10, _⟩ => ⟨S16384x1280, .f32⟩
  | .local _ .vmem, ⟨0, _⟩ => ⟨S512x1280, .f32⟩
  | .local _ .vmem, ⟨1, _⟩ => ⟨S512x1280, .f32⟩
  | .local _ .vmem, ⟨2, _⟩ => ⟨S1x1280x10240, .fp8e4m3⟩
  | .local _ .vmem, ⟨3, _⟩ => ⟨S4x10240, .f32⟩
  | .local _ .vmem, ⟨4, _⟩ => ⟨S4x10240, .f32⟩
  | .local _ .vmem, ⟨5, _⟩ => ⟨S1x5120x1280, .fp8e4m3⟩
  | .local _ .vmem, ⟨6, _⟩ => ⟨S4x1280, .f32⟩
  | .local _ .vmem, ⟨7, _⟩ => ⟨S4x1280, .f32⟩
  | .local _ .vmem, ⟨8, _⟩ => ⟨S4x1280, .f32⟩
  | .local _ .vmem, ⟨9, _⟩ => ⟨S4x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .fp8e4m3⟩
  | .local _ .vmem, ⟨13, _⟩ => ⟨S512x5120, .fp8e4m3⟩
  | .local _ .smem, ⟨0, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩

abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1

abbrev τ : Topo := Topo.v7x

variable {F : FTy → Type} [FloatOps F]

variable [Blk]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩

def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : Index := Scalar.indexCast v13
  let c0_12 : Index := 0#32
  ![v14.toNat, 0]

@[reducible] def k0_t2_loop : Scf.Loop 32 :=
  let c0_i32_6 : BitVec 32 := 0#32
  let c10_i32 : BitVec 32 := 10#32
  let v11 : BitVec 32 := Scalar.addi c0_i32_6 c10_i32
  let c1_i32_7 : BitVec 32 := 1#32
  ⟨c0_i32_6, v11, c1_i32_7⟩

def k0_mult1 (k0_t2 : Fin k0_t2_loop.trips) : BitVec 32 :=
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  v13

def k0_mult2 (k0_t2 : Fin k0_t2_loop.trips) : BitVec 32 :=
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  v16

def k0_off2 (k0_t2 : Fin k0_t2_loop.trips) : Fin 3 → Nat :=
  let c0_15 : Index := 0#32
  let c0_16 : Index := 0#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v19 : Index := Scalar.indexCast v17
  ![0, 0, v19.toNat]

def k0_off3 (k0_t2 : Fin k0_t2_loop.trips) : Fin 2 → Nat :=
  let c1_18 : Index := 1#32
  let c5120_i32 : BitVec 32 := 5120#32
  let c0_i32_6 : BitVec 32 := 0#32
  let c1_i32_7 : BitVec 32 := 1#32
  let arg14 : BitVec 32 := Scf.iv c0_i32_6 c1_i32_7 k0_t2
  let c512_i32_12 : BitVec 32 := 512#32
  let v15 : BitVec 32 := Scalar.muli arg14 c512_i32_12
  let v16 : BitVec 32 := Scalar.addi c5120_i32 v15
  let v17 : BitVec 32 := v16
  let v23 : Index := Scalar.indexCast v17
  ![Blk.k, v23.toNat]

def k0_off4 (k0_t2 : Fin k0_t2_loop.trips) : Fin 3 → Nat :=
  let c0_23 : Index := 0#32
  let c0_24 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v41 : Index := Scalar.indexCast v14
  ![0, 0, v41.toNat]

def k0_off5 (k0_t2 : Fin k0_t2_loop.trips) : Fin 2 → Nat :=
  let c1_26 : Index := 1#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v45 : Index := Scalar.indexCast v14
  ![Blk.k, v45.toNat]

def k0_off6 (k0_t2 : Fin k0_t2_loop.trips) : Fin 2 → Nat :=
  let c0_30 : Index := 0#32
  let c0_i32_6 : BitVec 32 := 0#32
  let c1_i32_7 : BitVec 32 := 1#32
  let arg14 : BitVec 32 := Scf.iv c0_i32_6 c1_i32_7 k0_t2
  let c512_i32 : BitVec 32 := 512#32
  let v13 : BitVec 32 := Scalar.muli arg14 c512_i32
  let v14 : BitVec 32 := v13
  let v63 : Index := Scalar.indexCast v14
  ![0, v63.toNat]

@[reducible] def k0_t3_loop : Scf.Loop 32 :=
  let c0_i32_9 : BitVec 32 := 0#32
  let c5_i32 : BitVec 32 := 5#32
  let v12 : BitVec 32 := Scalar.addi c0_i32_9 c5_i32
  let c1_i32_10 : BitVec 32 := 1#32
  ⟨c0_i32_9, v12, c1_i32_10⟩

def k0_mult3 (k0_t3 : Fin k0_t3_loop.trips) : BitVec 32 :=
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  v13

def k0_off7 (k0_t3 : Fin k0_t3_loop.trips) : Fin 3 → Nat :=
  let c0_14 : Index := 0#32
  let c0_15 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v16 : Index := Scalar.indexCast v14
  ![0, 0, v16.toNat]

def k0_off8 (k0_t3 : Fin k0_t3_loop.trips) : Fin 2 → Nat :=
  let c0_17 : Index := 0#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v20 : Index := Scalar.indexCast v14
  ![0, v20.toNat]

def k0_off9 (k0_t3 : Fin k0_t3_loop.trips) : Fin 2 → Nat :=
  let c1_18 : Index := 1#32
  let c0_i32_9 : BitVec 32 := 0#32
  let c1_i32_10 : BitVec 32 := 1#32
  let arg14 : BitVec 32 := Scf.iv c0_i32_9 c1_i32_10 k0_t3
  let c256_i32 : BitVec 32 := 256#32
  let v13 : BitVec 32 := Scalar.muli arg14 c256_i32
  let v14 : BitVec 32 := v13
  let v22 : Index := Scalar.indexCast v14
  ![Blk.k, v22.toNat]

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := BitVec.ofNat 32 Blk.k
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := BitVec.ofNat 32 Blk.k
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))

abbrev reads0_1 : Fin grid0.rank → Bool := ![true]

abbrev stage0_2 : Fin 1 → Memref sig .tc .vmem S1x1280x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev reads0_2 : Fin grid0.rank → Bool := ![false]

abbrev stage0_3 : Fin 1 → Memref sig .tc .vmem S4x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev reads0_3 : Fin grid0.rank → Bool := ![false]

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev reads0_4 : Fin grid0.rank → Bool := ![false]

abbrev stage0_5 : Fin 1 → Memref sig .tc .vmem S1x5120x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev reads0_6 : Fin grid0.rank → Bool := ![false]

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev reads0_7 : Fin grid0.rank → Bool := ![false]

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev reads0_8 : Fin grid0.rank → Bool := ![false]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))

abbrev reads0_10 : Fin grid0.rank → Bool := ![true]

class Facts₀ : Prop where
  inb_S4x6_S1x1_k_4 : ∀ a, (![Blk.k, 4] : Fin 2 → Nat) a + S1x1.size a ≤ S4x6.size a
  numel1_S1x1 : S1x1.numel = 1
  inb_S4x1280_S1x1280_k_0 : ∀ a, (![Blk.k, 0] : Fin 2 → Nat) a + S1x1280.size a ≤ S4x1280.size a
  h_S1x1280 : 0 < S1x1280.numel
  h_S128x1280 : 0 < S128x1280.numel
  reduces_S128x1280_S128 : S128x1280.Reduces [1] S128
  shapeCasts_S128_S128x1 : S128.ShapeCasts S128x1
  broadcasts_S128x1_S128x1280 : S128x1.Broadcasts S128x1280
  broadcasts_S1x1280_S128x1280 : S1x1280.Broadcasts S128x1280
  bitsLt_fp8e4m3_f32 : FTy.bits .fp8e4m3 < FTy.bits .f32
  shapeCasts_S128x1280_S128x1280 : S128x1280.ShapeCasts S128x1280
  inb_S4x6_S1x1_k_5 : ∀ a, (![Blk.k, 5] : Fin 2 → Nat) a + S1x1.size a ≤ S4x6.size a
  inb_S512x1280_S512x1280_0_0 : ∀ a, (![0, 0] : Fin 2 → Nat) a + S512x1280.size a ≤ S512x1280.size a
  h_S512x1280 : 0 < S512x1280.numel
  h_S1x1280x512 : 0 < S1x1280x512.numel
  shapeCasts_S1x1280x512_S1280x512 : S1x1280x512.ShapeCasts S1280x512
  h_S1x512 : 0 < S1x512.numel
  broadcasts_S1x512_S512x512 : S1x512.Broadcasts S512x512
  h_S512x512 : 0 < S512x512.numel
  shapeCasts_S512x512_S512x512 : S512x512.ShapeCasts S512x512
  inb_S512x5120_S512x5120_0_0 : ∀ a, (![0, 0] : Fin 2 → Nat) a + S512x5120.size a ≤ S512x5120.size a
  h_S512x5120 : 0 < S512x5120.numel
  h_S1x5120x256 : 0 < S1x5120x256.numel
  shapeCasts_S1x5120x256_S5120x256 : S1x5120x256.ShapeCasts S5120x256
  h_S512x256 : 0 < S512x256.numel
  h_S1x256 : 0 < S1x256.numel
  broadcasts_S1x256_S512x256 : S1x256.Broadcasts S512x256
  dot_S512x1280_S1280x512_S512x512_1_0_0_1_n_n_wf : DotDims.WF S512x1280 S1280x512 S512x512 [1] [0] [0] [1] [] []
  dot_S512x5120_S5120x256_S512x256_1_0_0_1_n_n_wf : DotDims.WF S512x5120 S5120x256 S512x256 [1] [0] [0] [1] [] []

  hrank0 : 0 < grid0.rank

  k0_t1_ok : k0_t1_loop.OK
  k0_off1_inb : ∀ k0_t1 : Fin k0_t1_loop.trips, ∀ a, (k0_off1 k0_t1) a + S128x1280.size a ≤ S512x1280.size a
  k0_off1_packedfp8e4m3 : ∀ k0_t1 : Fin k0_t1_loop.trips, (Rect.unit (s := S512x1280) (k0_off1 k0_t1) S128x1280.size (k0_off1_inb k0_t1)).PackedRows (EltTy.packing .fp8e4m3)

  k0_t2_ok : k0_t2_loop.OK
  k0_mult1_dvd : ∀ k0_t2 : Fin k0_t2_loop.trips, 512 ∣ (k0_mult1 k0_t2).toNat
  k0_mult2_dvd : ∀ k0_t2 : Fin k0_t2_loop.trips, 512 ∣ (k0_mult2 k0_t2).toNat
  k0_off2_inb : ∀ k0_t2 : Fin k0_t2_loop.trips, ∀ a, (k0_off2 k0_t2) a + S1x1280x512.size a ≤ S1x1280x10240.size a
  k0_off3_inb : ∀ k0_t2 : Fin k0_t2_loop.trips, ∀ a, (k0_off3 k0_t2) a + S1x512.size a ≤ S4x10240.size a
  k0_off4_inb : ∀ k0_t2 : Fin k0_t2_loop.trips, ∀ a, (k0_off4 k0_t2) a + S1x1280x512.size a ≤ S1x1280x10240.size a
  k0_off5_inb : ∀ k0_t2 : Fin k0_t2_loop.trips, ∀ a, (k0_off5 k0_t2) a + S1x512.size a ≤ S4x10240.size a
  k0_off6_inb : ∀ k0_t2 : Fin k0_t2_loop.trips, ∀ a, (k0_off6 k0_t2) a + S512x512.size a ≤ S512x5120.size a
  k0_off6_packedfp8e4m3 : ∀ k0_t2 : Fin k0_t2_loop.trips, (Rect.unit (s := S512x5120) (k0_off6 k0_t2) S512x512.size (k0_off6_inb k0_t2)).PackedRows (EltTy.packing .fp8e4m3)

  k0_t3_ok : k0_t3_loop.OK
  k0_mult3_dvd : ∀ k0_t3 : Fin k0_t3_loop.trips, 256 ∣ (k0_mult3 k0_t3).toNat
  k0_off7_inb : ∀ k0_t3 : Fin k0_t3_loop.trips, ∀ a, (k0_off7 k0_t3) a + S1x5120x256.size a ≤ S1x5120x1280.size a
  k0_off8_inb : ∀ k0_t3 : Fin k0_t3_loop.trips, ∀ a, (k0_off8 k0_t3) a + S512x256.size a ≤ S512x1280.size a
  k0_off9_inb : ∀ k0_t3 : Fin k0_t3_loop.trips, ∀ a, (k0_off9 k0_t3) a + S1x256.size a ≤ S4x1280.size a

  hstage0_0 : ∀ j, (stage0_0 j).IsWhole

  nbuf0_0 : grid0.bufCount reads0_0 false = 1

  hreads0_0 : ∀ i i' : grid0.Coords, (∀ a, reads0_0 a = true → i a = i' a) → cc0_transform_0 i = cc0_transform_0 i'

  hinb0_0 : ∀ (i : grid0.Coords) a, (cc0_transform_0 i a + 1) * S4x6.size a ≤ S4x6.size a

  hwx0_0 : ∀ i : grid0.Coords, EltTy.bits .f32 = 32 ∨ (Rect.block (s := S4x6) S4x6.size (cc0_transform_0 i) (hinb0_0 i)).WholeWords (EltTy.packing .f32)

  hstage0_1 : ∀ j, (stage0_1 j).IsWhole

  nbuf0_1 : grid0.bufCount reads0_1 false = 2

  hreads0_1 : ∀ i i' : grid0.Coords, (∀ a, reads0_1 a = true → i a = i' a) → cc0_transform_1 i = cc0_transform_1 i'

  hinb0_1 : ∀ (i : grid0.Coords) a, (cc0_transform_1 i a + 1) * S512x1280.size a ≤ S16384x1280.size a

  hwx0_1 : ∀ i : grid0.Coords, EltTy.bits .f32 = 32 ∨ (Rect.block (s := S16384x1280) S512x1280.size (cc0_transform_1 i) (hinb0_1 i)).WholeWords (EltTy.packing .f32)

  hstage0_2 : ∀ j, (stage0_2 j).IsWhole

  nbuf0_2 : grid0.bufCount reads0_2 false = 1

  hreads0_2 : ∀ i i' : grid0.Coords, (∀ a, reads0_2 a = true → i a = i' a) → cc0_transform_2 i = cc0_transform_2 i'

  hinb0_2 : ∀ (i : grid0.Coords) a, (cc0_transform_2 i a + 1) * S1x1280x10240.size a ≤ S4x1280x10240.size a

  hwx0_2 : ∀ i : grid0.Coords, EltTy.bits .fp8e4m3 = 32 ∨ (Rect.block (s := S4x1280x10240) S1x1280x10240.size (cc0_transform_2 i) (hinb0_2 i)).WholeWords (EltTy.packing .fp8e4m3)

  hstage0_3 : ∀ j, (stage0_3 j).IsWhole

  nbuf0_3 : grid0.bufCount reads0_3 true = 1

  hreads0_3 : ∀ i i' : grid0.Coords, (∀ a, reads0_3 a = true → i a = i' a) → cc0_transform_3 i = cc0_transform_3 i'

  hinb0_3 : ∀ (i : grid0.Coords) a, (cc0_transform_3 i a + 1) * S4x10240.size a ≤ S4x10240.size a

  hwx0_3 : ∀ i : grid0.Coords, EltTy.bits .f32 = 32 ∨ (Rect.block (s := S4x10240) S4x10240.size (cc0_transform_3 i) (hinb0_3 i)).WholeWords (EltTy.packing .f32)

  hstage0_4 : ∀ j, (stage0_4 j).IsWhole

  nbuf0_4 : grid0.bufCount reads0_4 true = 1

  hreads0_4 : ∀ i i' : grid0.Coords, (∀ a, reads0_4 a = true → i a = i' a) → cc0_transform_4 i = cc0_transform_4 i'

  hinb0_4 : ∀ (i : grid0.Coords) a, (cc0_transform_4 i a + 1) * S4x10240.size a ≤ S4x10240.size a

  hwx0_4 : ∀ i : grid0.Coords, EltTy.bits .f32 = 32 ∨ (Rect.block (s := S4x10240) S4x10240.size (cc0_transform_4 i) (hinb0_4 i)).WholeWords (EltTy.packing .f32)

  hstage0_5 : ∀ j, (stage0_5 j).IsWhole

  nbuf0_5 : grid0.bufCount reads0_5 false = 1

  hreads0_5 : ∀ i i' : grid0.Coords, (∀ a, reads0_5 a = true → i a = i' a) → cc0_transform_5 i = cc0_transform_5 i'

  hinb0_5 : ∀ (i : grid0.Coords) a, (cc0_transform_5 i a + 1) * S1x5120x1280.size a ≤ S4x5120x1280.size a

  hwx0_5 : ∀ i : grid0.Coords, EltTy.bits .fp8e4m3 = 32 ∨ (Rect.block (s := S4x5120x1280) S1x5120x1280.size (cc0_transform_5 i) (hinb0_5 i)).WholeWords (EltTy.packing .fp8e4m3)

  hstage0_6 : ∀ j, (stage0_6 j).IsWhole

  nbuf0_6 : grid0.bufCount reads0_6 true = 1

  hreads0_6 : ∀ i i' : grid0.Coords, (∀ a, reads0_6 a = true → i a = i' a) → cc0_transform_6 i = cc0_transform_6 i'

  hinb0_6 : ∀ (i : grid0.Coords) a, (cc0_transform_6 i a + 1) * S4x1280.size a ≤ S4x1280.size a

  hwx0_6 : ∀ i : grid0.Coords, EltTy.bits .f32 = 32 ∨ (Rect.block (s := S4x1280) S4x1280.size (cc0_transform_6 i) (hinb0_6 i)).WholeWords (EltTy.packing .f32)

  hstage0_7 : ∀ j, (stage0_7 j).IsWhole

  nbuf0_7 : grid0.bufCount reads0_7 true = 1

  hreads0_7 : ∀ i i' : grid0.Coords, (∀ a, reads0_7 a = true → i a = i' a) → cc0_transform_7 i = cc0_transform_7 i'

  hinb0_7 : ∀ (i : grid0.Coords) a, (cc0_transform_7 i a + 1) * S4x1280.size a ≤ S4x1280.size a

  hwx0_7 : ∀ i : grid0.Coords, EltTy.bits .f32 = 32 ∨ (Rect.block (s := S4x1280) S4x1280.size (cc0_transform_7 i) (hinb0_7 i)).WholeWords (EltTy.packing .f32)

  hstage0_8 : ∀ j, (stage0_8 j).IsWhole

  nbuf0_8 : grid0.bufCount reads0_8 true = 1

  hreads0_8 : ∀ i i' : grid0.Coords, (∀ a, reads0_8 a = true → i a = i' a) → cc0_transform_8 i = cc0_transform_8 i'

  hinb0_8 : ∀ (i : grid0.Coords) a, (cc0_transform_8 i a + 1) * S4x1280.size a ≤ S4x1280.size a

  hwx0_8 : ∀ i : grid0.Coords, EltTy.bits .f32 = 32 ∨ (Rect.block (s := S4x1280) S4x1280.size (cc0_transform_8 i) (hinb0_8 i)).WholeWords (EltTy.packing .f32)

  hstage0_9 : ∀ j, (stage0_9 j).IsWhole

  nbuf0_9 : grid0.bufCount reads0_9 true = 1

  hreads0_9 : ∀ i i' : grid0.Coords, (∀ a, reads0_9 a = true → i a = i' a) → cc0_transform_9 i = cc0_transform_9 i'

  hinb0_9 : ∀ (i : grid0.Coords) a, (cc0_transform_9 i a + 1) * S4x1280.size a ≤ S4x1280.size a

  hwx0_9 : ∀ i : grid0.Coords, EltTy.bits .f32 = 32 ∨ (Rect.block (s := S4x1280) S4x1280.size (cc0_transform_9 i) (hinb0_9 i)).WholeWords (EltTy.packing .f32)

  hstage0_10 : ∀ j, (stage0_10 j).IsWhole

  nbuf0_10 : grid0.bufCount reads0_10 false = 2

  hreads0_10 : ∀ i i' : grid0.Coords, (∀ a, reads0_10 a = true → i a = i' a) → cc0_transform_10 i = cc0_transform_10 i'

  hinb0_10 : ∀ (i : grid0.Coords) a, (cc0_transform_10 i a + 1) * S512x1280.size a ≤ S16384x1280.size a

  hwx0_10 : ∀ i : grid0.Coords, EltTy.bits .f32 = 32 ∨ (Rect.block (s := S16384x1280) S512x1280.size (cc0_transform_10 i) (hinb0_10 i)).WholeWords (EltTy.packing .f32)

section
variable [Facts₀]
open Facts₀

def dot_S512x1280_S1280x512_S512x512_1_0_0_1_n_n : DotDims S512x1280 S1280x512 S512x512 where
  lhsContracting := [1]
  rhsContracting := [0]
  lhsNonContracting := [0]
  rhsNonContracting := [1]
  lhsBatch := []
  rhsBatch := []
  wf := dot_S512x1280_S1280x512_S512x512_1_0_0_1_n_n_wf
def dot_S512x5120_S5120x256_S512x256_1_0_0_1_n_n : DotDims S512x5120 S5120x256 S512x256 where
  lhsContracting := [1]
  rhsContracting := [0]
  lhsNonContracting := [0]
  rhsNonContracting := [1]
  lhsBatch := []
  rhsBatch := []
  wf := dot_S512x5120_S5120x256_S512x256_1_0_0_1_n_n_wf

abbrev win0_0 : Pipeline.Window sig grid0 :=
  Pipeline.Window.ofSpec (Memref.whole main_arg0) S4x6.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1280x10240.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x10240.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x10240.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x5120x1280.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1280.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x1280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x1280.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S512x1280.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))

abbrev spec0 : Fin 11 → Pipeline.WinSpec sig grid0.rank := fun w => (win0 w).toWinSpec

end

class Facts : Prop extends Facts₀ where

variable [Facts]
open Facts₀ Facts

abbrev Λ₀ : Labels := ⟨Fin 1, fun | 0 => Fin grid0.N × ((w : Fin 11) → Fin (win0 w).nbuf) | ⟨_ + 1, h⟩ => absurd h (Nat.not_lt.2 (Nat.le_add_left _ _)), fun _ => PUnit⟩

noncomputable def k0_part1 (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (c0_i32_6 : BitVec 32) (c1_i32_7 : BitVec 32) (k0_t2 : Fin k0_t2_loop.trips) :
    Prog (TpuEff nD τ sig (Elt F) Λ₀ .tc) (Σ' (v14 : BitVec 32) (v40 : FVec F S512x512 .f32) (v50 : FVec F S512x512 .f32), FVec F S512x512 .f32) := do
  let arg14 : BitVec 32 := Scf.iv c0_i32_6 c1_i32_7 k0_t2
  let c512_i32 : BitVec 32 := 512#32
  let v13 : BitVec 32 := Scalar.muli arg14 c512_i32
  let v14 : BitVec 32 := v13
  let c512_i32_12 : BitVec 32 := 512#32
  let v15 : BitVec 32 := Scalar.muli arg14 c512_i32_12
  let c5120_i32 : BitVec 32 := 5120#32
  let v16 : BitVec 32 := Scalar.addi c5120_i32 v15
  let v17 : BitVec 32 := v16
  let c0_13 : Index := 0#32
  let c0_14 : Index := 0#32
  let v18 : Vec F S512x1280 .fp8e4m3 ← Prog.lift (.load arg12 (Rect.unit (s := S512x1280) ![0, 0] S512x1280.size inb_S512x1280_S512x1280_0_0).toLoadRect (View.loadsAt_vmem h_S512x1280))
  let c0_15 : Index := 0#32
  let c0_16 : Index := 0#32
  let v19 : Index := Scalar.indexCast v17
  let v20 : Vec F S1x1280x512 .fp8e4m3 ← Prog.lift (.load arg3 (Rect.unit (s := S1x1280x10240) (k0_off2 k0_t2) S1x1280x512.size (k0_off2_inb k0_t2)).toLoadRect (View.loadsAt_vmem h_S1x1280x512))
  have v21 : FVec F S1280x512 .fp8e4m3 := shapeCast S1280x512 v20 shapeCasts_S1x1280x512_S1280x512
  have cst_17 : FVec F S512x512 .f32 := constant S512x512 .f32 0x00000000#32
  have v22 : FVec F S512x512 .f32 := matmul dot_S512x1280_S1280x512_S512x512_1_0_0_1_n_n none v18 v21 cst_17
  let c1_18 : Index := 1#32
  let v23 : Index := Scalar.indexCast v17
  let v24 : Vec F S1x512 .f32 ← Prog.lift (.load arg4 (Rect.unit (s := S4x10240) (k0_off3 k0_t2) S1x512.size (k0_off3_inb k0_t2)).toLoadRect (View.loadsAt_vmem h_S1x512))
  have v25 : FVec F S1x512 .f32 := broadcast S1x512 v0
  have v26 : FVec F S1x512 .f32 := mulf v25 v24
  have v27 : FVec F S512x512 .f32 := broadcastTo S512x512 v26 broadcasts_S1x512_S512x512
  have v28 : FVec F S512x512 .f32 := mulf v22 v27
  let c1_19 : Index := 1#32
  let v29 : Index := Scalar.indexCast v17
  let v30 : Vec F S1x512 .f32 ← Prog.lift (.load arg5 (Rect.unit (s := S4x10240) (k0_off3 k0_t2) S1x512.size (k0_off3_inb k0_t2)).toLoadRect (View.loadsAt_vmem h_S1x512))
  have v31 : FVec F S512x512 .f32 := broadcastTo S512x512 v30 broadcasts_S1x512_S512x512
  have v32 : FVec F S512x512 .f32 := addf v28 v31
  have cst_20 : F .f32 := Scalar.ofBits .f32 0x3F000000#32
  have v33 : FVec F S512x512 .f32 := broadcast S512x512 cst_20
  have v34 : FVec F S512x512 .f32 := mulf v33 v32
  have cst_21 : F .f32 := Scalar.ofBits .f32 0x3F3504F3#32
  have v35 : FVec F S512x512 .f32 := broadcast S512x512 cst_21
  have v36 : FVec F S512x512 .f32 := mulf v32 v35
  have v37 : FVec F S512x512 .f32 := erf v36
  have cst_22 : F .f32 := Scalar.ofBits .f32 0x3F800000#32
  have v38 : FVec F S512x512 .f32 := broadcast S512x512 cst_22
  have v39 : FVec F S512x512 .f32 := addf v38 v37
  have v40 : FVec F S512x512 .f32 := mulf v34 v39
  let c0_23 : Index := 0#32
  let c0_24 : Index := 0#32
  let v41 : Index := Scalar.indexCast v14
  let v42 : Vec F S1x1280x512 .fp8e4m3 ← Prog.lift (.load arg3 (Rect.unit (s := S1x1280x10240) (k0_off4 k0_t2) S1x1280x512.size (k0_off4_inb k0_t2)).toLoadRect (View.loadsAt_vmem h_S1x1280x512))
  have v43 : FVec F S1280x512 .fp8e4m3 := shapeCast S1280x512 v42 shapeCasts_S1x1280x512_S1280x512
  have cst_25 : FVec F S512x512 .f32 := constant S512x512 .f32 0x00000000#32
  have v44 : FVec F S512x512 .f32 := matmul dot_S512x1280_S1280x512_S512x512_1_0_0_1_n_n none v18 v43 cst_25
  let c1_26 : Index := 1#32
  let v45 : Index := Scalar.indexCast v14
  let v46 : Vec F S1x512 .f32 ← Prog.lift (.load arg4 (Rect.unit (s := S4x10240) (k0_off5 k0_t2) S1x512.size (k0_off5_inb k0_t2)).toLoadRect (View.loadsAt_vmem h_S1x512))
  have v47 : FVec F S1x512 .f32 := broadcast S1x512 v0
  have v48 : FVec F S1x512 .f32 := mulf v47 v46
  have v49 : FVec F S512x512 .f32 := broadcastTo S512x512 v48 broadcasts_S1x512_S512x512
  have v50 : FVec F S512x512 .f32 := mulf v44 v49
  let c1_27 : Index := 1#32
  let v51 : Index := Scalar.indexCast v14
  let v52 : Vec F S1x512 .f32 ← Prog.lift (.load arg5 (Rect.unit (s := S4x10240) (k0_off5 k0_t2) S1x512.size (k0_off5_inb k0_t2)).toLoadRect (View.loadsAt_vmem h_S1x512))
  have v53 : FVec F S512x512 .f32 := broadcastTo S512x512 v52 broadcasts_S1x512_S512x512
  pure ⟨v14, v40, v50, v53⟩

noncomputable def cc0_ff (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) :
    Prog (TpuEff nD τ sig (Elt F) Λ₀ .tc) PUnit := do
  let arg0 : BitVec 32 := BitVec.ofNat 32 (i 0).val
  let c1 : Index := 1#32
  let c4 : Index := 4#32
  let v0 : Elt F .f32 ← smemLoad arg1 (Rect.unit (s := S4x6) ![Blk.k, 4] S1x1.size inb_S4x6_S1x1_k_4) numel1_S1x1 rfl
  have v1 : FVec F S1x1280 .f32 := broadcast S1x1280 v0
  have cst : F .f32 := Scalar.ofBits .f32 0x3F800000#32
  have v2 : FVec F S1x1280 .f32 := broadcast S1x1280 cst
  have v3 : FVec F S1x1280 .f32 := divf v2 v1
  let c1_0 : Index := 1#32
  let c0 : Index := 0#32
  let v4 : Vec F S1x1280 .f32 ← Prog.lift (.load arg9 (Rect.unit (s := S4x1280) ![Blk.k, 0] S1x1280.size inb_S4x1280_S1x1280_k_0).toLoadRect (View.loadsAt_vmem h_S1x1280))
  let c1_1 : Index := 1#32
  let c0_2 : Index := 0#32
  let v5 : Vec F S1x1280 .f32 ← Prog.lift (.load arg10 (Rect.unit (s := S4x1280) ![Blk.k, 0] S1x1280.size inb_S4x1280_S1x1280_k_0).toLoadRect (View.loadsAt_vmem h_S1x1280))
  let c0_i32 : BitVec 32 := 0#32
  let c4_i32 : BitVec 32 := 4#32
  let v6 : BitVec 32 := Scalar.addi c0_i32 c4_i32
  let c1_i32 : BitVec 32 := 1#32
  Scf.Loop.for k0_t1_loop k0_t1_ok ⟨⟩ fun k0_t1 _ => do
    let arg14 : BitVec 32 := Scf.iv c0_i32 c1_i32 k0_t1
    let c128_i32 : BitVec 32 := 128#32
    let v13 : BitVec 32 := Scalar.muli arg14 c128_i32
    let v14 : Index := Scalar.indexCast v13
    let c0_12 : Index := 0#32
    let v15 : Vec F S128x1280 .f32 ← Prog.lift (.load arg2 (Rect.unit (s := S512x1280) (k0_off1 k0_t1) S128x1280.size (k0_off1_inb k0_t1)).toLoadRect (View.loadsAt_vmem h_S128x1280))
    have cst_13 : FVec F S128 .f32 := constant S128 .f32 0x00000000#32
    have v16 : FVec F S128 .f32 := multiReduction .add [1] S128 v15 0x00000000#32 reduces_S128x1280_S128 (.inl rfl) rfl
    have v17 : FVec F S128x1 .f32 := shapeCast S128x1 v16 shapeCasts_S128_S128x1
    have cst_14 : F .f32 := Scalar.ofBits .f32 0x44A00000#32
    have v18 : FVec F S128x1 .f32 := broadcast S128x1 cst_14
    have v19 : FVec F S128x1 .f32 := divf v17 v18
    have v20 : FVec F S128x1280 .f32 := broadcastTo S128x1280 v19 broadcasts_S128x1_S128x1280
    have v21 : FVec F S128x1280 .f32 := subf v15 v20
    have v22 : FVec F S128x1280 .f32 := mulf v21 v21
    have cst_15 : FVec F S128 .f32 := constant S128 .f32 0x00000000#32
    have v23 : FVec F S128 .f32 := multiReduction .add [1] S128 v22 0x00000000#32 reduces_S128x1280_S128 (.inl rfl) rfl
    have v24 : FVec F S128x1 .f32 := shapeCast S128x1 v23 shapeCasts_S128_S128x1
    have cst_16 : F .f32 := Scalar.ofBits .f32 0x44A00000#32
    have v25 : FVec F S128x1 .f32 := broadcast S128x1 cst_16
    have v26 : FVec F S128x1 .f32 := divf v24 v25
    have cst_17 : F .f32 := Scalar.ofBits .f32 0x3727C5AC#32
    have v27 : FVec F S128x1 .f32 := broadcast S128x1 cst_17
    have v28 : FVec F S128x1 .f32 := addf v26 v27
    have v29 : FVec F S128x1 .f32 := rsqrt v28
    have v30 : FVec F S128x1280 .f32 := broadcastTo S128x1280 v29 broadcasts_S128x1_S128x1280
    have v31 : FVec F S128x1280 .f32 := mulf v21 v30
    have v32 : FVec F S128x1280 .f32 := broadcastTo S128x1280 v4 broadcasts_S1x1280_S128x1280
    have v33 : FVec F S128x1280 .f32 := mulf v31 v32
    have v34 : FVec F S128x1280 .f32 := broadcastTo S128x1280 v5 broadcasts_S1x1280_S128x1280
    have v35 : FVec F S128x1280 .f32 := addf v33 v34
    have v36 : FVec F S128x1280 .f32 := broadcastTo S128x1280 v3 broadcasts_S1x1280_S128x1280
    have v37 : FVec F S128x1280 .f32 := mulf v35 v36
    have cst_18 : F .f32 := Scalar.ofBits .f32 0xC3E00000#32
    have cst_19 : F .f32 := Scalar.ofBits .f32 0x43E00000#32
    have v38 : FVec F S128x1280 .f32 := broadcast S128x1280 cst_18
    have v39 : FVec F S128x1280 .f32 := maximumf v38 v37
    have v40 : FVec F S128x1280 .f32 := broadcast S128x1280 cst_19
    have v41 : FVec F S128x1280 .f32 := minimumf v40 v39
    have v42 : FVec F S128x1280 .fp8e4m3 := truncf .fp8e4m3 v41 bitsLt_fp8e4m3_f32
    let v43 : Index := Scalar.indexCast v13
    let c0_20 : Index := 0#32
    let v44 : Vec F S128x1280 .fp8e4m3 ← Prog.lift (.load arg12 (Rect.unit (s := S512x1280) (k0_off1 k0_t1) S128x1280.size (k0_off1_inb k0_t1)).toLoadRect (View.loadsAt_vmem h_S128x1280))
    have v45 : FVec F S128x1280 .fp8e4m3 := shapeCast S128x1280 v44 shapeCasts_S128x1280_S128x1280
    have v46 : FVec F S128x1280 .fp8e4m3 := shapeCast S128x1280 v42 shapeCasts_S128x1280_S128x1280
    Prog.lift (.store arg12 (Rect.unit (s := S512x1280) (k0_off1 k0_t1) S128x1280.size (k0_off1_inb k0_t1)) v46 Finset.univ (View.stores_vmem h_S128x1280 (harg12.storeExact_slice rfl _ (k0_off1_packedfp8e4m3 k0_t1)) (fun _ => rfl)) (.inl rfl))
    pure ⟨⟩
  let c4_i32_3 : BitVec 32 := 4#32
  let c1_4 : Index := 1#32
  let c5 : Index := 5#32
  let v7 : Elt F .f32 ← smemLoad arg1 (Rect.unit (s := S4x6) ![Blk.k, 5] S1x1.size inb_S4x6_S1x1_k_5) numel1_S1x1 rfl
  have v8 : FVec F S1x512 .f32 := broadcast S1x512 v7
  have cst_5 : F .f32 := Scalar.ofBits .f32 0x3F800000#32
  have v9 : FVec F S1x512 .f32 := broadcast S1x512 cst_5
  have v10 : FVec F S1x512 .f32 := divf v9 v8
  let c0_i32_6 : BitVec 32 := 0#32
  let c10_i32 : BitVec 32 := 10#32
  let v11 : BitVec 32 := Scalar.addi c0_i32_6 c10_i32
  let c1_i32_7 : BitVec 32 := 1#32
  Scf.Loop.for k0_t2_loop k0_t2_ok ⟨⟩ fun k0_t2 _ => do
    let ⟨v14, v40, v50, v53⟩ : Σ' (v14 : BitVec 32) (v40 : FVec F S512x512 .f32) (v50 : FVec F S512x512 .f32), FVec F S512x512 .f32 ← k0_part1 i arg1 harg1 arg2 harg2 arg3 harg3 arg4 harg4 arg5 harg5 arg6 harg6 arg7 harg7 arg8 harg8 arg9 harg9 arg10 harg10 arg11 harg11 arg12 harg12 arg13 harg13 v0 c0_i32_6 c1_i32_7 k0_t2
    have v54 : FVec F S512x512 .f32 := addf v50 v53
    have v55 : FVec F S512x512 .f32 := mulf v54 v40
    have v56 : FVec F S512x512 .f32 := broadcastTo S512x512 v10 broadcasts_S1x512_S512x512
    have v57 : FVec F S512x512 .f32 := mulf v55 v56
    have cst_28 : F .f32 := Scalar.ofBits .f32 0xC3E00000#32
    have cst_29 : F .f32 := Scalar.ofBits .f32 0x43E00000#32
    have v58 : FVec F S512x512 .f32 := broadcast S512x512 cst_28
    have v59 : FVec F S512x512 .f32 := maximumf v58 v57
    have v60 : FVec F S512x512 .f32 := broadcast S512x512 cst_29
    have v61 : FVec F S512x512 .f32 := minimumf v60 v59
    have v62 : FVec F S512x512 .fp8e4m3 := truncf .fp8e4m3 v61 bitsLt_fp8e4m3_f32
    let c0_30 : Index := 0#32
    let v63 : Index := Scalar.indexCast v14
    let v64 : Vec F S512x512 .fp8e4m3 ← Prog.lift (.load arg13 (Rect.unit (s := S512x5120) (k0_off6 k0_t2) S512x512.size (k0_off6_inb k0_t2)).toLoadRect (View.loadsAt_vmem h_S512x512))
    have v65 : FVec F S512x512 .fp8e4m3 := shapeCast S512x512 v64 shapeCasts_S512x512_S512x512
    have v66 : FVec F S512x512 .fp8e4m3 := shapeCast S512x512 v62 shapeCasts_S512x512_S512x512
    Prog.lift (.store arg13 (Rect.unit (s := S512x5120) (k0_off6 k0_t2) S512x512.size (k0_off6_inb k0_t2)) v66 Finset.univ (View.stores_vmem h_S512x512 (harg13.storeExact_slice rfl _ (k0_off6_packedfp8e4m3 k0_t2)) (fun _ => rfl)) (.inl rfl))
    pure ⟨⟩
  let c10_i32_8 : BitVec 32 := 10#32
  let c0_i32_9 : BitVec 32 := 0#32
  let c5_i32 : BitVec 32 := 5#32
  let v12 : BitVec 32 := Scalar.addi c0_i32_9 c5_i32
  let c1_i32_10 : BitVec 32 := 1#32
  Scf.Loop.for k0_t3_loop k0_t3_ok ⟨⟩ fun k0_t3 _ => do
    let arg14 : BitVec 32 := Scf.iv c0_i32_9 c1_i32_10 k0_t3
    let c256_i32 : BitVec 32 := 256#32
    let v13 : BitVec 32 := Scalar.muli arg14 c256_i32
    let v14 : BitVec 32 := v13
    let c0_12 : Index := 0#32
    let c0_13 : Index := 0#32
    let v15 : Vec F S512x5120 .fp8e4m3 ← Prog.lift (.load arg13 (Rect.unit (s := S512x5120) ![0, 0] S512x5120.size inb_S512x5120_S512x5120_0_0).toLoadRect (View.loadsAt_vmem h_S512x5120))
    let c0_14 : Index := 0#32
    let c0_15 : Index := 0#32
    let v16 : Index := Scalar.indexCast v14
    let v17 : Vec F S1x5120x256 .fp8e4m3 ← Prog.lift (.load arg6 (Rect.unit (s := S1x5120x1280) (k0_off7 k0_t3) S1x5120x256.size (k0_off7_inb k0_t3)).toLoadRect (View.loadsAt_vmem h_S1x5120x256))
    have v18 : FVec F S5120x256 .fp8e4m3 := shapeCast S5120x256 v17 shapeCasts_S1x5120x256_S5120x256
    have cst_16 : FVec F S512x256 .f32 := constant S512x256 .f32 0x00000000#32
    have v19 : FVec F S512x256 .f32 := matmul dot_S512x5120_S5120x256_S512x256_1_0_0_1_n_n none v15 v18 cst_16
    let c0_17 : Index := 0#32
    let v20 : Index := Scalar.indexCast v14
    let v21 : Vec F S512x256 .f32 ← Prog.lift (.load arg2 (Rect.unit (s := S512x1280) (k0_off8 k0_t3) S512x256.size (k0_off8_inb k0_t3)).toLoadRect (View.loadsAt_vmem h_S512x256))
    let c1_18 : Index := 1#32
    let v22 : Index := Scalar.indexCast v14
    let v23 : Vec F S1x256 .f32 ← Prog.lift (.load arg7 (Rect.unit (s := S4x1280) (k0_off9 k0_t3) S1x256.size (k0_off9_inb k0_t3)).toLoadRect (View.loadsAt_vmem h_S1x256))
    have v24 : FVec F S1x256 .f32 := broadcast S1x256 v7
    have v25 : FVec F S1x256 .f32 := mulf v24 v23
    have v26 : FVec F S512x256 .f32 := broadcastTo S512x256 v25 broadcasts_S1x256_S512x256
    have v27 : FVec F S512x256 .f32 := mulf v19 v26
    let c1_19 : Index := 1#32
    let v28 : Index := Scalar.indexCast v14
    let v29 : Vec F S1x256 .f32 ← Prog.lift (.load arg8 (Rect.unit (s := S4x1280) (k0_off9 k0_t3) S1x256.size (k0_off9_inb k0_t3)).toLoadRect (View.loadsAt_vmem h_S1x256))
    have v30 : FVec F S512x256 .f32 := broadcastTo S512x256 v29 broadcasts_S1x256_S512x256
    have v31 : FVec F S512x256 .f32 := addf v27 v30
    have v32 : FVec F S512x256 .f32 := addf v21 v31
    let c0_20 : Index := 0#32
    let v33 : Index := Scalar.indexCast v14
    let v34 : Vec F S512x256 .f32 ← Prog.lift (.load arg11 (Rect.unit (s := S512x1280) (k0_off8 k0_t3) S512x256.size (k0_off8_inb k0_t3)).toLoadRect (View.loadsAt_vmem h_S512x256))
    Prog.lift (.store arg11 (Rect.unit (s := S512x1280) (k0_off8 k0_t3) S512x256.size (k0_off8_inb k0_t3)) v32 Finset.univ (View.stores_vmem_bits_univ h_S512x256 rfl) (.inl rfl))
    pure ⟨⟩
  let c5_i32_11 : BitVec 32 := 5#32
  pure ⟨⟩

def defs₀ : Defs nD τ sig (Elt F) Λ₀ := Defs.onTc fun
  | 0, (t, s) => cc0_ff (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (Memref.whole cc0_scratch0) (Memref.isWhole_whole _) (Memref.whole cc0_scratch1) (Memref.isWhole_whole _)
  | ⟨_ + 1, h⟩, _ => absurd h (Nat.not_lt.2 (Nat.le_add_left _ _))

abbrev cfg0 : Pipeline.Cfg sig Λ₀ where
  grid := grid0
  W := 11
  win := win0
  body := 0
  bodyArgs t s := (t, s)

abbrev cfgs : Fin 1 → Pipeline.Cfg sig Λ₀ := fun _ => cfg0

abbrev pcfgs : Fin 1 → Pipeline.PCfg sig Λ₀ (Elt F) := fun p => (cfgs p).toPCfg

def defs : Defs nD τ sig (Elt F) (Pipeline.Sig Λ₀ (Fin 1) fun p => (pcfgs (F := F) p).Adm) := Pipeline.defs pcfgs defs₀

noncomputable def main : Dev nD → Prog (TpuEff nD τ sig (Elt F) (Pipeline.Sig Λ₀ (Fin 1) fun p => (pcfgs (F := F) p).Adm) .tc) PUnit := fun _ => do
  Prog.lift (.customCall (Pipeline.entry 0) ())
  pure ⟨⟩

end Cert.Later

end
-- ==== Proof.Later.Facts.lean ====
/-
  The side conditions of the feed-forward call, for every block number below four: shapes, offsets in range, whole words.
-/
module

public import proofs.«01_k».proof.Proof.Later.Program
public import Idealize.ShloMosaic.Lib.Affine
public import Idealize.ShloMosaic.Lib.Decide
public import Idealize.ShloMosaic.Lib.Exec

@[expose] public section

set_option synthInstance.maxSize 4096

set_option Elab.async false

namespace Cert.Later.Gen

open Idealize.ShloMosaic Idealize.SL.Sem

variable [Blk]

/-- A table of four rows holds the block's row. -/
theorem row_inb {n w c : ℕ} (h : c + w ≤ n) : ∀ a, (![Blk.k, c] : Fin 2 → Nat) a + (![1, w] : Fin 2 → Nat) a ≤ (![4, n] : Fin 2 → Nat) a :=
  Fin.forall_fin_two.2 ⟨Blk.lt, h⟩

/-- The block's slice of weights stacked four high is in range. -/
theorem slice_inb {n w : ℕ} : ∀ a, ((![(BitVec.ofNat 32 Blk.k).toNat, 0, 0] : Fin 3 → Nat) a + 1) * (![1, n, w] : Fin 3 → Nat) a ≤ (![4, n, w] : Fin 3 → Nat) a := by
  have h := Blk.lt
  have hk : (BitVec.ofNat 32 Blk.k).toNat = Blk.k := by rw [BitVec.toNat_ofNat]; exact Nat.mod_eq_of_lt (by omega)
  rw [hk]
  intro a
  fin_cases a
  · show (Blk.k + 1) * 1 ≤ 4
    omega
  · show (0 + 1) * n ≤ n
    omega
  · show (0 + 1) * w ≤ w
    omega

theorem inb_S4x6_S1x1_k_4 : ∀ a, (![Blk.k, 4] : Fin 2 → Nat) a + S1x1.size a ≤ S4x6.size a := row_inb (by decide)
theorem numel1_S1x1 : S1x1.numel = 1 := by decide
theorem inb_S4x1280_S1x1280_k_0 : ∀ a, (![Blk.k, 0] : Fin 2 → Nat) a + S1x1280.size a ≤ S4x1280.size a := row_inb (by decide)
theorem h_S1x1280 : 0 < S1x1280.numel := by decide
theorem h_S128x1280 : 0 < S128x1280.numel := by decide
theorem reduces_S128x1280_S128 : S128x1280.Reduces [1] S128 := by decide
theorem shapeCasts_S128_S128x1 : S128.ShapeCasts S128x1 := by decide
theorem broadcasts_S128x1_S128x1280 : S128x1.Broadcasts S128x1280 := by decide
theorem broadcasts_S1x1280_S128x1280 : S1x1280.Broadcasts S128x1280 := by decide
theorem bitsLt_fp8e4m3_f32 : FTy.bits .fp8e4m3 < FTy.bits .f32 := by decide
theorem shapeCasts_S128x1280_S128x1280 : S128x1280.ShapeCasts S128x1280 := by decide
theorem inb_S4x6_S1x1_k_5 : ∀ a, (![Blk.k, 5] : Fin 2 → Nat) a + S1x1.size a ≤ S4x6.size a := row_inb (by decide)
theorem inb_S512x1280_S512x1280_0_0 : ∀ a, (![0, 0] : Fin 2 → Nat) a + S512x1280.size a ≤ S512x1280.size a := by decide
theorem h_S512x1280 : 0 < S512x1280.numel := by decide
theorem h_S1x1280x512 : 0 < S1x1280x512.numel := by decide
theorem shapeCasts_S1x1280x512_S1280x512 : S1x1280x512.ShapeCasts S1280x512 := by decide
theorem h_S1x512 : 0 < S1x512.numel := by decide
theorem broadcasts_S1x512_S512x512 : S1x512.Broadcasts S512x512 := by decide
theorem h_S512x512 : 0 < S512x512.numel := by decide
theorem shapeCasts_S512x512_S512x512 : S512x512.ShapeCasts S512x512 := by decide
theorem inb_S512x5120_S512x5120_0_0 : ∀ a, (![0, 0] : Fin 2 → Nat) a + S512x5120.size a ≤ S512x5120.size a := by decide
theorem h_S512x5120 : 0 < S512x5120.numel := by decide
theorem h_S1x5120x256 : 0 < S1x5120x256.numel := by decide
theorem shapeCasts_S1x5120x256_S5120x256 : S1x5120x256.ShapeCasts S5120x256 := by decide
theorem h_S512x256 : 0 < S512x256.numel := by decide
theorem h_S1x256 : 0 < S1x256.numel := by decide
theorem broadcasts_S1x256_S512x256 : S1x256.Broadcasts S512x256 := by decide
theorem dot_S512x1280_S1280x512_S512x512_1_0_0_1_n_n_wf : DotDims.WF S512x1280 S1280x512 S512x512 [1] [0] [0] [1] [] [] := by decide
theorem dot_S512x5120_S5120x256_S512x256_1_0_0_1_n_n_wf : DotDims.WF S512x5120 S5120x256 S512x256 [1] [0] [0] [1] [] [] := by decide
theorem hrank0 : 0 < grid0.rank := by decide
theorem k0_t1_abs : k0_t1_loop.OK ∧ k0_t1_loop.trips ≤ 4 ∧ k0_t1_loop.ub.toInt ≤ 4 := by
  have h_c0_i32 : Affine.IsInt 0#32 (0) := Affine.ofNat _ (by omega)
  have h_c4_i32 : Affine.IsInt 4#32 (4) := Affine.ofNat _ (by omega)
  have h_v6 : Affine.IsInt _ (4) := Affine.addi h_c0_i32 h_c4_i32 (by omega)
  have h_c1_i32 : Affine.IsInt 1#32 (1) := Affine.ofNat _ (by omega)
  exact ⟨Affine.ok h_c0_i32 h_v6 h_c1_i32 (by omega), Affine.trips_le h_c0_i32 h_v6 h_c1_i32 _ (by omega), Affine.le_of h_v6 _ (by omega)⟩
theorem k0_t1_ok : k0_t1_loop.OK := k0_t1_abs.1
omit [Blk] in
theorem k0_off1_inb : ∀ k0_t1 : Fin k0_t1_loop.trips, ∀ a, (k0_off1 k0_t1) a + S128x1280.size a ≤ S512x1280.size a := by decide +kernel
omit [Blk] in
theorem k0_off1_packedfp8e4m3 : ∀ k0_t1 : Fin k0_t1_loop.trips, (Rect.unit (s := S512x1280) (k0_off1 k0_t1) S128x1280.size (k0_off1_inb k0_t1)).PackedRows (EltTy.packing .fp8e4m3) := by decide +kernel
theorem k0_t2_abs : k0_t2_loop.OK ∧ k0_t2_loop.trips ≤ 10 ∧ k0_t2_loop.ub.toInt ≤ 10 := by
  have h_c0_i32_6 : Affine.IsInt 0#32 (0) := Affine.ofNat _ (by omega)
  have h_c10_i32 : Affine.IsInt 10#32 (10) := Affine.ofNat _ (by omega)
  have h_v11 : Affine.IsInt _ (10) := Affine.addi h_c0_i32_6 h_c10_i32 (by omega)
  have h_c1_i32_7 : Affine.IsInt 1#32 (1) := Affine.ofNat _ (by omega)
  exact ⟨Affine.ok h_c0_i32_6 h_v11 h_c1_i32_7 (by omega), Affine.trips_le h_c0_i32_6 h_v11 h_c1_i32_7 _ (by omega), Affine.le_of h_v11 _ (by omega)⟩
theorem k0_t2_ok : k0_t2_loop.OK := k0_t2_abs.1
theorem k0_mult1_dvd : ∀ k0_t2 : Fin k0_t2_loop.trips, 512 ∣ (k0_mult1 k0_t2).toNat := by decide +kernel
theorem k0_mult2_dvd : ∀ k0_t2 : Fin k0_t2_loop.trips, 512 ∣ (k0_mult2 k0_t2).toNat := by decide +kernel
theorem k0_off2_inb : ∀ k0_t2 : Fin k0_t2_loop.trips, ∀ a, (k0_off2 k0_t2) a + S1x1280x512.size a ≤ S1x1280x10240.size a := by decide +kernel
theorem k0_off3_col : ∀ t : Fin k0_t2_loop.trips, @k0_off3 ⟨0, by decide⟩ t 1 = 512 * t.val + 5120 := by decide +kernel
theorem k0_off3_eq : ∀ k0_t2 : Fin k0_t2_loop.trips, k0_off3 k0_t2 = ![Blk.k, 512 * k0_t2.val + 5120] := fun t => congrArg (fun n => (![Blk.k, n] : Fin 2 → Nat)) (k0_off3_col t)
theorem k0_off3_inb : ∀ k0_t2 : Fin k0_t2_loop.trips, ∀ a, (k0_off3 k0_t2) a + S1x512.size a ≤ S4x10240.size a := fun t => by rw [k0_off3_eq t]; exact row_inb (by have := t.isLt; have h : k0_t2_loop.trips = 10 := (by decide); omega)
theorem k0_off4_inb : ∀ k0_t2 : Fin k0_t2_loop.trips, ∀ a, (k0_off4 k0_t2) a + S1x1280x512.size a ≤ S1x1280x10240.size a := by decide +kernel
theorem k0_off5_col : ∀ t : Fin k0_t2_loop.trips, @k0_off5 ⟨0, by decide⟩ t 1 = 512 * t.val := by decide +kernel
theorem k0_off5_eq : ∀ k0_t2 : Fin k0_t2_loop.trips, k0_off5 k0_t2 = ![Blk.k, 512 * k0_t2.val] := fun t => congrArg (fun n => (![Blk.k, n] : Fin 2 → Nat)) (k0_off5_col t)
theorem k0_off5_inb : ∀ k0_t2 : Fin k0_t2_loop.trips, ∀ a, (k0_off5 k0_t2) a + S1x512.size a ≤ S4x10240.size a := fun t => by rw [k0_off5_eq t]; exact row_inb (by have := t.isLt; have h : k0_t2_loop.trips = 10 := (by decide); omega)
omit [Blk] in
theorem k0_off6_inb : ∀ k0_t2 : Fin k0_t2_loop.trips, ∀ a, (k0_off6 k0_t2) a + S512x512.size a ≤ S512x5120.size a := by decide +kernel
omit [Blk] in
theorem k0_off6_packedfp8e4m3 : ∀ k0_t2 : Fin k0_t2_loop.trips, (Rect.unit (s := S512x5120) (k0_off6 k0_t2) S512x512.size (k0_off6_inb k0_t2)).PackedRows (EltTy.packing .fp8e4m3) := by decide +kernel
theorem k0_t3_abs : k0_t3_loop.OK ∧ k0_t3_loop.trips ≤ 5 ∧ k0_t3_loop.ub.toInt ≤ 5 := by
  have h_c0_i32_9 : Affine.IsInt 0#32 (0) := Affine.ofNat _ (by omega)
  have h_c5_i32 : Affine.IsInt 5#32 (5) := Affine.ofNat _ (by omega)
  have h_v12 : Affine.IsInt _ (5) := Affine.addi h_c0_i32_9 h_c5_i32 (by omega)
  have h_c1_i32_10 : Affine.IsInt 1#32 (1) := Affine.ofNat _ (by omega)
  exact ⟨Affine.ok h_c0_i32_9 h_v12 h_c1_i32_10 (by omega), Affine.trips_le h_c0_i32_9 h_v12 h_c1_i32_10 _ (by omega), Affine.le_of h_v12 _ (by omega)⟩
theorem k0_t3_ok : k0_t3_loop.OK := k0_t3_abs.1
theorem k0_mult3_dvd : ∀ k0_t3 : Fin k0_t3_loop.trips, 256 ∣ (k0_mult3 k0_t3).toNat := by decide +kernel
theorem k0_off7_inb : ∀ k0_t3 : Fin k0_t3_loop.trips, ∀ a, (k0_off7 k0_t3) a + S1x5120x256.size a ≤ S1x5120x1280.size a := by decide +kernel
theorem k0_off8_inb : ∀ k0_t3 : Fin k0_t3_loop.trips, ∀ a, (k0_off8 k0_t3) a + S512x256.size a ≤ S512x1280.size a := by decide +kernel
theorem k0_off9_col : ∀ t : Fin k0_t3_loop.trips, @k0_off9 ⟨0, by decide⟩ t 1 = 256 * t.val := by decide +kernel
theorem k0_off9_eq : ∀ k0_t3 : Fin k0_t3_loop.trips, k0_off9 k0_t3 = ![Blk.k, 256 * k0_t3.val] := fun t => congrArg (fun n => (![Blk.k, n] : Fin 2 → Nat)) (k0_off9_col t)
theorem k0_off9_inb : ∀ k0_t3 : Fin k0_t3_loop.trips, ∀ a, (k0_off9 k0_t3) a + S1x256.size a ≤ S4x1280.size a := fun t => by rw [k0_off9_eq t]; exact row_inb (by have := t.isLt; have h : k0_t3_loop.trips = 5 := (by decide); omega)
theorem hstage0_0 : ∀ j, (stage0_0 j).IsWhole := fun | 0 => Memref.isWhole_whole _ | ⟨_ + 1, h⟩ => absurd h (Nat.not_lt.2 (Nat.le_add_left _ _))
theorem nbuf0_0 : grid0.bufCount reads0_0 false = 1 := by decide
theorem hreads0_0 : ∀ i i' : grid0.Coords, (∀ a, reads0_0 a = true → i a = i' a) → cc0_transform_0 i = cc0_transform_0 i' := fun _ _ _ => rfl
theorem hinb0_0 : ∀ (i : grid0.Coords) a, (cc0_transform_0 i a + 1) * S4x6.size a ≤ S4x6.size a := by decide +kernel
theorem hwx0_0 : ∀ i : grid0.Coords, EltTy.bits .f32 = 32 ∨ (Rect.block (s := S4x6) S4x6.size (cc0_transform_0 i) (hinb0_0 i)).WholeWords (EltTy.packing .f32) := fun _ => .inl rfl
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl]
theorem hinb0_1 : ∀ (i : grid0.Coords) a, (cc0_transform_1 i a + 1) * S512x1280.size a ≤ S16384x1280.size a := by decide +kernel
theorem hwx0_1 : ∀ i : grid0.Coords, EltTy.bits .f32 = 32 ∨ (Rect.block (s := S16384x1280) S512x1280.size (cc0_transform_1 i) (hinb0_1 i)).WholeWords (EltTy.packing .f32) := fun _ => .inl rfl
theorem hstage0_2 : ∀ j, (stage0_2 j).IsWhole := fun | 0 => Memref.isWhole_whole _ | ⟨_ + 1, h⟩ => absurd h (Nat.not_lt.2 (Nat.le_add_left _ _))
theorem nbuf0_2 : grid0.bufCount reads0_2 false = 1 := by decide
theorem hreads0_2 : ∀ i i' : grid0.Coords, (∀ a, reads0_2 a = true → i a = i' a) → cc0_transform_2 i = cc0_transform_2 i' := fun _ _ _ => rfl
theorem hinb0_2 : ∀ (i : grid0.Coords) a, (cc0_transform_2 i a + 1) * S1x1280x10240.size a ≤ S4x1280x10240.size a := fun _ => slice_inb
theorem hwx0_2 : ∀ i : grid0.Coords, EltTy.bits .fp8e4m3 = 32 ∨ (Rect.block (s := S4x1280x10240) S1x1280x10240.size (cc0_transform_2 i) (hinb0_2 i)).WholeWords (EltTy.packing .fp8e4m3) := fun _ => .inr (Affine.block_words_dvd (of_decide_eq_true rfl) (by decide))
theorem hstage0_3 : ∀ j, (stage0_3 j).IsWhole := fun | 0 => Memref.isWhole_whole _ | ⟨_ + 1, h⟩ => absurd h (Nat.not_lt.2 (Nat.le_add_left _ _))
theorem nbuf0_3 : grid0.bufCount reads0_3 true = 1 := by decide
theorem hreads0_3 : ∀ i i' : grid0.Coords, (∀ a, reads0_3 a = true → i a = i' a) → cc0_transform_3 i = cc0_transform_3 i' := fun _ _ _ => rfl
theorem hinb0_3 : ∀ (i : grid0.Coords) a, (cc0_transform_3 i a + 1) * S4x10240.size a ≤ S4x10240.size a := by decide +kernel
theorem hwx0_3 : ∀ i : grid0.Coords, EltTy.bits .f32 = 32 ∨ (Rect.block (s := S4x10240) S4x10240.size (cc0_transform_3 i) (hinb0_3 i)).WholeWords (EltTy.packing .f32) := fun _ => .inl rfl
theorem hstage0_4 : ∀ j, (stage0_4 j).IsWhole := fun | 0 => Memref.isWhole_whole _ | ⟨_ + 1, h⟩ => absurd h (Nat.not_lt.2 (Nat.le_add_left _ _))
theorem nbuf0_4 : grid0.bufCount reads0_4 true = 1 := by decide
theorem hreads0_4 : ∀ i i' : grid0.Coords, (∀ a, reads0_4 a = true → i a = i' a) → cc0_transform_4 i = cc0_transform_4 i' := fun _ _ _ => rfl
theorem hinb0_4 : ∀ (i : grid0.Coords) a, (cc0_transform_4 i a + 1) * S4x10240.size a ≤ S4x10240.size a := by decide +kernel
theorem hwx0_4 : ∀ i : grid0.Coords, EltTy.bits .f32 = 32 ∨ (Rect.block (s := S4x10240) S4x10240.size (cc0_transform_4 i) (hinb0_4 i)).WholeWords (EltTy.packing .f32) := fun _ => .inl rfl
theorem hstage0_5 : ∀ j, (stage0_5 j).IsWhole := fun | 0 => Memref.isWhole_whole _ | ⟨_ + 1, h⟩ => absurd h (Nat.not_lt.2 (Nat.le_add_left _ _))
theorem nbuf0_5 : grid0.bufCount reads0_5 false = 1 := by decide
theorem hreads0_5 : ∀ i i' : grid0.Coords, (∀ a, reads0_5 a = true → i a = i' a) → cc0_transform_5 i = cc0_transform_5 i' := fun _ _ _ => rfl
theorem hinb0_5 : ∀ (i : grid0.Coords) a, (cc0_transform_5 i a + 1) * S1x5120x1280.size a ≤ S4x5120x1280.size a := fun _ => slice_inb
theorem hwx0_5 : ∀ i : grid0.Coords, EltTy.bits .fp8e4m3 = 32 ∨ (Rect.block (s := S4x5120x1280) S1x5120x1280.size (cc0_transform_5 i) (hinb0_5 i)).WholeWords (EltTy.packing .fp8e4m3) := fun _ => .inr (Affine.block_words_dvd (of_decide_eq_true rfl) (by decide))
theorem hstage0_6 : ∀ j, (stage0_6 j).IsWhole := fun | 0 => Memref.isWhole_whole _ | ⟨_ + 1, h⟩ => absurd h (Nat.not_lt.2 (Nat.le_add_left _ _))
theorem nbuf0_6 : grid0.bufCount reads0_6 true = 1 := by decide
theorem hreads0_6 : ∀ i i' : grid0.Coords, (∀ a, reads0_6 a = true → i a = i' a) → cc0_transform_6 i = cc0_transform_6 i' := fun _ _ _ => rfl
theorem hinb0_6 : ∀ (i : grid0.Coords) a, (cc0_transform_6 i a + 1) * S4x1280.size a ≤ S4x1280.size a := by decide +kernel
theorem hwx0_6 : ∀ i : grid0.Coords, EltTy.bits .f32 = 32 ∨ (Rect.block (s := S4x1280) S4x1280.size (cc0_transform_6 i) (hinb0_6 i)).WholeWords (EltTy.packing .f32) := fun _ => .inl rfl
theorem hstage0_7 : ∀ j, (stage0_7 j).IsWhole := fun | 0 => Memref.isWhole_whole _ | ⟨_ + 1, h⟩ => absurd h (Nat.not_lt.2 (Nat.le_add_left _ _))
theorem nbuf0_7 : grid0.bufCount reads0_7 true = 1 := by decide
theorem hreads0_7 : ∀ i i' : grid0.Coords, (∀ a, reads0_7 a = true → i a = i' a) → cc0_transform_7 i = cc0_transform_7 i' := fun _ _ _ => rfl
theorem hinb0_7 : ∀ (i : grid0.Coords) a, (cc0_transform_7 i a + 1) * S4x1280.size a ≤ S4x1280.size a := by decide +kernel
theorem hwx0_7 : ∀ i : grid0.Coords, EltTy.bits .f32 = 32 ∨ (Rect.block (s := S4x1280) S4x1280.size (cc0_transform_7 i) (hinb0_7 i)).WholeWords (EltTy.packing .f32) := fun _ => .inl rfl
theorem hstage0_8 : ∀ j, (stage0_8 j).IsWhole := fun | 0 => Memref.isWhole_whole _ | ⟨_ + 1, h⟩ => absurd h (Nat.not_lt.2 (Nat.le_add_left _ _))
theorem nbuf0_8 : grid0.bufCount reads0_8 true = 1 := by decide
theorem hreads0_8 : ∀ i i' : grid0.Coords, (∀ a, reads0_8 a = true → i a = i' a) → cc0_transform_8 i = cc0_transform_8 i' := fun _ _ _ => rfl
theorem hinb0_8 : ∀ (i : grid0.Coords) a, (cc0_transform_8 i a + 1) * S4x1280.size a ≤ S4x1280.size a := by decide +kernel
theorem hwx0_8 : ∀ i : grid0.Coords, EltTy.bits .f32 = 32 ∨ (Rect.block (s := S4x1280) S4x1280.size (cc0_transform_8 i) (hinb0_8 i)).WholeWords (EltTy.packing .f32) := fun _ => .inl rfl
theorem hstage0_9 : ∀ j, (stage0_9 j).IsWhole := fun | 0 => Memref.isWhole_whole _ | ⟨_ + 1, h⟩ => absurd h (Nat.not_lt.2 (Nat.le_add_left _ _))
theorem nbuf0_9 : grid0.bufCount reads0_9 true = 1 := by decide
theorem hreads0_9 : ∀ i i' : grid0.Coords, (∀ a, reads0_9 a = true → i a = i' a) → cc0_transform_9 i = cc0_transform_9 i' := fun _ _ _ => rfl
theorem hinb0_9 : ∀ (i : grid0.Coords) a, (cc0_transform_9 i a + 1) * S4x1280.size a ≤ S4x1280.size a := by decide +kernel
theorem hwx0_9 : ∀ i : grid0.Coords, EltTy.bits .f32 = 32 ∨ (Rect.block (s := S4x1280) S4x1280.size (cc0_transform_9 i) (hinb0_9 i)).WholeWords (EltTy.packing .f32) := fun _ => .inl rfl
theorem hstage0_10 : ∀ j, (stage0_10 j).IsWhole := fun | 0 => Memref.isWhole_whole _ | 1 => Memref.isWhole_whole _ | ⟨_ + 2, h⟩ => absurd h (Nat.not_lt.2 (Nat.le_add_left _ _))
theorem nbuf0_10 : grid0.bufCount reads0_10 false = 2 := by decide
theorem hreads0_10 : ∀ i i' : grid0.Coords, (∀ a, reads0_10 a = true → i a = i' a) → cc0_transform_10 i = cc0_transform_10 i' := fun i i' h => by unfold cc0_transform_10; rw [h 0 rfl]
theorem hinb0_10 : ∀ (i : grid0.Coords) a, (cc0_transform_10 i a + 1) * S512x1280.size a ≤ S16384x1280.size a := by decide +kernel
theorem hwx0_10 : ∀ i : grid0.Coords, EltTy.bits .f32 = 32 ∨ (Rect.block (s := S16384x1280) S512x1280.size (cc0_transform_10 i) (hinb0_10 i)).WholeWords (EltTy.packing .f32) := fun _ => .inl rfl

instance facts₀ : Cert.Later.Facts₀ where
  inb_S4x6_S1x1_k_4 := @inb_S4x6_S1x1_k_4 _
  numel1_S1x1 := @numel1_S1x1 _
  inb_S4x1280_S1x1280_k_0 := @inb_S4x1280_S1x1280_k_0 _
  h_S1x1280 := @h_S1x1280 _
  h_S128x1280 := @h_S128x1280 _
  reduces_S128x1280_S128 := @reduces_S128x1280_S128 _
  shapeCasts_S128_S128x1 := @shapeCasts_S128_S128x1 _
  broadcasts_S128x1_S128x1280 := @broadcasts_S128x1_S128x1280 _
  broadcasts_S1x1280_S128x1280 := @broadcasts_S1x1280_S128x1280 _
  bitsLt_fp8e4m3_f32 := @bitsLt_fp8e4m3_f32 _
  shapeCasts_S128x1280_S128x1280 := @shapeCasts_S128x1280_S128x1280 _
  inb_S4x6_S1x1_k_5 := @inb_S4x6_S1x1_k_5 _
  inb_S512x1280_S512x1280_0_0 := @inb_S512x1280_S512x1280_0_0 _
  h_S512x1280 := @h_S512x1280 _
  h_S1x1280x512 := @h_S1x1280x512 _
  shapeCasts_S1x1280x512_S1280x512 := @shapeCasts_S1x1280x512_S1280x512 _
  h_S1x512 := @h_S1x512 _
  broadcasts_S1x512_S512x512 := @broadcasts_S1x512_S512x512 _
  h_S512x512 := @h_S512x512 _
  shapeCasts_S512x512_S512x512 := @shapeCasts_S512x512_S512x512 _
  inb_S512x5120_S512x5120_0_0 := @inb_S512x5120_S512x5120_0_0 _
  h_S512x5120 := @h_S512x5120 _
  h_S1x5120x256 := @h_S1x5120x256 _
  shapeCasts_S1x5120x256_S5120x256 := @shapeCasts_S1x5120x256_S5120x256 _
  h_S512x256 := @h_S512x256 _
  h_S1x256 := @h_S1x256 _
  broadcasts_S1x256_S512x256 := @broadcasts_S1x256_S512x256 _
  dot_S512x1280_S1280x512_S512x512_1_0_0_1_n_n_wf := @dot_S512x1280_S1280x512_S512x512_1_0_0_1_n_n_wf _
  dot_S512x5120_S5120x256_S512x256_1_0_0_1_n_n_wf := @dot_S512x5120_S5120x256_S512x256_1_0_0_1_n_n_wf _
  hrank0 := @hrank0 _
  k0_t1_ok := @k0_t1_ok _
  k0_off1_inb := @k0_off1_inb
  k0_off1_packedfp8e4m3 := @k0_off1_packedfp8e4m3
  k0_t2_ok := @k0_t2_ok _
  k0_mult1_dvd := @k0_mult1_dvd _
  k0_mult2_dvd := @k0_mult2_dvd _
  k0_off2_inb := @k0_off2_inb _
  k0_off3_inb := @k0_off3_inb _
  k0_off4_inb := @k0_off4_inb _
  k0_off5_inb := @k0_off5_inb _
  k0_off6_inb := @k0_off6_inb
  k0_off6_packedfp8e4m3 := @k0_off6_packedfp8e4m3
  k0_t3_ok := @k0_t3_ok _
  k0_mult3_dvd := @k0_mult3_dvd _
  k0_off7_inb := @k0_off7_inb _
  k0_off8_inb := @k0_off8_inb _
  k0_off9_inb := @k0_off9_inb _
  hstage0_0 := @hstage0_0 _
  nbuf0_0 := @nbuf0_0 _
  hreads0_0 := @hreads0_0 _
  hinb0_0 := @hinb0_0 _
  hwx0_0 := @hwx0_0 _
  hstage0_1 := @hstage0_1 _
  nbuf0_1 := @nbuf0_1 _
  hreads0_1 := @hreads0_1 _
  hinb0_1 := @hinb0_1 _
  hwx0_1 := @hwx0_1 _
  hstage0_2 := @hstage0_2 _
  nbuf0_2 := @nbuf0_2 _
  hreads0_2 := @hreads0_2 _
  hinb0_2 := @hinb0_2 _
  hwx0_2 := @hwx0_2 _
  hstage0_3 := @hstage0_3 _
  nbuf0_3 := @nbuf0_3 _
  hreads0_3 := @hreads0_3 _
  hinb0_3 := @hinb0_3 _
  hwx0_3 := @hwx0_3 _
  hstage0_4 := @hstage0_4 _
  nbuf0_4 := @nbuf0_4 _
  hreads0_4 := @hreads0_4 _
  hinb0_4 := @hinb0_4 _
  hwx0_4 := @hwx0_4 _
  hstage0_5 := @hstage0_5 _
  nbuf0_5 := @nbuf0_5 _
  hreads0_5 := @hreads0_5 _
  hinb0_5 := @hinb0_5 _
  hwx0_5 := @hwx0_5 _
  hstage0_6 := @hstage0_6 _
  nbuf0_6 := @nbuf0_6 _
  hreads0_6 := @hreads0_6 _
  hinb0_6 := @hinb0_6 _
  hwx0_6 := @hwx0_6 _
  hstage0_7 := @hstage0_7 _
  nbuf0_7 := @nbuf0_7 _
  hreads0_7 := @hreads0_7 _
  hinb0_7 := @hinb0_7 _
  hwx0_7 := @hwx0_7 _
  hstage0_8 := @hstage0_8 _
  nbuf0_8 := @nbuf0_8 _
  hreads0_8 := @hreads0_8 _
  hinb0_8 := @hinb0_8 _
  hwx0_8 := @hwx0_8 _
  hstage0_9 := @hstage0_9 _
  nbuf0_9 := @nbuf0_9 _
  hreads0_9 := @hreads0_9 _
  hinb0_9 := @hinb0_9 _
  hwx0_9 := @hwx0_9 _
  hstage0_10 := @hstage0_10 _
  nbuf0_10 := @nbuf0_10 _
  hreads0_10 := @hreads0_10 _
  hinb0_10 := @hinb0_10 _
  hwx0_10 := @hwx0_10 _

instance facts : Cert.Later.Facts where

theorem k0_off1_eq : ∀ k0_t1 : Fin k0_t1_loop.trips, k0_off1 k0_t1 = ![128 * k0_t1.val, 0] := by decide +kernel
instance closedOff_k0_off1 (k0_t1 : Fin k0_t1_loop.trips) : ClosedOff (k0_off1 k0_t1) := ⟨![128 * k0_t1.val, 0], k0_off1_eq k0_t1⟩

theorem k0_off2_eq : ∀ k0_t2 : Fin k0_t2_loop.trips, k0_off2 k0_t2 = ![0, 0, 512 * k0_t2.val + 5120] := by decide +kernel
instance closedOff_k0_off2 (k0_t2 : Fin k0_t2_loop.trips) : ClosedOff (k0_off2 k0_t2) := ⟨![0, 0, 512 * k0_t2.val + 5120], k0_off2_eq k0_t2⟩

instance closedOff_k0_off3 (k0_t2 : Fin k0_t2_loop.trips) : ClosedOff (k0_off3 k0_t2) := ⟨![Blk.k, 512 * k0_t2.val + 5120], k0_off3_eq k0_t2⟩

theorem k0_off4_eq : ∀ k0_t2 : Fin k0_t2_loop.trips, k0_off4 k0_t2 = ![0, 0, 512 * k0_t2.val] := by decide +kernel
instance closedOff_k0_off4 (k0_t2 : Fin k0_t2_loop.trips) : ClosedOff (k0_off4 k0_t2) := ⟨![0, 0, 512 * k0_t2.val], k0_off4_eq k0_t2⟩

instance closedOff_k0_off5 (k0_t2 : Fin k0_t2_loop.trips) : ClosedOff (k0_off5 k0_t2) := ⟨![Blk.k, 512 * k0_t2.val], k0_off5_eq k0_t2⟩

theorem k0_off6_eq : ∀ k0_t2 : Fin k0_t2_loop.trips, k0_off6 k0_t2 = ![0, 512 * k0_t2.val] := by decide +kernel
instance closedOff_k0_off6 (k0_t2 : Fin k0_t2_loop.trips) : ClosedOff (k0_off6 k0_t2) := ⟨![0, 512 * k0_t2.val], k0_off6_eq k0_t2⟩

theorem k0_off7_eq : ∀ k0_t3 : Fin k0_t3_loop.trips, k0_off7 k0_t3 = ![0, 0, 256 * k0_t3.val] := by decide +kernel
instance closedOff_k0_off7 (k0_t3 : Fin k0_t3_loop.trips) : ClosedOff (k0_off7 k0_t3) := ⟨![0, 0, 256 * k0_t3.val], k0_off7_eq k0_t3⟩

theorem k0_off8_eq : ∀ k0_t3 : Fin k0_t3_loop.trips, k0_off8 k0_t3 = ![0, 256 * k0_t3.val] := by decide +kernel
instance closedOff_k0_off8 (k0_t3 : Fin k0_t3_loop.trips) : ClosedOff (k0_off8 k0_t3) := ⟨![0, 256 * k0_t3.val], k0_off8_eq k0_t3⟩

instance closedOff_k0_off9 (k0_t3 : Fin k0_t3_loop.trips) : ClosedOff (k0_off9 k0_t3) := ⟨![Blk.k, 256 * k0_t3.val], k0_off9_eq k0_t3⟩

end Cert.Later.Gen
-- ==== Proof.Later.Launch.lean ====
/-
  How the feed-forward call is launched: its semaphores, windows and scratch buffers, for every block number.
-/
module

public import proofs.«01_k».proof.Proof.Later.Facts
public import Idealize.ShloMosaic.Lib.Pipeline.Kit
public import Idealize.ShloMosaic.Lib.Pipeline.Regions
public import Idealize.ShloMosaic.Lib.Tactic

@[expose] public section

noncomputable section

namespace Cert.Later.Gen

open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

variable [Blk]

abbrev semTab : Fin 1 → List (DmaSem sig) :=
  fun | 0 => Pipeline.specSems spec0 | ⟨_ + 1, h⟩ => absurd h (Nat.not_lt.2 (Nat.le_add_left _ _))

theorem semsDistinct : ∀ p : Fin 1, (semTab p).Nodup := of_decide_eq_true (by sl_kernel_rfl)

theorem semsDisjoint : ∀ p p' : Fin 1, p ≠ p' → (semTab p).Forall (· ∉ semTab p') := of_decide_eq_true (by sl_kernel_rfl)

theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

theorem winFacts0 : Pipeline.WinFacts spec0 := of_decide_eq_true (by sl_kernel_rfl)

theorem block_pos0 : ∀ w : Fin 11, 0 < (spec0 w).block.numel := of_decide_eq_true (by sl_kernel_rfl)

theorem arr_whole0 : ∀ w : Fin 11, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole0 : ∀ (w : Fin 11) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | ⟨_ + 11, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 32 := by decide

theorem bigSep_W0 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f)) :=
  Pipeline.scopedRest_eq_of_list spec0 c [cc0_scratch0, cc0_scratch1] (of_decide_eq_true (by sl_kernel_rfl)) (by decide)

theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = (BI.emp : sProp (MT nD τ sig Ix Val Name U Lvl)) :=
  Pipeline.unscopedRest_eq_of_list spec0 c V [] (of_decide_eq_true (by sl_kernel_rfl)) (by decide)

theorem main_chain (c : Dev nD) : main (F := F) c = (Pipeline.chain
  [ Prog.lift (.customCall (Pipeline.entry 0) ()) ] : Prog (TpuEff nD τ sig (Elt F) (Pipeline.Sig Λ₀ (Fin 1) fun p => (pcfgs (F := F) p).Adm) .tc) PUnit) := by
  rewrite [Pipeline.chain_cons]
  chain_rfl

theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (R0 : Pipeline.RegionSeg (pcfgs (F := F)) a pdats ι defs₀ 𝒱 L lv 0)
    (c : Dev nD) :
    main c = Pipeline.Seg.run [.region R0] := by
  simp only [Pipeline.Seg.run]
  rfl

end Cert.Later.Gen

end
-- ==== Proof.Later.Skeleton.lean ====
/-
  The feed-forward call's body as a sequence of memory operations over named pure values, for every block number.
-/
module

public import proofs.«01_k».proof.Proof.Later.Facts

@[expose] public section

set_option synthInstance.maxSize 4096

noncomputable section

namespace Cert.Later.Gen

open Idealize.ShloMosaic Idealize.SL.Sem

variable {F : FTy → Type} [FloatOps F]

variable [Blk]

noncomputable def k0_pay1 (v0 : Elt F .f32) (v4 : Vec F S1x1280 .f32) (v5 : Vec F S1x1280 .f32) (v15 : Vec F S128x1280 .f32) : FVec F S128x1280 .fp8e4m3 :=
  have v1 : FVec F S1x1280 .f32 := broadcast S1x1280 v0
  have cst : F .f32 := Scalar.ofBits .f32 0x3F800000#32
  have v2 : FVec F S1x1280 .f32 := broadcast S1x1280 cst
  have v3 : FVec F S1x1280 .f32 := divf v2 v1
  have v16 : FVec F S128 .f32 := multiReduction .add [1] S128 v15 0x00000000#32 reduces_S128x1280_S128 (.inl rfl) rfl
  have v17 : FVec F S128x1 .f32 := shapeCast S128x1 v16 shapeCasts_S128_S128x1
  have cst_14 : F .f32 := Scalar.ofBits .f32 0x44A00000#32
  have v18 : FVec F S128x1 .f32 := broadcast S128x1 cst_14
  have v19 : FVec F S128x1 .f32 := divf v17 v18
  have v20 : FVec F S128x1280 .f32 := broadcastTo S128x1280 v19 broadcasts_S128x1_S128x1280
  have v21 : FVec F S128x1280 .f32 := subf v15 v20
  have v22 : FVec F S128x1280 .f32 := mulf v21 v21
  have v23 : FVec F S128 .f32 := multiReduction .add [1] S128 v22 0x00000000#32 reduces_S128x1280_S128 (.inl rfl) rfl
  have v24 : FVec F S128x1 .f32 := shapeCast S128x1 v23 shapeCasts_S128_S128x1
  have cst_16 : F .f32 := Scalar.ofBits .f32 0x44A00000#32
  have v25 : FVec F S128x1 .f32 := broadcast S128x1 cst_16
  have v26 : FVec F S128x1 .f32 := divf v24 v25
  have cst_17 : F .f32 := Scalar.ofBits .f32 0x3727C5AC#32
  have v27 : FVec F S128x1 .f32 := broadcast S128x1 cst_17
  have v28 : FVec F S128x1 .f32 := addf v26 v27
  have v29 : FVec F S128x1 .f32 := rsqrt v28
  have v30 : FVec F S128x1280 .f32 := broadcastTo S128x1280 v29 broadcasts_S128x1_S128x1280
  have v31 : FVec F S128x1280 .f32 := mulf v21 v30
  have v32 : FVec F S128x1280 .f32 := broadcastTo S128x1280 v4 broadcasts_S1x1280_S128x1280
  have v33 : FVec F S128x1280 .f32 := mulf v31 v32
  have v34 : FVec F S128x1280 .f32 := broadcastTo S128x1280 v5 broadcasts_S1x1280_S128x1280
  have v35 : FVec F S128x1280 .f32 := addf v33 v34
  have v36 : FVec F S128x1280 .f32 := broadcastTo S128x1280 v3 broadcasts_S1x1280_S128x1280
  have v37 : FVec F S128x1280 .f32 := mulf v35 v36
  have cst_18 : F .f32 := Scalar.ofBits .f32 0xC3E00000#32
  have cst_19 : F .f32 := Scalar.ofBits .f32 0x43E00000#32
  have v38 : FVec F S128x1280 .f32 := broadcast S128x1280 cst_18
  have v39 : FVec F S128x1280 .f32 := maximumf v38 v37
  have v40 : FVec F S128x1280 .f32 := broadcast S128x1280 cst_19
  have v41 : FVec F S128x1280 .f32 := minimumf v40 v39
  have v42 : FVec F S128x1280 .fp8e4m3 := truncf .fp8e4m3 v41 bitsLt_fp8e4m3_f32
  have v46 : FVec F S128x1280 .fp8e4m3 := shapeCast S128x1280 v42 shapeCasts_S128x1280_S128x1280
  v46

noncomputable def k0_pay2 (v7 : Elt F .f32) (v40 : FVec F S512x512 .f32) (v50 : FVec F S512x512 .f32) (v53 : FVec F S512x512 .f32) : FVec F S512x512 .fp8e4m3 :=
  have v8 : FVec F S1x512 .f32 := broadcast S1x512 v7
  have cst_5 : F .f32 := Scalar.ofBits .f32 0x3F800000#32
  have v9 : FVec F S1x512 .f32 := broadcast S1x512 cst_5
  have v10 : FVec F S1x512 .f32 := divf v9 v8
  have v54 : FVec F S512x512 .f32 := addf v50 v53
  have v55 : FVec F S512x512 .f32 := mulf v54 v40
  have v56 : FVec F S512x512 .f32 := broadcastTo S512x512 v10 broadcasts_S1x512_S512x512
  have v57 : FVec F S512x512 .f32 := mulf v55 v56
  have cst_28 : F .f32 := Scalar.ofBits .f32 0xC3E00000#32
  have cst_29 : F .f32 := Scalar.ofBits .f32 0x43E00000#32
  have v58 : FVec F S512x512 .f32 := broadcast S512x512 cst_28
  have v59 : FVec F S512x512 .f32 := maximumf v58 v57
  have v60 : FVec F S512x512 .f32 := broadcast S512x512 cst_29
  have v61 : FVec F S512x512 .f32 := minimumf v60 v59
  have v62 : FVec F S512x512 .fp8e4m3 := truncf .fp8e4m3 v61 bitsLt_fp8e4m3_f32
  have v66 : FVec F S512x512 .fp8e4m3 := shapeCast S512x512 v62 shapeCasts_S512x512_S512x512
  v66

noncomputable def k0_pay3 (v7 : Elt F .f32) (v15 : Vec F S512x5120 .fp8e4m3) (v17 : Vec F S1x5120x256 .fp8e4m3) (v21 : Vec F S512x256 .f32) (v23 : Vec F S1x256 .f32) (v29 : Vec F S1x256 .f32) : FVec F S512x256 .f32 :=
  have v18 : FVec F S5120x256 .fp8e4m3 := shapeCast S5120x256 v17 shapeCasts_S1x5120x256_S5120x256
  have cst_16 : FVec F S512x256 .f32 := constant S512x256 .f32 0x00000000#32
  have v19 : FVec F S512x256 .f32 := matmul dot_S512x5120_S5120x256_S512x256_1_0_0_1_n_n none v15 v18 cst_16
  have v24 : FVec F S1x256 .f32 := broadcast S1x256 v7
  have v25 : FVec F S1x256 .f32 := mulf v24 v23
  have v26 : FVec F S512x256 .f32 := broadcastTo S512x256 v25 broadcasts_S1x256_S512x256
  have v27 : FVec F S512x256 .f32 := mulf v19 v26
  have v30 : FVec F S512x256 .f32 := broadcastTo S512x256 v29 broadcasts_S1x256_S512x256
  have v31 : FVec F S512x256 .f32 := addf v27 v30
  have v32 : FVec F S512x256 .f32 := addf v21 v31
  v32

noncomputable def k0_pay4 (v0 : Elt F .f32) (v18 : Vec F S512x1280 .fp8e4m3) (v20 : Vec F S1x1280x512 .fp8e4m3) (v24 : Vec F S1x512 .f32) (v30 : Vec F S1x512 .f32) : FVec F S512x512 .f32 :=
  have v21 : FVec F S1280x512 .fp8e4m3 := shapeCast S1280x512 v20 shapeCasts_S1x1280x512_S1280x512
  have cst_17 : FVec F S512x512 .f32 := constant S512x512 .f32 0x00000000#32
  have v22 : FVec F S512x512 .f32 := matmul dot_S512x1280_S1280x512_S512x512_1_0_0_1_n_n none v18 v21 cst_17
  have v25 : FVec F S1x512 .f32 := broadcast S1x512 v0
  have v26 : FVec F S1x512 .f32 := mulf v25 v24
  have v27 : FVec F S512x512 .f32 := broadcastTo S512x512 v26 broadcasts_S1x512_S512x512
  have v28 : FVec F S512x512 .f32 := mulf v22 v27
  have v31 : FVec F S512x512 .f32 := broadcastTo S512x512 v30 broadcasts_S1x512_S512x512
  have v32 : FVec F S512x512 .f32 := addf v28 v31
  have cst_20 : F .f32 := Scalar.ofBits .f32 0x3F000000#32
  have v33 : FVec F S512x512 .f32 := broadcast S512x512 cst_20
  have v34 : FVec F S512x512 .f32 := mulf v33 v32
  have cst_21 : F .f32 := Scalar.ofBits .f32 0x3F3504F3#32
  have v35 : FVec F S512x512 .f32 := broadcast S512x512 cst_21
  have v36 : FVec F S512x512 .f32 := mulf v32 v35
  have v37 : FVec F S512x512 .f32 := erf v36
  have cst_22 : F .f32 := Scalar.ofBits .f32 0x3F800000#32
  have v38 : FVec F S512x512 .f32 := broadcast S512x512 cst_22
  have v39 : FVec F S512x512 .f32 := addf v38 v37
  have v40 : FVec F S512x512 .f32 := mulf v34 v39
  v40

noncomputable def k0_pay5 (v0 : Elt F .f32) (v18 : Vec F S512x1280 .fp8e4m3) (v42 : Vec F S1x1280x512 .fp8e4m3) (v46 : Vec F S1x512 .f32) : FVec F S512x512 .f32 :=
  have v43 : FVec F S1280x512 .fp8e4m3 := shapeCast S1280x512 v42 shapeCasts_S1x1280x512_S1280x512
  have cst_25 : FVec F S512x512 .f32 := constant S512x512 .f32 0x00000000#32
  have v44 : FVec F S512x512 .f32 := matmul dot_S512x1280_S1280x512_S512x512_1_0_0_1_n_n none v18 v43 cst_25
  have v47 : FVec F S1x512 .f32 := broadcast S1x512 v0
  have v48 : FVec F S1x512 .f32 := mulf v47 v46
  have v49 : FVec F S512x512 .f32 := broadcastTo S512x512 v48 broadcasts_S1x512_S512x512
  have v50 : FVec F S512x512 .f32 := mulf v44 v49
  v50

noncomputable def k0_pay6 (v52 : Vec F S1x512 .f32) : FVec F S512x512 .f32 :=
  have v53 : FVec F S512x512 .f32 := broadcastTo S512x512 v52 broadcasts_S1x512_S512x512
  v53

noncomputable def k0_t1_body (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) :
    Fin k0_t1_loop.trips → Unit → Prog (TpuEff nD τ sig (Elt F) Λ₀ .tc) (Unit) :=
  fun k0_t1 _ => do

    let v15 : Vec F S128x1280 .f32 ← Prog.lift (.load arg2 (Rect.unit (s := S512x1280) (k0_off1 k0_t1) S128x1280.size (k0_off1_inb k0_t1)).toLoadRect (View.loadsAt_vmem h_S128x1280))

    let v44 : Vec F S128x1280 .fp8e4m3 ← Prog.lift (.load arg12 (Rect.unit (s := S512x1280) (k0_off1 k0_t1) S128x1280.size (k0_off1_inb k0_t1)).toLoadRect (View.loadsAt_vmem h_S128x1280))

    Prog.lift (.store arg12 (Rect.unit (s := S512x1280) (k0_off1 k0_t1) S128x1280.size (k0_off1_inb k0_t1)) (k0_pay1 v0 v4 v5 v15) Finset.univ (View.stores_vmem h_S128x1280 (harg12.storeExact_slice rfl _ (k0_off1_packedfp8e4m3 k0_t1)) (fun _ => rfl)) (.inl rfl))
    pure ⟨⟩

noncomputable def k0_t2_body (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) :
    Fin k0_t2_loop.trips → Unit → Prog (TpuEff nD τ sig (Elt F) Λ₀ .tc) (Unit) :=
  fun k0_t2 _ => do
    let ⟨v14, v40, v50, v53⟩ : Σ' (v14 : BitVec 32) (v40 : FVec F S512x512 .f32) (v50 : FVec F S512x512 .f32), FVec F S512x512 .f32 ← k0_part1 i arg1 harg1 arg2 harg2 arg3 harg3 arg4 harg4 arg5 harg5 arg6 harg6 arg7 harg7 arg8 harg8 arg9 harg9 arg10 harg10 arg11 harg11 arg12 harg12 arg13 harg13 v0 0#32 1#32 k0_t2

    let v64 : Vec F S512x512 .fp8e4m3 ← Prog.lift (.load arg13 (Rect.unit (s := S512x5120) (k0_off6 k0_t2) S512x512.size (k0_off6_inb k0_t2)).toLoadRect (View.loadsAt_vmem h_S512x512))

    Prog.lift (.store arg13 (Rect.unit (s := S512x5120) (k0_off6 k0_t2) S512x512.size (k0_off6_inb k0_t2)) (k0_pay2 v7 v40 v50 v53) Finset.univ (View.stores_vmem h_S512x512 (harg13.storeExact_slice rfl _ (k0_off6_packedfp8e4m3 k0_t2)) (fun _ => rfl)) (.inl rfl))
    pure ⟨⟩

noncomputable def k0_t3_body (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) :
    Fin k0_t3_loop.trips → Unit → Prog (TpuEff nD τ sig (Elt F) Λ₀ .tc) (Unit) :=
  fun k0_t3 _ => do

    let v15 : Vec F S512x5120 .fp8e4m3 ← Prog.lift (.load arg13 (Rect.unit (s := S512x5120) ![0, 0] S512x5120.size inb_S512x5120_S512x5120_0_0).toLoadRect (View.loadsAt_vmem h_S512x5120))

    let v17 : Vec F S1x5120x256 .fp8e4m3 ← Prog.lift (.load arg6 (Rect.unit (s := S1x5120x1280) (k0_off7 k0_t3) S1x5120x256.size (k0_off7_inb k0_t3)).toLoadRect (View.loadsAt_vmem h_S1x5120x256))

    let v21 : Vec F S512x256 .f32 ← Prog.lift (.load arg2 (Rect.unit (s := S512x1280) (k0_off8 k0_t3) S512x256.size (k0_off8_inb k0_t3)).toLoadRect (View.loadsAt_vmem h_S512x256))

    let v23 : Vec F S1x256 .f32 ← Prog.lift (.load arg7 (Rect.unit (s := S4x1280) (k0_off9 k0_t3) S1x256.size (k0_off9_inb k0_t3)).toLoadRect (View.loadsAt_vmem h_S1x256))

    let v29 : Vec F S1x256 .f32 ← Prog.lift (.load arg8 (Rect.unit (s := S4x1280) (k0_off9 k0_t3) S1x256.size (k0_off9_inb k0_t3)).toLoadRect (View.loadsAt_vmem h_S1x256))

    let v34 : Vec F S512x256 .f32 ← Prog.lift (.load arg11 (Rect.unit (s := S512x1280) (k0_off8 k0_t3) S512x256.size (k0_off8_inb k0_t3)).toLoadRect (View.loadsAt_vmem h_S512x256))
    Prog.lift (.store arg11 (Rect.unit (s := S512x1280) (k0_off8 k0_t3) S512x256.size (k0_off8_inb k0_t3)) (k0_pay3 v7 v15 v17 v21 v23 v29) Finset.univ (View.stores_vmem_bits_univ h_S512x256 rfl) (.inl rfl))
    pure ⟨⟩

noncomputable def cc0_ff_skel (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) :
    Prog (TpuEff nD τ sig (Elt F) Λ₀ .tc) PUnit := do

  let v0 : Elt F .f32 ← smemLoad arg1 (Rect.unit (s := S4x6) ![Blk.k, 4] S1x1.size inb_S4x6_S1x1_k_4) numel1_S1x1 rfl
  let v4 : Vec F S1x1280 .f32 ← Prog.lift (.load arg9 (Rect.unit (s := S4x1280) ![Blk.k, 0] S1x1280.size inb_S4x1280_S1x1280_k_0).toLoadRect (View.loadsAt_vmem h_S1x1280))
  let v5 : Vec F S1x1280 .f32 ← Prog.lift (.load arg10 (Rect.unit (s := S4x1280) ![Blk.k, 0] S1x1280.size inb_S4x1280_S1x1280_k_0).toLoadRect (View.loadsAt_vmem h_S1x1280))

  Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 v0 v4 v5)
  let v7 : Elt F .f32 ← smemLoad arg1 (Rect.unit (s := S4x6) ![Blk.k, 5] S1x1.size inb_S4x6_S1x1_k_5) numel1_S1x1 rfl

  Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 v0 v7)

  Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11 arg12 harg12 arg13 harg13 v7)
  pure ⟨⟩

set_option maxRecDepth 65536 in

theorem cc0_ff_eq_skeleton : cc0_ff (F := F) = cc0_ff_skel (F := F) := rfl

noncomputable def k0_part1_skel (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (c0_i32_6 : BitVec 32) (c1_i32_7 : BitVec 32) (k0_t2 : Fin k0_t2_loop.trips) :
    Prog (TpuEff nD τ sig (Elt F) Λ₀ .tc) (Σ' (v14 : BitVec 32) (v40 : FVec F S512x512 .f32) (v50 : FVec F S512x512 .f32), FVec F S512x512 .f32) := do
  let arg14 : BitVec 32 := Scf.iv c0_i32_6 c1_i32_7 k0_t2
  let v13 : BitVec 32 := Scalar.muli arg14 512#32
  let v14 : BitVec 32 := v13

  let v18 : Vec F S512x1280 .fp8e4m3 ← Prog.lift (.load arg12 (Rect.unit (s := S512x1280) ![0, 0] S512x1280.size inb_S512x1280_S512x1280_0_0).toLoadRect (View.loadsAt_vmem h_S512x1280))

  let v20 : Vec F S1x1280x512 .fp8e4m3 ← Prog.lift (.load arg3 (Rect.unit (s := S1x1280x10240) (k0_off2 k0_t2) S1x1280x512.size (k0_off2_inb k0_t2)).toLoadRect (View.loadsAt_vmem h_S1x1280x512))

  let v24 : Vec F S1x512 .f32 ← Prog.lift (.load arg4 (Rect.unit (s := S4x10240) (k0_off3 k0_t2) S1x512.size (k0_off3_inb k0_t2)).toLoadRect (View.loadsAt_vmem h_S1x512))

  let v30 : Vec F S1x512 .f32 ← Prog.lift (.load arg5 (Rect.unit (s := S4x10240) (k0_off3 k0_t2) S1x512.size (k0_off3_inb k0_t2)).toLoadRect (View.loadsAt_vmem h_S1x512))

  let v42 : Vec F S1x1280x512 .fp8e4m3 ← Prog.lift (.load arg3 (Rect.unit (s := S1x1280x10240) (k0_off4 k0_t2) S1x1280x512.size (k0_off4_inb k0_t2)).toLoadRect (View.loadsAt_vmem h_S1x1280x512))

  let v46 : Vec F S1x512 .f32 ← Prog.lift (.load arg4 (Rect.unit (s := S4x10240) (k0_off5 k0_t2) S1x512.size (k0_off5_inb k0_t2)).toLoadRect (View.loadsAt_vmem h_S1x512))

  let v52 : Vec F S1x512 .f32 ← Prog.lift (.load arg5 (Rect.unit (s := S4x10240) (k0_off5 k0_t2) S1x512.size (k0_off5_inb k0_t2)).toLoadRect (View.loadsAt_vmem h_S1x512))
  pure ⟨v14, k0_pay4 v0 v18 v20 v24 v30, k0_pay5 v0 v18 v42 v46, k0_pay6 v52⟩

set_option maxRecDepth 65536 in

theorem k0_part1_eq_skeleton : k0_part1 (F := F) = k0_part1_skel (F := F) := rfl

end Cert.Later.Gen

end
-- ==== Proof.Later.Loops.lean ====
/-
  The three counted loops of the feed-forward call's body: invariants of their trips, for every block number.
-/
module

public import proofs.«01_k».proof.Proof.Later.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Later.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable [Blk]

local notation "𝕄G" => MT nD τ sig Unit (Elt F) ℕ (UR sig nD τ) ℕ

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 v0 v4 v5)

abbrev Trip_k0_t1 (c : Dev nD) (arg2 : Memref sig .tc .vmem S512x1280 .f32) (arg12 : Memref sig .tc .vmem S512x1280 .fp8e4m3) (X_arg2 : BufTy.Contents (Elt F) arg2.view.ty) (f_arg12 : BufTy.Contents (Elt F) arg12.view.ty) : sProp 𝕄G :=
  iprop((arg2.view.loc (c : Thread nD τ) ↦[arg2.view.set]{fullShare} X_arg2) ∗ (arg12.view.loc (c : Thread nD τ) ↦[arg12.view.set]{fullShare} f_arg12))

@[irreducible] def trip_k0_t1 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (k : Fin k0_t1_loop.trips) :
    { L_arg12 : List (View.Piece (Elt F) S512x1280 .fp8e4m3) // ∀ (E : Set ℕ) (f_arg12 : BufTy.Contents (Elt F) arg12.view.ty),
      Trip_k0_t1 (F := F) c arg2 arg12 X_arg2 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v0 v4 v5 k PUnit.unit)
          (fun _ => Trip_k0_t1 (F := F) c arg2 arg12 X_arg2 (arg12.view.writes (Elt F) f_arg12 L_arg12)) } := by
  have hk : k.val < 4 := Nat.lt_of_lt_of_le k.isLt k0_t1_abs.2.1
  refine ⟨?_, fun E f_arg12 => ?run⟩
  case run =>
    unfold k0_t1_body
    iintro ⟨HR_arg2, HW_arg12⟩
    sl_exec
    sl_step
    sl_close

abbrev tripL_k0_t1 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (k : Fin k0_t1_loop.trips) : List (View.Piece (Elt F) S512x1280 .fp8e4m3) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k).1

@[irreducible] def pb_k0_t1Step (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (k : ℕ) (prev : List (View.Piece (Elt F) S512x1280 .fp8e4m3)) : List (View.Piece (Elt F) S512x1280 .fp8e4m3) :=
  if h : k < k0_t1_loop.trips then
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 ⟨k, h⟩) ++ prev
  else prev

def pb_k0_t1 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) : ℕ → List (View.Piece (Elt F) S512x1280 .fp8e4m3)
  | 0 => []
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k)

theorem pb_k0_t1_succ (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 (k.val + 1)
      = (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k) ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k.val) := by
  rw [pb_k0_t1.eq_2]; unfold pb_k0_t1Step; exact dif_pos k.isLt

abbrev inv_k0_t1 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (G_arg12 : BufTy.Contents (Elt F) arg12.view.ty) (k : ℕ) (_u : PUnit) : sProp 𝕄G :=
  iprop((arg2.view.loc (c : Thread nD τ) ↦[arg2.view.set]{fullShare} X_arg2) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k)⌝))

set_option warn.classDefReducibility false in

@[sl_loop] def loopInv_k0_t1 (𝒱 : Variants) (c : Dev nD) (bd : Option 𝒱.V) (E : Set ℕ) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v4 : Vec F S1x1280 .f32) (v5 : Vec F S1x1280 .f32) (X_arg2 : BufTy.Contents (Elt F) arg2.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v4 v5 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 G_arg12
  step k acc := by
    iintro ⟨HR_arg2, ⟨%f_arg12, HW_arg12, %h_arg12⟩⟩
    iapply (wp_wand_r Idealize.ShloMosaic.frame (wpE (defs₀ (F := F)) 𝒱 (c : Thread nD τ) bd) E)
    isplitl [HR_arg2 HW_arg12]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v4 v5 X_arg2 k).2 E f_arg12)
      isplitl [HR_arg2]; · iexact HR_arg2
      iexact HW_arg12
    · iintro %_ ⟨HR_arg2, HW_arg12⟩
      isplitl [HR_arg2]; · iexact HR_arg2
      rw [pb_k0_t1_succ]
      iexists _; isplitl [HW_arg12]; · iexact HW_arg12
      ipureintro; rw [h_arg12, ← View.writes_append]

abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 v0 v7)

abbrev Trip_k0_t2 (c : Dev nD) (arg3 : Memref sig .tc .vmem S1x1280x10240 .fp8e4m3) (arg4 : Memref sig .tc .vmem S4x10240 .f32) (arg5 : Memref sig .tc .vmem S4x10240 .f32) (arg12 : Memref sig .tc .vmem S512x1280 .fp8e4m3) (arg13 : Memref sig .tc .vmem S512x5120 .fp8e4m3) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (f_arg13 : BufTy.Contents (Elt F) arg13.view.ty) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (arg13.view.loc (c : Thread nD τ) ↦[arg13.view.set]{fullShare} f_arg13))

@[irreducible] def trip_k0_t2 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t2_loop.trips) :
    { L_arg13 : List (View.Piece (Elt F) S512x5120 .fp8e4m3) // ∀ (E : Set ℕ) (f_arg13 : BufTy.Contents (Elt F) arg13.view.ty),
      Trip_k0_t2 (F := F) c arg3 arg4 arg5 arg12 arg13 X_arg3 X_arg4 X_arg5 X_arg12 f_arg13
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 v0 v7 k PUnit.unit)
          (fun _ => Trip_k0_t2 (F := F) c arg3 arg4 arg5 arg12 arg13 X_arg3 X_arg4 X_arg5 X_arg12 (arg13.view.writes (Elt F) f_arg13 L_arg13)) } := by
  have hk : k.val < 10 := Nat.lt_of_lt_of_le k.isLt k0_t2_abs.2.1
  refine ⟨?_, fun E f_arg13 => ?run⟩
  case run =>
    unfold k0_t2_body
    iintro ⟨HR_arg3, HR_arg4, HR_arg5, HR_arg12, HW_arg13⟩
    sl_exec
    sl_step
    sl_close

abbrev tripL_k0_t2 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t2_loop.trips) : List (View.Piece (Elt F) S512x5120 .fp8e4m3) :=
  (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k).1

@[irreducible] def pb_k0_t2Step (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : ℕ) (prev : List (View.Piece (Elt F) S512x5120 .fp8e4m3)) : List (View.Piece (Elt F) S512x5120 .fp8e4m3) :=
  if h : k < k0_t2_loop.trips then
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 ⟨k, h⟩) ++ prev
  else prev

def pb_k0_t2 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) : ℕ → List (View.Piece (Elt F) S512x5120 .fp8e4m3)
  | 0 => []
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k (pb_k0_t2 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k)

theorem pb_k0_t2_succ (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 (k.val + 1)
      = (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k) ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k.val) := by
  rw [pb_k0_t2.eq_2]; unfold pb_k0_t2Step; exact dif_pos k.isLt

abbrev inv_k0_t2 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg13 : BufTy.Contents (Elt F) arg13.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (∃ f, (arg13.view.loc (c : Thread nD τ) ↦[arg13.view.set]{fullShare} f) ∗ ⌜f = arg13.view.writes (Elt F) G_arg13 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k)⌝))

set_option warn.classDefReducibility false in

@[sl_loop] def loopInv_k0_t2 (𝒱 : Variants) (c : Dev nD) (bd : Option 𝒱.V) (E : Set ℕ) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v0 : Elt F .f32) (v7 : Elt F .f32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg13 : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v0 v7 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 G_arg13
  step k acc := by
    iintro ⟨HR_arg3, HR_arg4, HR_arg5, HR_arg12, ⟨%f_arg13, HW_arg13, %h_arg13⟩⟩
    iapply (wp_wand_r Idealize.ShloMosaic.frame (wpE (defs₀ (F := F)) 𝒱 (c : Thread nD τ) bd) E)
    isplitl [HR_arg3 HR_arg4 HR_arg5 HR_arg12 HW_arg13]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v0 v7 X_arg3 X_arg4 X_arg5 X_arg12 k).2 E f_arg13)
      isplitl [HR_arg3]; · iexact HR_arg3
      isplitl [HR_arg4]; · iexact HR_arg4
      isplitl [HR_arg5]; · iexact HR_arg5
      isplitl [HR_arg12]; · iexact HR_arg12
      iexact HW_arg13
    · iintro %_ ⟨HR_arg3, HR_arg4, HR_arg5, HR_arg12, HW_arg13⟩
      isplitl [HR_arg3]; · iexact HR_arg3
      isplitl [HR_arg4]; · iexact HR_arg4
      isplitl [HR_arg5]; · iexact HR_arg5
      isplitl [HR_arg12]; · iexact HR_arg12
      rw [pb_k0_t2_succ]
      iexists _; isplitl [HW_arg13]; · iexact HW_arg13
      ipureintro; rw [h_arg13, ← View.writes_append]

abbrev LoopInvTy_k0_t3 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 v7)

abbrev Trip_k0_t3 (c : Dev nD) (arg2 : Memref sig .tc .vmem S512x1280 .f32) (arg6 : Memref sig .tc .vmem S1x5120x1280 .fp8e4m3) (arg7 : Memref sig .tc .vmem S4x1280 .f32) (arg8 : Memref sig .tc .vmem S4x1280 .f32) (arg13 : Memref sig .tc .vmem S512x5120 .fp8e4m3) (arg11 : Memref sig .tc .vmem S512x1280 .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (f_arg11 : BufTy.Contents (Elt F) arg11.view.ty) : sProp 𝕄G :=
  iprop((arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg13.view.loc (c : Thread nD τ) ↦[arg13.view.set]{fullShare} X_arg13) ∗ (arg11.view.loc (c : Thread nD τ) ↦[arg11.view.set]{fullShare} f_arg11))

@[irreducible] def trip_k0_t3 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (k : Fin k0_t3_loop.trips) :
    { L_arg11 : List (View.Piece (Elt F) S512x1280 .f32) // ∀ (E : Set ℕ) (f_arg11 : BufTy.Contents (Elt F) arg11.view.ty),
      Trip_k0_t3 (F := F) c arg2 arg6 arg7 arg8 arg13 arg11 X_arg2 X_arg6 X_arg7 X_arg8 X_arg13 f_arg11
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 v7 k PUnit.unit)
          (fun _ => Trip_k0_t3 (F := F) c arg2 arg6 arg7 arg8 arg13 arg11 X_arg2 X_arg6 X_arg7 X_arg8 X_arg13 (arg11.view.writes (Elt F) f_arg11 L_arg11)) } := by
  have hk : k.val < 5 := Nat.lt_of_lt_of_le k.isLt k0_t3_abs.2.1
  refine ⟨?_, fun E f_arg11 => ?run⟩
  case run =>
    unfold k0_t3_body
    iintro ⟨HR_arg2, HR_arg6, HR_arg7, HR_arg8, HR_arg13, HW_arg11⟩
    sl_exec
    sl_step
    sl_close

abbrev tripL_k0_t3 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (k : Fin k0_t3_loop.trips) : List (View.Piece (Elt F) S512x1280 .f32) :=
  (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k).1

@[irreducible] def pb_k0_t3Step (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (k : ℕ) (prev : List (View.Piece (Elt F) S512x1280 .f32)) : List (View.Piece (Elt F) S512x1280 .f32) :=
  if h : k < k0_t3_loop.trips then
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 ⟨k, h⟩) ++ prev
  else prev

def pb_k0_t3 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) : ℕ → List (View.Piece (Elt F) S512x1280 .f32)
  | 0 => []
  | k + 1 => pb_k0_t3Step 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k (pb_k0_t3 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k)

theorem pb_k0_t3_succ (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (k : Fin k0_t3_loop.trips) :
    pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 (k.val + 1)
      = (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k) ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k.val) := by
  rw [pb_k0_t3.eq_2]; unfold pb_k0_t3Step; exact dif_pos k.isLt

abbrev inv_k0_t3 (𝒱 : Variants) (c : Dev nD) (bd : Option 𝒱.V) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (G_arg11 : BufTy.Contents (Elt F) arg11.view.ty) (k : ℕ) (_u : PUnit) : sProp 𝕄G :=
  iprop((arg2.view.loc (c : Thread nD τ) ↦[arg2.view.set]{fullShare} X_arg2) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg13.view.loc (c : Thread nD τ) ↦[arg13.view.set]{fullShare} X_arg13) ∗ (∃ f, (arg11.view.loc (c : Thread nD τ) ↦[arg11.view.set]{fullShare} f) ∗ ⌜f = arg11.view.writes (Elt F) G_arg11 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k)⌝))

set_option warn.classDefReducibility false in

@[sl_loop] def loopInv_k0_t3 (𝒱 : Variants) (c : Dev nD) (bd : Option 𝒱.V) (E : Set ℕ) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole) (v7 : Elt F .f32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (G_arg11 : BufTy.Contents (Elt F) arg11.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v7 where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 G_arg11
  step k acc := by
    iintro ⟨HR_arg2, HR_arg6, HR_arg7, HR_arg8, HR_arg13, ⟨%f_arg11, HW_arg11, %h_arg11⟩⟩
    iapply (wp_wand_r Idealize.ShloMosaic.frame (wpE (defs₀ (F := F)) 𝒱 (c : Thread nD τ) bd) E)
    isplitl [HR_arg2 HR_arg6 HR_arg7 HR_arg8 HR_arg13 HW_arg11]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v7 X_arg2 X_arg6 X_arg7 X_arg8 X_arg13 k).2 E f_arg11)
      isplitl [HR_arg2]; · iexact HR_arg2
      isplitl [HR_arg6]; · iexact HR_arg6
      isplitl [HR_arg7]; · iexact HR_arg7
      isplitl [HR_arg8]; · iexact HR_arg8
      isplitl [HR_arg13]; · iexact HR_arg13
      iexact HW_arg11
    · iintro %_ ⟨HR_arg2, HR_arg6, HR_arg7, HR_arg8, HR_arg13, HW_arg11⟩
      isplitl [HR_arg2]; · iexact HR_arg2
      isplitl [HR_arg6]; · iexact HR_arg6
      isplitl [HR_arg7]; · iexact HR_arg7
      isplitl [HR_arg8]; · iexact HR_arg8
      isplitl [HR_arg13]; · iexact HR_arg13
      rw [pb_k0_t3_succ]
      iexists _; isplitl [HW_arg11]; · iexact HW_arg11
      ipureintro; rw [h_arg11, ← View.writes_append]

end Cert.Later.Gen

end
-- ==== Proof.Later.Points.lean ====
/-
  At which grid steps each window of the feed-forward call is fetched or written back, for every block number.
-/
module

public import proofs.«01_k».proof.Proof.Later.Facts
public import Idealize.ShloMosaic.Lib.Pipeline.Kit

@[expose] public section

noncomputable section

namespace Cert.Later.Gen

open Idealize.ShloMosaic Idealize.ShloMosaic.TcCoe
open Idealize.SL Idealize.SL.Sem

variable {F : FTy → Type} [FloatOps F]

variable [Blk]

theorem fetch0_0 : ∀ t : Fin cfg0.N, (cfg0.win 0).fetch t = true ↔ t.val % 32 = 0 :=
  (fun t => Pipeline.Window.fetch_const win0_0 rfl (fun _ _ => rfl) (n := 32) (by decide) t : ∀ t : Fin grid0.N, win0_0.fetch t = true ↔ t.val % 32 = 0)

theorem fetch0_1 : ∀ t : Fin cfg0.N, (cfg0.win 1).fetch t = true :=
  (fun t => (Pipeline.Window.fetch_reads win0_1 rfl 0 (by decide) (show grid0.fixedAfter reads0_1 0 = true by decide) (Pipeline.Window.sep_of_coord cc0_transform_1 0 0 (fun _ => rfl) (by decide)) (P := 1) (by decide) t).mpr (Nat.mod_one _) : ∀ t : Fin grid0.N, win0_1.fetch t = true)

theorem fetch0_2 : ∀ t : Fin cfg0.N, (cfg0.win 2).fetch t = true ↔ t.val % 32 = 0 :=
  (fun t => Pipeline.Window.fetch_const win0_2 rfl (fun _ _ => rfl) (n := 32) (by decide) t : ∀ t : Fin grid0.N, win0_2.fetch t = true ↔ t.val % 32 = 0)

theorem fetch0_3 : ∀ t : Fin cfg0.N, (cfg0.win 3).fetch t = true ↔ t.val % 32 = 0 :=
  (fun t => Pipeline.Window.fetch_const win0_3 rfl (fun _ _ => rfl) (n := 32) (by decide) t : ∀ t : Fin grid0.N, win0_3.fetch t = true ↔ t.val % 32 = 0)

theorem fetch0_4 : ∀ t : Fin cfg0.N, (cfg0.win 4).fetch t = true ↔ t.val % 32 = 0 :=
  (fun t => Pipeline.Window.fetch_const win0_4 rfl (fun _ _ => rfl) (n := 32) (by decide) t : ∀ t : Fin grid0.N, win0_4.fetch t = true ↔ t.val % 32 = 0)

theorem fetch0_5 : ∀ t : Fin cfg0.N, (cfg0.win 5).fetch t = true ↔ t.val % 32 = 0 :=
  (fun t => Pipeline.Window.fetch_const win0_5 rfl (fun _ _ => rfl) (n := 32) (by decide) t : ∀ t : Fin grid0.N, win0_5.fetch t = true ↔ t.val % 32 = 0)

theorem fetch0_6 : ∀ t : Fin cfg0.N, (cfg0.win 6).fetch t = true ↔ t.val % 32 = 0 :=
  (fun t => Pipeline.Window.fetch_const win0_6 rfl (fun _ _ => rfl) (n := 32) (by decide) t : ∀ t : Fin grid0.N, win0_6.fetch t = true ↔ t.val % 32 = 0)

theorem fetch0_7 : ∀ t : Fin cfg0.N, (cfg0.win 7).fetch t = true ↔ t.val % 32 = 0 :=
  (fun t => Pipeline.Window.fetch_const win0_7 rfl (fun _ _ => rfl) (n := 32) (by decide) t : ∀ t : Fin grid0.N, win0_7.fetch t = true ↔ t.val % 32 = 0)

theorem fetch0_8 : ∀ t : Fin cfg0.N, (cfg0.win 8).fetch t = true ↔ t.val % 32 = 0 :=
  (fun t => Pipeline.Window.fetch_const win0_8 rfl (fun _ _ => rfl) (n := 32) (by decide) t : ∀ t : Fin grid0.N, win0_8.fetch t = true ↔ t.val % 32 = 0)

theorem fetch0_9 : ∀ t : Fin cfg0.N, (cfg0.win 9).fetch t = true ↔ t.val % 32 = 0 :=
  (fun t => Pipeline.Window.fetch_const win0_9 rfl (fun _ _ => rfl) (n := 32) (by decide) t : ∀ t : Fin grid0.N, win0_9.fetch t = true ↔ t.val % 32 = 0)

theorem flush0_10 : ∀ t : Fin cfg0.N, (cfg0.win 10).flush t = true :=
  (fun t => (Pipeline.Window.flush_reads win0_10 rfl 0 (by decide) (show grid0.fixedAfter reads0_10 0 = true by decide) (Pipeline.Window.sep_of_coord cc0_transform_10 0 0 (fun _ => rfl) (by decide)) (P := 1) (m := 0) (by decide) rfl t).mpr (Nat.mod_one _) : ∀ t : Fin grid0.N, win0_10.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)

abbrev bodyAt0 (t : Fin cfg0.N) : Prog (TpuEff nD τ sig (Elt F) Λ₀ .tc) PUnit :=
  cc0_ff (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)

end Cert.Later.Gen

end
-- ==== Proof.Later.Runs.lean ====
/-
  What the run of the feed-forward call is stated over: the entry contents, the staged blocks, the staging and scratch
  buffers, for every block number.
-/
module

public import proofs.«01_k».proof.Proof.Later.Launch
public import proofs.«01_k».proof.Proof.Later.Skeleton
public import proofs.«01_k».proof.Proof.Later.Loops
public import proofs.«01_k».proof.Proof.Later.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Later.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable [Blk]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c)))⟩) h

abbrev VO0_10 : View sig .tc .vmem S512x1280 .f32 := (Memref.whole cc0_stg10_0 : Memref sig .tc .vmem S512x1280 .f32).view

abbrev ms0_0 (t : Fin cfg0.N) : Memref sig .tc .smem S4x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280x10240 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x10240 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x10240 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120x1280 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1280 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x1280 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1280 .f32 := win0_10.stage (cfg0.slots t 10)
abbrev hs0_10 (t : Fin cfg0.N) : (ms0_10 t).IsWhole := hstage0_10 ((cfg0.slots t 10).cast nbuf0_10)

abbrev scM0_0 : Memref sig .tc .vmem S512x1280 .fp8e4m3 := Memref.whole cc0_scratch0
abbrev scM0_1 : Memref sig .tc .vmem S512x5120 .fp8e4m3 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Later.Gen

end
-- ==== Proof.Later.Run.lean ====
/-
  For every block number:
  one run of the kernel's body at a grid point: from staging memrefs holding the inputs' blocks, it ends with the inputs'
  as they were and the output's and the two scratch memrefs at what the three loops wrote, a function of the inputs' blocks alone.
  The second loop reads the codes the first loop wrote and the third reads those of the second; each of these buffers is
  tiled by the loop that writes it, so what the next loop reads does not depend on what the buffer held before.
-/
module

public import proofs.«01_k».proof.Proof.Later.Runs
public import proofs.«01_k».proof.Proof.Codes

@[expose] public section

set_option maxRecDepth 16384

noncomputable section

namespace Cert.Later.Block

open Cert.Later Cert.Later.Gen Cert.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable [Blk]

local notation "𝕄" => MT nD τ sig Unit (Elt F) ℕ (UR sig nD τ) ℕ

-- the run's proof term is large
set_option maxHeartbeats 1000000 in
/-- The pieces the body writes into the output (the rows returned) and the two scratch buffers (the layer norm's codes, the
    hidden units' codes), with the proof that the body runs: the inputs' memrefs keep their blocks, the others hold their pieces. -/
noncomputable def bodyRun (c : Dev nD) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole)
    (x0 : Vec F S4x6 .f32) (x1 : Vec F S512x1280 .f32) (x2 : Vec F S1x1280x10240 .fp8e4m3) (x3 : Vec F S4x10240 .f32) (x4 : Vec F S4x10240 .f32) (x5 : Vec F S1x5120x1280 .fp8e4m3) (x6 : Vec F S4x1280 .f32) (x7 : Vec F S4x1280 .f32) (x8 : Vec F S4x1280 .f32) (x9 : Vec F S4x1280 .f32) :
    Σ' (L10 : List (View.Piece (Elt F) S512x1280 .f32)), Σ' (L11 : List (View.Piece (Elt F) S512x1280 .fp8e4m3)), { L12 : List (View.Piece (Elt F) S512x5120 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (View.canon L10) ∗ owns (c : Thread nD τ) arg12 fullShare (View.canon L11) ∗ owns (c : Thread nD τ) arg13 fullShare (View.canon L12)) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ff_eq_skeleton]; unfold cc0_ff_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    rw [writes_whole harg12 S128x1280.size f11 _ (by sl_kernel_rfl)]
    rw [writes_whole harg13 S512x512.size f12 _ (by sl_kernel_rfl)]
    rw [writes_whole harg11 S512x256.size f10 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr
      swap; · iexact H10
      ipureintro; exact harg11.read_unread _
    isplitl [H11]
    · iexists _; isplitr
      swap; · iexact H11
      ipureintro; exact harg12.read_unread _
    iexists _; isplitr
    swap; · iexact H12
    ipureintro; exact harg13.read_unread _

end Cert.Later.Block

end
-- ==== Proof.Later.Frame.lean ====
/-
  For every block number, the pipeline's run: at every grid point the body turns the inputs' blocks into the output's block of Run.lean; hence
  every execution terminates, leaves the arguments as they were, and the result array holds what the points wrote back.
-/
module

public import proofs.«01_k».proof.Proof.Later.Run
public import Idealize.ShloMosaic.Lib.Claim

@[expose] public section

set_option maxRecDepth 16384

noncomputable section

namespace Cert.Later.Block

open Cert.Later Cert.Later.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [Blk]

variable (m : (ℓ : Loc nD τ sig) → Buf (Elt F) ℓ) (ρ : Dev nD → PrngReg)

/-- The body's run at grid point `t`: at the point's staging memrefs, from the inputs' blocks there. -/
def pointRun (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at the run's pieces. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => View.canon (pointRun m c t).1
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = View.canon (pointRun m c t).1 := rfl

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the scratch buffers come from the invariant and go back to it at other contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    show (dats m 0 c).Φ t.castSucc = Pipeline.ΦA spec0 c from rfl, PhiA0_eq]
  iintro ⟨⟨⟨⟨%e11, H11⟩, ⟨%e12, H12⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((pointRun m c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [H11 H12 Hρ]
  · isplitl [H11 H12]
    · isplitl [H11]
      · iexists _; iexact H11
      · iexists _; iexact H12
    · iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim: every execution terminates, the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- The run with each result array named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Later.Block

end
-- ==== Proof.Later.Payload.lean ====
/-
  For every block number, what the kernel's stores carry, read at an index: the codes of the layer norm (first loop), the codes of the hidden
  units (second loop) and the rows returned (third loop), each as the reference's arithmetic (Math.lean) of what was
  loaded.
-/
module

public import proofs.«01_k».proof.Proof.Later.Skeleton
public import proofs.«01_k».proof.Proof.Math
public import Idealize.ShloMosaic.Lib.Pipeline.ValueKit

@[expose] public section

set_option maxRecDepth 16384

noncomputable section

namespace Cert.Later.Block

open Cert.Later Cert.Later.Gen Cert.Math
open Idealize.ShloMosaic Idealize.ShloMosaic.TcCoe Idealize.SL.Sem

variable [Blk]

/-- The first loop stores the layer norm's codes of the rows it loaded. -/
theorem pay1_at (s : Elt Ideal .f32) (hs : s ≠ (0 : EReal)) (g b : Vec Ideal S1x1280 .f32) (x : Vec Ideal S128x1280 .f32)
    (y : S128x1280.Idx) :
    k0_pay1 (F := Ideal) s g b x y
      = ffIn s (fun k => x (ix2 (y 0) k)) (fun k => g (ix2 0 k)) (fun k => b (ix2 0 k)) (y 1) := by
  obtain ⟨r, d, rfl⟩ : ∃ r d, y = ix2 r d := ⟨y 0, y 1, eq_ix2 y⟩
  pointwise [k0_pay1]
  rw [quant_of_mul hs]
  exact congrArg (quant · s) (layerNorm_of_rsqrt (fun k => x (ix2 r k)) (g (ix2 0 d)) (b (ix2 0 d)) d)

/-- The second loop stores the codes of value times GELU of gate, over the column blocks it loaded. -/
theorem pay2_at (s s' : Elt Ideal .f32) (hs : s' ≠ (0 : EReal)) (x : Vec Ideal S512x1280 .fp8e4m3)
    (wg : Vec Ideal S1x1280x512 .fp8e4m3) (wsg bg : Vec Ideal S1x512 .f32)
    (wv : Vec Ideal S1x1280x512 .fp8e4m3) (wsv bv : Vec Ideal S1x512 .f32) (y : S512x512.Idx) :
    k0_pay2 (F := Ideal) s' (k0_pay4 s x wg wsg bg) (k0_pay5 s x wv wsv) (k0_pay6 bv) y
      = quant (linear (fun k => x (ix2 (y 0) k)) (fun k => wv (ix3 0 k (y 1))) s (wsv (ix2 0 (y 1))) (bv (ix2 0 (y 1)))
          * gelu (linear (fun k => x (ix2 (y 0) k)) (fun k => wg (ix3 0 k (y 1))) s (wsg (ix2 0 (y 1))) (bg (ix2 0 (y 1))))) s' := by
  obtain ⟨r, d, rfl⟩ : ∃ r d, y = ix2 r d := ⟨y 0, y 1, eq_ix2 y⟩
  pointwise [k0_pay2, k0_pay5, k0_pay6, k0_pay4]
  rw [quant_of_mul hs, Ideal.erf_def, gelu_of_add]
  rfl

/-- The third loop stores the loaded rows plus the second layer of the hidden codes. -/
theorem pay3_at (s : Elt Ideal .f32) (t : Vec Ideal S512x5120 .fp8e4m3) (w : Vec Ideal S1x5120x256 .fp8e4m3)
    (h : Vec Ideal S512x256 .f32) (ws b : Vec Ideal S1x256 .f32) (y : S512x256.Idx) :
    k0_pay3 (F := Ideal) s t w h ws b y
      = h y + linear (fun k => t (ix2 (y 0) k)) (fun k => w (ix3 0 k (y 1))) s (ws (ix2 0 (y 1))) (b (ix2 0 (y 1))) := by
  pointwise [k0_pay3]
  rfl

end Cert.Later.Block
-- ==== Proof.Later.Pieces.lean ====
/-
  For every block number, what one grid point's block of the output and the scratch buffers hold: the three loops of Run.lean, read at an index as the reference's rows
  (Math.lean) of the inputs' blocks.  Every trip's store is a block of one function of the index, so the trips together
  leave that function.
-/
module

public import proofs.«01_k».proof.Proof.Later.Run
public import proofs.«01_k».proof.Proof.Codes
public import proofs.«01_k».proof.Proof.Later.Payload

@[expose] public section

set_option maxRecDepth 16384

noncomputable section

namespace Cert.Later.Block

open Cert.Later Cert.Later.Gen Cert.Math
open Idealize.ShloMosaic Idealize.ShloMosaic.TcCoe Idealize.SL.Sem

variable [Blk]

/-- The block's row of a table of four rows. -/
abbrev row : Fin 4 := ⟨Blk.k, Blk.lt⟩

/-! ## Where each trip loads and stores -/

/-- Trip `k` of the first loop: rows `128 k` on. -/
theorem off1 : ∀ k : Fin k0_t1_loop.trips, k0_off1 k 0 = 128 * k.val ∧ k0_off1 k 1 = 0 := by decide +kernel
/-- Trip `k` of the second loop: the gate's columns of the weights, -/
theorem off2 : ∀ k : Fin k0_t2_loop.trips, k0_off2 k 0 = 0 ∧ k0_off2 k 1 = 0 ∧ k0_off2 k 2 = 5120 + 512 * k.val := by decide +kernel
/-- of the scales and the bias; -/
theorem off3 : ∀ k : Fin k0_t2_loop.trips, k0_off3 k 0 = Blk.k ∧ k0_off3 k 1 = 5120 + 512 * k.val := fun k => by rw [k0_off3_eq k]; exact ⟨rfl, Nat.add_comm _ _⟩
/-- the value's columns of the weights, -/
theorem off4 : ∀ k : Fin k0_t2_loop.trips, k0_off4 k 0 = 0 ∧ k0_off4 k 1 = 0 ∧ k0_off4 k 2 = 512 * k.val := by decide +kernel
/-- of the scales and the bias; -/
theorem off5 : ∀ k : Fin k0_t2_loop.trips, k0_off5 k 0 = Blk.k ∧ k0_off5 k 1 = 512 * k.val := fun k => by rw [k0_off5_eq k]; exact ⟨rfl, rfl⟩
/-- the columns stored. -/
theorem off6 : ∀ k : Fin k0_t2_loop.trips, k0_off6 k 0 = 0 ∧ k0_off6 k 1 = 512 * k.val := by decide +kernel
/-- Trip `k` of the third loop: the columns of the weights, -/
theorem off7 : ∀ k : Fin k0_t3_loop.trips, k0_off7 k 0 = 0 ∧ k0_off7 k 1 = 0 ∧ k0_off7 k 2 = 256 * k.val := by decide +kernel
/-- of the rows read and stored, -/
theorem off8 : ∀ k : Fin k0_t3_loop.trips, k0_off8 k 0 = 0 ∧ k0_off8 k 1 = 256 * k.val := by decide +kernel
/-- of the scales and the bias. -/
theorem off9 : ∀ k : Fin k0_t3_loop.trips, k0_off9 k 0 = Blk.k ∧ k0_off9 k 1 = 256 * k.val := fun k => by rw [k0_off9_eq k]; exact ⟨rfl, rfl⟩

/-! ## One trip -/

variable (c : Dev nD) (i : grid0.Coords) (arg1 : Memref sig .tc .smem S4x6 .f32) (harg1 : arg1.IsWhole) (arg2 : Memref sig .tc .vmem S512x1280 .f32) (harg2 : arg2.IsWhole) (arg3 : Memref sig .tc .vmem S1x1280x10240 .fp8e4m3) (harg3 : arg3.IsWhole) (arg4 : Memref sig .tc .vmem S4x10240 .f32) (harg4 : arg4.IsWhole) (arg5 : Memref sig .tc .vmem S4x10240 .f32) (harg5 : arg5.IsWhole) (arg6 : Memref sig .tc .vmem S1x5120x1280 .fp8e4m3) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S4x1280 .f32) (harg10 : arg10.IsWhole) (arg11 : Memref sig .tc .vmem S512x1280 .f32) (harg11 : arg11.IsWhole) (arg12 : Memref sig .tc .vmem S512x1280 .fp8e4m3) (harg12 : arg12.IsWhole) (arg13 : Memref sig .tc .vmem S512x5120 .fp8e4m3) (harg13 : arg13.IsWhole)

/-- A trip of the first loop stores a block of the layer norm's codes. -/
theorem trip1 (s : Elt Ideal .f32) (hs : s ≠ (0 : EReal)) (g b : Vec Ideal S1x1280 .f32) (x1 : Vec Ideal S512x1280 .f32)
    (k : Fin k0_t1_loop.trips) : ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 s g b (harg2.unread x1) k,
      ∀ x : p.1.shape.Idx, p.2 x = codesIn s x1 (fun d => g (ix2 0 d)) (fun d => b (ix2 0 d)) (p.1.emb x) := by
  intro p hp
  unfold tripL_k0_t1 trip_k0_t1 at hp
  obtain rfl := List.mem_singleton.mp hp
  intro x
  obtain ⟨h0, h1⟩ := off1 k
  have e0 := Rect.idx_unit_val (s := S512x1280) (k0_off1 k) S128x1280.size (k0_off1_inb k) x 0
  have e1 := Rect.idx_unit_val (s := S512x1280) (k0_off1 k) S128x1280.size (k0_off1_inb k) x 1
  show k0_pay1 (F := Ideal) s g b _ x = codesIn s x1 (fun d => g (ix2 0 d)) (fun d => b (ix2 0 d)) ((Rect.unit (s := S512x1280) (k0_off1 k) S128x1280.size (k0_off1_inb k)).idx x)
  generalize (Rect.unit (s := S512x1280) (k0_off1 k) S128x1280.size (k0_off1_inb k)).idx x = y at e0 e1
  rw [pay1_at s hs, View.readAt_eq_ld, harg2.read_unread]
  unfold codesIn
  have hx : ∀ d, View.ld x1 (Rect.unit (k0_off1 k) S128x1280.size (k0_off1_inb k)) (ix2 (x 0) d) = x1 (ix2 (y 0) d) :=
    fun d => ld2 x1 _ _ _ _ _ _ e0 (by omega)
  have hd : x 1 = y 1 := Fin.ext (by omega)
  simp only [hx, hd]

/-- A trip of the second loop stores a block of the hidden units' codes. -/
theorem trip2 (s s' : Elt Ideal .f32) (hs : s' ≠ (0 : EReal)) (X : Vec Ideal S512x1280 .fp8e4m3) (x2 : Vec Ideal S1x1280x10240 .fp8e4m3)
    (x3 x4 : Vec Ideal S4x10240 .f32) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 s s' (harg3.unread x2) (harg4.unread x3) (harg5.unread x4) (harg12.unread X) k,
      ∀ x : p.1.shape.Idx, p.2 x = codesMid row s s' X x2 x3 x4 (p.1.emb x) := by
  intro p hp
  unfold tripL_k0_t2 trip_k0_t2 at hp
  obtain rfl := List.mem_singleton.mp hp
  intro x
  obtain ⟨h20, h21, h22⟩ := off2 k
  obtain ⟨h30, h31⟩ := off3 k
  obtain ⟨h40, h41, h42⟩ := off4 k
  obtain ⟨h50, h51⟩ := off5 k
  obtain ⟨h60, h61⟩ := off6 k
  have e0 := Rect.idx_unit_val (s := S512x5120) (k0_off6 k) S512x512.size (k0_off6_inb k) x 0
  have e1 := Rect.idx_unit_val (s := S512x5120) (k0_off6 k) S512x512.size (k0_off6_inb k) x 1
  show k0_pay2 (F := Ideal) s' (trip_k0_t2.sl.r _ _ _ _ _ _ _ _ _ _) (trip_k0_t2.sl.r_1 _ _ _ _ _ _ _ _) (trip_k0_t2.sl.r_2 _ _ _) x
    = codesMid row s s' X x2 x3 x4 ((Rect.unit (s := S512x5120) (k0_off6 k) S512x512.size (k0_off6_inb k)).idx x)
  generalize (Rect.unit (s := S512x5120) (k0_off6 k) S512x512.size (k0_off6_inb k)).idx x = y at e0 e1
  unfold trip_k0_t2.sl.r trip_k0_t2.sl.r_1 trip_k0_t2.sl.r_2
  simp only [View.readAt_eq_ld, harg3.read_unread, harg4.read_unread, harg5.read_unread, harg12.read_unread]
  rw [pay2_at s s' hs]
  unfold codesMid ffMid
  have hX : ∀ d, View.ld X (Rect.unit ![0, 0] S512x1280.size inb_S512x1280_S512x1280_0_0) (ix2 (x 0) d) = X (ix2 (y 0) d) :=
    fun d => ld2 X _ _ _ _ _ _ (by show _ = 0 + _; omega) (by show _ = 0 + _; omega)
  have hw : ∀ d, View.ld x2 (Rect.unit (k0_off4 k) S1x1280x512.size (k0_off4_inb k)) (ix3 0 d (x 1)) = x2 (ix3 0 d (valueCol (y 1))) :=
    fun d => ld3 x2 _ _ _ _ _ _ h40 (by omega) (by show (y 1).val = _; omega)
  have hg : ∀ d, View.ld x2 (Rect.unit (k0_off2 k) S1x1280x512.size (k0_off2_inb k)) (ix3 0 d (x 1)) = x2 (ix3 0 d (gateCol (y 1))) :=
    fun d => ld3 x2 _ _ _ _ _ _ h20 (by omega) (by show 5120 + (y 1).val = _; omega)
  have hv : ∀ b : Vec Ideal S4x10240 .f32,
      View.ld b (Rect.unit (k0_off5 k) S1x512.size (k0_off5_inb k)) (ix2 0 (x 1)) = b (ix2 row (valueCol (y 1))) :=
    fun b => ld2 b _ _ _ _ _ _ (by show Blk.k = _ + 0; omega) (by show (y 1).val = _; omega)
  have hb : ∀ b : Vec Ideal S4x10240 .f32,
      View.ld b (Rect.unit (k0_off3 k) S1x512.size (k0_off3_inb k)) (ix2 0 (x 1)) = b (ix2 row (gateCol (y 1))) :=
    fun b => ld2 b _ _ _ _ _ _ (by show Blk.k = _ + 0; omega) (by show 5120 + (y 1).val = _; omega)
  simp only [hX, hw, hg]
  rw [hv x3, hv x4, hb x3, hb x4]

/-- A trip of the third loop stores a block of the rows returned. -/
theorem trip3 (s' : Elt Ideal .f32) (T : Vec Ideal S512x5120 .fp8e4m3) (x1 : Vec Ideal S512x1280 .f32) (x5 : Vec Ideal S1x5120x1280 .fp8e4m3)
    (x6 x7 : Vec Ideal S4x1280 .f32) (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 s' (harg2.unread x1) (harg6.unread x5) (harg7.unread x6) (harg8.unread x7) (harg13.unread T) k,
      ∀ x : p.1.shape.Idx, p.2 x = rowsOut row s' T x5 x6 x7 x1 (p.1.emb x) := by
  intro p hp
  unfold tripL_k0_t3 trip_k0_t3 at hp
  obtain rfl := List.mem_singleton.mp hp
  intro x
  obtain ⟨h70, h71, h72⟩ := off7 k
  obtain ⟨h80, h81⟩ := off8 k
  obtain ⟨h90, h91⟩ := off9 k
  have e0 := Rect.idx_unit_val (s := S512x1280) (k0_off8 k) S512x256.size (k0_off8_inb k) x 0
  have e1 := Rect.idx_unit_val (s := S512x1280) (k0_off8 k) S512x256.size (k0_off8_inb k) x 1
  show k0_pay3 (F := Ideal) s' _ _ _ _ _ x
    = rowsOut row s' T x5 x6 x7 x1 ((Rect.unit (s := S512x1280) (k0_off8 k) S512x256.size (k0_off8_inb k)).idx x)
  simp only [View.readAt_eq_ld, harg2.read_unread, harg6.read_unread, harg7.read_unread, harg8.read_unread, harg13.read_unread]
  have hh : View.ld x1 (Rect.unit (k0_off8 k) S512x256.size (k0_off8_inb k)) x
      = x1 ((Rect.unit (s := S512x1280) (k0_off8 k) S512x256.size (k0_off8_inb k)).idx x) := rfl
  generalize (Rect.unit (s := S512x1280) (k0_off8 k) S512x256.size (k0_off8_inb k)).idx x = y at e0 e1 hh
  rw [pay3_at s', hh]
  unfold rowsOut ffOut
  have hT : ∀ d, View.ld T (Rect.unit ![0, 0] S512x5120.size inb_S512x5120_S512x5120_0_0) (ix2 (x 0) d) = T (ix2 (y 0) d) :=
    fun d => ld2 T _ _ _ _ _ _ (by show _ = 0 + _; omega) (by show _ = 0 + _; omega)
  have hw : ∀ d, View.ld x5 (Rect.unit (k0_off7 k) S1x5120x256.size (k0_off7_inb k)) (ix3 0 d (x 1)) = x5 (ix3 0 d (y 1)) :=
    fun d => ld3 x5 _ _ _ _ _ _ h70 (by omega) (by omega)
  have hb : ∀ b : Vec Ideal S4x1280 .f32,
      View.ld b (Rect.unit (k0_off9 k) S1x256.size (k0_off9_inb k)) (ix2 0 (x 1)) = b (ix2 row (y 1)) :=
    fun b => ld2 b _ _ _ _ _ _ (by show Blk.k = _ + 0; omega) (by omega)
  simp only [hT, hw]
  rw [hb x6, hb x7, ← eq_ix2 y]

/-! ## All trips -/

/-- The trips before the `n`th store blocks of the layer norm's codes, -/
theorem trips1 (s : Elt Ideal .f32) (hs : s ≠ (0 : EReal)) (g b : Vec Ideal S1x1280 .f32) (x1 : Vec Ideal S512x1280 .f32) :
    ∀ n ≤ k0_t1_loop.trips, ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 s g b (harg2.unread x1) n,
      ∀ x : p.1.shape.Idx, p.2 x = codesIn s x1 (fun d => g (ix2 0 d)) (fun d => b (ix2 0 d)) (p.1.emb x)
  | 0, _, p, hp => absurd hp List.not_mem_nil
  | n + 1, hn, p, hp => by
    rw [pb_k0_t1_succ _ _ _ _ arg1 harg1 arg2 harg2 arg3 harg3 arg4 harg4 arg5 harg5 arg6 harg6 arg7 harg7 arg8 harg8 arg9 harg9 arg10 harg10 arg11 harg11 arg12 harg12 arg13 harg13 s g b _ ⟨n, hn⟩] at hp
    rcases List.mem_append.mp hp with hp | hp
    · exact trip1 c i arg1 harg1 arg2 harg2 arg3 harg3 arg4 harg4 arg5 harg5 arg6 harg6 arg7 harg7 arg8 harg8 arg9 harg9 arg10 harg10 arg11 harg11 arg12 harg12 arg13 harg13 s hs g b x1 _ p hp
    · exact trips1 s hs g b x1 n (Nat.le_of_succ_le hn) p hp

/-- of the hidden units' codes, -/
theorem trips2 (s s' : Elt Ideal .f32) (hs : s' ≠ (0 : EReal)) (X : Vec Ideal S512x1280 .fp8e4m3) (x2 : Vec Ideal S1x1280x10240 .fp8e4m3)
    (x3 x4 : Vec Ideal S4x10240 .f32) :
    ∀ n ≤ k0_t2_loop.trips, ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 s s' (harg3.unread x2) (harg4.unread x3) (harg5.unread x4) (harg12.unread X) n,
      ∀ x : p.1.shape.Idx, p.2 x = codesMid row s s' X x2 x3 x4 (p.1.emb x)
  | 0, _, p, hp => absurd hp List.not_mem_nil
  | n + 1, hn, p, hp => by
    rw [pb_k0_t2_succ _ _ _ _ arg1 harg1 arg2 harg2 arg3 harg3 arg4 harg4 arg5 harg5 arg6 harg6 arg7 harg7 arg8 harg8 arg9 harg9 arg10 harg10 arg11 harg11 arg12 harg12 arg13 harg13 s s' _ _ _ _ ⟨n, hn⟩] at hp
    rcases List.mem_append.mp hp with hp | hp
    · exact trip2 c i arg1 harg1 arg2 harg2 arg3 harg3 arg4 harg4 arg5 harg5 arg6 harg6 arg7 harg7 arg8 harg8 arg9 harg9 arg10 harg10 arg11 harg11 arg12 harg12 arg13 harg13 s s' hs X x2 x3 x4 _ p hp
    · exact trips2 s s' hs X x2 x3 x4 n (Nat.le_of_succ_le hn) p hp

/-- of the rows returned. -/
theorem trips3 (s' : Elt Ideal .f32) (T : Vec Ideal S512x5120 .fp8e4m3) (x1 : Vec Ideal S512x1280 .f32) (x5 : Vec Ideal S1x5120x1280 .fp8e4m3)
    (x6 x7 : Vec Ideal S4x1280 .f32) :
    ∀ n ≤ k0_t3_loop.trips, ∀ p ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 s' (harg2.unread x1) (harg6.unread x5) (harg7.unread x6) (harg8.unread x7) (harg13.unread T) n,
      ∀ x : p.1.shape.Idx, p.2 x = rowsOut row s' T x5 x6 x7 x1 (p.1.emb x)
  | 0, _, p, hp => absurd hp List.not_mem_nil
  | n + 1, hn, p, hp => by
    rw [pb_k0_t3_succ _ _ _ _ arg1 harg1 arg2 harg2 arg3 harg3 arg4 harg4 arg5 harg5 arg6 harg6 arg7 harg7 arg8 harg8 arg9 harg9 arg10 harg10 arg11 harg11 arg12 harg12 arg13 harg13 s' _ _ _ _ _ ⟨n, hn⟩] at hp
    rcases List.mem_append.mp hp with hp | hp
    · exact trip3 c i arg1 harg1 arg2 harg2 arg3 harg3 arg4 harg4 arg5 harg5 arg6 harg6 arg7 harg7 arg8 harg8 arg9 harg9 arg10 harg10 arg11 harg11 arg12 harg12 arg13 harg13 s' T x1 x5 x6 x7 _ p hp
    · exact trips3 s' T x1 x5 x6 x7 n (Nat.le_of_succ_le hn) p hp

/-! ## The body's run -/

variable (x0 : Vec Ideal S4x6 .f32) (x1 : Vec Ideal S512x1280 .f32) (x2 : Vec Ideal S1x1280x10240 .fp8e4m3) (x3 x4 : Vec Ideal S4x10240 .f32)
  (x5 : Vec Ideal S1x5120x1280 .fp8e4m3) (x6 x7 x8 x9 : Vec Ideal S4x1280 .f32)

/-- The block's row of a table of four rows. -/
theorem tableRow (x : Vec Ideal S4x1280 .f32) (inb) (d : Fin 1280) :
    View.ld x (Rect.unit (s := S4x1280) ![Blk.k, 0] S1x1280.size inb) (ix2 0 d) = x (ix2 row d) :=
  ld2 x _ _ _ _ _ _ rfl (Nat.zero_add _).symm

/-- The two scales the body reads. -/
theorem scale_in : bodyRun.sl.r (F := Ideal) c arg1 harg1 x0 = x0 (ix2 row 4) := by
  unfold bodyRun.sl.r
  rw [View.readAt_eq_ld, harg1.read_unread]
  exact View.ld_unit_apply_of x0 _ _ _ _ _ fun a => by fin_cases a <;> rfl

theorem scale_mid : bodyRun.sl.r_1 (F := Ideal) c arg1 harg1 x0 = x0 (ix2 row 5) := by
  unfold bodyRun.sl.r_1
  rw [View.readAt_eq_ld, harg1.read_unread]
  exact View.ld_unit_apply_of x0 _ _ _ _ _ fun a => by fin_cases a <;> rfl

/-- What the first loop leaves: the layer norm's codes. -/
theorem loop_in (hs : x0 (ix2 row 4) ≠ (0 : EReal)) (inb inb') :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (bodyRun.sl.r c arg1 harg1 x0)
        (View.readAt (Elt Ideal) arg9.view (Rect.unit (s := S4x1280) ![Blk.k, 0] ![1, 1280] inb).toLoadRect (harg9.unread x8))
        (View.readAt (Elt Ideal) arg10.view (Rect.unit (s := S4x1280) ![Blk.k, 0] ![1, 1280] inb').toLoadRect (harg10.unread x9))
        (harg2.unread x1) (Scf.trips (0#32) (Scalar.addi 0#32 4#32) 1#32))
      = codesIn (x0 (ix2 row 4)) x1 (fun d => x8 (ix2 row d)) (fun d => x9 (ix2 row d)) := by
  funext y
  refine View.canon_apply_of_pieces (S := S512x1280) _ _ (fun p hp x => ?_) y (View.cover_of_tiledL (s := S512x1280) _ S128x1280.size (by sl_kernel_rfl) y)
  rw [scale_in] at hp
  refine (trips1 c i arg1 harg1 arg2 harg2 arg3 harg3 arg4 harg4 arg5 harg5 arg6 harg6 arg7 harg7 arg8 harg8 arg9 harg9 arg10 harg10 arg11 harg11 arg12 harg12 arg13 harg13 _ hs _ _ x1 _ le_rfl p hp x).trans ?_
  simp only [View.readAt_eq_ld, harg9.read_unread, harg10.read_unread]
  exact congrArg₂ (fun g b => codesIn _ x1 g b _) (funext (tableRow x8 inb)) (funext (tableRow x9 inb'))

/-- The first scratch buffer after the run: the layer norm's codes. -/
theorem run_in (hs : x0 (ix2 row 4) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1
      = codesIn (x0 (ix2 row 4)) x1 (fun d => x8 (ix2 row d)) (fun d => x9 (ix2 row d)) := by
  unfold bodyRun
  dsimp only
  exact loop_in c i arg1 harg1 arg2 harg2 arg3 harg3 arg4 harg4 arg5 harg5 arg6 harg6 arg7 harg7 arg8 harg8 arg9 harg9 arg10 harg10 arg11 harg11 arg12 harg12 arg13 harg13 x0 x1 x8 x9 hs _ _

/-- The second scratch buffer after the run: the hidden units' codes. -/
theorem run_mid (hs : x0 (ix2 row 4) ≠ (0 : EReal)) (hs' : x0 (ix2 row 5) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.2.1
      = codesMid row (x0 (ix2 row 4)) (x0 (ix2 row 5)) (codesIn (x0 (ix2 row 4)) x1 (fun d => x8 (ix2 row d)) (fun d => x9 (ix2 row d))) x2 x3 x4 := by
  unfold bodyRun
  dsimp only
  rw [loop_in c i arg1 harg1 arg2 harg2 arg3 harg3 arg4 harg4 arg5 harg5 arg6 harg6 arg7 harg7 arg8 harg8 arg9 harg9 arg10 harg10 arg11 harg11 arg12 harg12 arg13 harg13 x0 x1 x8 x9 hs, scale_in, scale_mid]
  funext y
  exact View.canon_apply_of_pieces (S := S512x5120) _ _ (trips2 c i arg1 harg1 arg2 harg2 arg3 harg3 arg4 harg4 arg5 harg5 arg6 harg6 arg7 harg7 arg8 harg8 arg9 harg9 arg10 harg10 arg11 harg11 arg12 harg12 arg13 harg13 _ _ hs' _ x2 x3 x4 _ le_rfl) y
    (View.cover_of_tiledL (s := S512x5120) _ S512x512.size (by sl_kernel_rfl) y)

/-- The block of the output after the run: the rows returned. -/
theorem run_out (hs : x0 (ix2 row 4) ≠ (0 : EReal)) (hs' : x0 (ix2 row 5) ≠ (0 : EReal)) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1
      = rowsOut row (x0 (ix2 row 5)) (codesMid row (x0 (ix2 row 4)) (x0 (ix2 row 5)) (codesIn (x0 (ix2 row 4)) x1 (fun d => x8 (ix2 row d)) (fun d => x9 (ix2 row d))) x2 x3 x4)
          x5 x6 x7 x1 := by
  have h := run_mid c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 hs hs'
  unfold bodyRun at h ⊢
  dsimp only at h ⊢
  rw [h, scale_mid]
  funext y
  exact View.canon_apply_of_pieces (S := S512x1280) _ _ (trips3 c i arg1 harg1 arg2 harg2 arg3 harg3 arg4 harg4 arg5 harg5 arg6 harg6 arg7 harg7 arg8 harg8 arg9 harg9 arg10 harg10 arg11 harg11 arg12 harg12 arg13 harg13 _ _ x1 x5 x6 x7 _ le_rfl) y
    (View.cover_of_tiledL (s := S512x1280) _ S512x256.size (by sl_kernel_rfl) y)

end Cert.Later.Block

end
-- ==== Proof.Later.Arrays.lean ====
/-
  What the kernel's result array holds, for every block number: at every index the reference's row of the arguments (Math.lean).
  Grid point `t` handles rows `512 t` on; every other argument is staged whole.
-/
module

public import proofs.«01_k».proof.Proof.Later.Frame
public import proofs.«01_k».proof.Proof.Later.Pieces
public import proofs.«01_k».proof.Proof.Spec

@[expose] public section

set_option maxRecDepth 16384

noncomputable section

namespace Cert.Later.Block

open Cert.Later Cert.Later.Gen Cert.Math
open Idealize.ShloMosaic Idealize.ShloMosaic.TcCoe Idealize.SL.Sem
open Idealize.ShloMosaic.Pipeline (Dat)

variable [Blk]

variable (m : (ℓ : Loc nD τ sig) → Buf (Elt Ideal) ℓ) (c : Dev nD)

/-- The block's number as a word and back. -/
theorem toNat_k : (BitVec.ofNat 32 Blk.k).toNat = Blk.k := by
  have h := Blk.lt
  rw [BitVec.toNat_ofNat]
  exact Nat.mod_eq_of_lt (by omega)

/-- A grid point's coordinate as a word and back. -/
theorem toNat_coord : ∀ t : Fin grid0.N, (BitVec.ofNat 32 (grid0.coords t 0).val).toNat = t.val := by decide +kernel

/-- The block each window stages at each grid point. -/
theorem idx (t : Fin cfg0.N) : (win0 0).index t = ![0, 0] ∧ (win0 1).index t = ![t.val, 0] ∧ (win0 2).index t = ![Blk.k, 0, 0] ∧ (win0 3).index t = ![0, 0]
    ∧ (win0 4).index t = ![0, 0] ∧ (win0 5).index t = ![Blk.k, 0, 0] ∧ (win0 6).index t = ![0, 0] ∧ (win0 7).index t = ![0, 0] ∧ (win0 8).index t = ![0, 0]
    ∧ (win0 9).index t = ![0, 0] ∧ (win0 10).index t = ![t.val, 0] ∧ win0_10.index t = ![t.val, 0] :=
  ⟨rfl, congrArg (fun n => (![n, 0] : Fin 2 → ℕ)) (toNat_coord t), congrArg (fun n => (![n, 0, 0] : Fin 3 → ℕ)) toNat_k, rfl, rfl,
    congrArg (fun n => (![n, 0, 0] : Fin 3 → ℕ)) toNat_k, rfl, rfl, rfl, rfl, congrArg (fun n => (![n, 0] : Fin 2 → ℕ)) (toNat_coord t),
    congrArg (fun n => (![n, 0] : Fin 2 → ℕ)) (toNat_coord t)⟩

/-- Row `r` of the block of point `t`, in the array. -/
abbrev rowAt (t : Fin cfg0.N) (r : Fin 512) : Fin 16384 := ⟨512 * t.val + r.val, by have := t.isLt; have : cfg0.N = 32 := rfl; omega⟩

/-- An offset within block zero. -/
theorem at_zero {n s d : ℕ} (h : n = 0) : n * s + d = d := by subst h; omega

/-- An offset within a block of 512 rows. -/
theorem at_row {n t d : ℕ} (h : n = t) : n * 512 + d = 512 * t + d := by subst h; omega

/-- Argument 0 is staged whole. -/
theorem blk0 (t : Fin cfg0.N) (r : Fin 4) (d : Fin 6) : iblk m c 0 t (ix2 r d) = m ((c.tc : Thread nD τ).loc main_arg0) (ix2 r d) := by
  blk_simp [iblk, V]
  refine congrArg _ ?_
  blk_ext
  exacts [at_zero (congrFun (idx t).1 0), at_zero (congrFun (idx t).1 1)]

/-- Argument 3 is staged whole. -/
theorem blk3 (t : Fin cfg0.N) (r : Fin 4) (d : Fin 10240) : iblk m c 3 t (ix2 r d) = m ((c.tc : Thread nD τ).loc main_arg3) (ix2 r d) := by
  blk_simp [iblk, V]
  refine congrArg _ ?_
  blk_ext
  exacts [at_zero (congrFun (idx t).2.2.2.1 0), at_zero (congrFun (idx t).2.2.2.1 1)]

/-- Argument 4 is staged whole. -/
theorem blk4 (t : Fin cfg0.N) (r : Fin 4) (d : Fin 10240) : iblk m c 4 t (ix2 r d) = m ((c.tc : Thread nD τ).loc main_arg4) (ix2 r d) := by
  blk_simp [iblk, V]
  refine congrArg _ ?_
  blk_ext
  exacts [at_zero (congrFun (idx t).2.2.2.2.1 0), at_zero (congrFun (idx t).2.2.2.2.1 1)]

/-- Argument 6 is staged whole. -/
theorem blk6 (t : Fin cfg0.N) (r : Fin 4) (d : Fin 1280) : iblk m c 6 t (ix2 r d) = m ((c.tc : Thread nD τ).loc main_arg6) (ix2 r d) := by
  blk_simp [iblk, V]
  refine congrArg _ ?_
  blk_ext
  exacts [at_zero (congrFun (idx t).2.2.2.2.2.2.1 0), at_zero (congrFun (idx t).2.2.2.2.2.2.1 1)]

/-- Argument 7 is staged whole. -/
theorem blk7 (t : Fin cfg0.N) (r : Fin 4) (d : Fin 1280) : iblk m c 7 t (ix2 r d) = m ((c.tc : Thread nD τ).loc main_arg7) (ix2 r d) := by
  blk_simp [iblk, V]
  refine congrArg _ ?_
  blk_ext
  exacts [at_zero (congrFun (idx t).2.2.2.2.2.2.2.1 0), at_zero (congrFun (idx t).2.2.2.2.2.2.2.1 1)]

/-- Argument 8 is staged whole. -/
theorem blk8 (t : Fin cfg0.N) (r : Fin 4) (d : Fin 1280) : iblk m c 8 t (ix2 r d) = m ((c.tc : Thread nD τ).loc main_arg8) (ix2 r d) := by
  blk_simp [iblk, V]
  refine congrArg _ ?_
  blk_ext
  exacts [at_zero (congrFun (idx t).2.2.2.2.2.2.2.2.1 0), at_zero (congrFun (idx t).2.2.2.2.2.2.2.2.1 1)]

/-- Argument 9 is staged whole. -/
theorem blk9 (t : Fin cfg0.N) (r : Fin 4) (d : Fin 1280) : iblk m c 9 t (ix2 r d) = m ((c.tc : Thread nD τ).loc main_arg9) (ix2 r d) := by
  blk_simp [iblk, V]
  refine congrArg _ ?_
  blk_ext
  exacts [at_zero (congrFun (idx t).2.2.2.2.2.2.2.2.2.1 0), at_zero (congrFun (idx t).2.2.2.2.2.2.2.2.2.1 1)]

/-- Argument 2 is staged from the block's matrix. -/
theorem blk2 (t : Fin cfg0.N) (r : Fin 1280) (d : Fin 10240) : iblk m c 2 t (ix3 0 r d) = m ((c.tc : Thread nD τ).loc main_arg2) (ix3 row r d) := by
  blk_simp [iblk, V]
  refine congrArg _ ?_
  blk_ext
  exacts [congrFun (idx t).2.2.1 0, at_zero (congrFun (idx t).2.2.1 1), at_zero (congrFun (idx t).2.2.1 2)]

/-- Argument 5 is staged from the block's matrix. -/
theorem blk5 (t : Fin cfg0.N) (r : Fin 5120) (d : Fin 1280) : iblk m c 5 t (ix3 0 r d) = m ((c.tc : Thread nD τ).loc main_arg5) (ix3 row r d) := by
  blk_simp [iblk, V]
  refine congrArg _ ?_
  blk_ext
  exacts [congrFun (idx t).2.2.2.2.2.1 0, at_zero (congrFun (idx t).2.2.2.2.2.1 1), at_zero (congrFun (idx t).2.2.2.2.2.1 2)]

/-- The rows of argument 1 are staged in turn. -/
theorem blk1 (t : Fin cfg0.N) (r : Fin 512) (d : Fin 1280) : iblk m c 1 t (ix2 r d) = m ((c.tc : Thread nD τ).loc main_arg1) (ix2 (rowAt t r) d) := by
  blk_simp [iblk, V]
  refine congrArg _ ?_
  blk_ext
  exacts [at_row (congrFun (idx t).2.1 0), at_zero (congrFun (idx t).2.1 1)]

/-- Where an index of the block of the output lies in the array. -/
theorem emb10 (t : Fin cfg0.N) (y : S512x1280.Idx) :
    (win0_10.blk t).view.emb y 0 = rowAt t (y 0) ∧ (win0_10.blk t).view.emb y 1 = y 1 := by
  constructor
  · refine Fin.ext ?_
    blk_simp [idx t]
    show _ = 512 * t.val + (y 0).val
    omega
  · refine Fin.ext ?_
    blk_simp [idx t]

/-! ## A block's rows are the array's -/

/-- The layer norm's codes. -/
theorem in_row (t : Fin cfg0.N) (r : Fin 512) (d : Fin 1280) :
    codesIn (iblk m c 0 t (ix2 row 4)) (iblk m c 1 t) (fun d => iblk m c 8 t (ix2 row d)) (fun d => iblk m c 9 t (ix2 row d)) (ix2 r d)
      = inAll row (m ((c.tc : Thread nD τ).loc main_arg0)) (m ((c.tc : Thread nD τ).loc main_arg1)) (m ((c.tc : Thread nD τ).loc main_arg8)) (m ((c.tc : Thread nD τ).loc main_arg9)) (rowAt t r) d := by
  show ffIn (iblk m c 0 t (ix2 row 4)) (fun d => iblk m c 1 t (ix2 r d)) (fun d => iblk m c 8 t (ix2 row d)) (fun d => iblk m c 9 t (ix2 row d)) d = _
  simp only [blk0, blk1, blk8, blk9]
  rfl

/-- The hidden units' codes. -/
theorem mid_row (t : Fin cfg0.N) (r : Fin 512) (j : Fin 5120) :
    codesMid row (iblk m c 0 t (ix2 row 4)) (iblk m c 0 t (ix2 row 5)) (codesIn (iblk m c 0 t (ix2 row 4)) (iblk m c 1 t) (fun d => iblk m c 8 t (ix2 row d)) (fun d => iblk m c 9 t (ix2 row d))) (iblk m c 2 t) (iblk m c 3 t) (iblk m c 4 t) (ix2 r j)
      = midAll row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (rowAt t r) j := by
  show ffMid (iblk m c 0 t (ix2 row 4)) (iblk m c 0 t (ix2 row 5)) (fun d => (codesIn (iblk m c 0 t (ix2 row 4)) (iblk m c 1 t) (fun d => iblk m c 8 t (ix2 row d)) (fun d => iblk m c 9 t (ix2 row d))) (ix2 r d)) (fun d j => iblk m c 2 t (ix3 0 d j))
    (fun j => iblk m c 3 t (ix2 row j)) (fun j => iblk m c 4 t (ix2 row j)) j = _
  simp only [in_row]
  simp only [blk0, blk2, blk3, blk4]
  rfl

/-- The sum returned. -/
theorem out_row (t : Fin cfg0.N) (r : Fin 512) (d : Fin 1280) :
    rowsOut row (iblk m c 0 t (ix2 row 5)) (codesMid row (iblk m c 0 t (ix2 row 4)) (iblk m c 0 t (ix2 row 5)) (codesIn (iblk m c 0 t (ix2 row 4)) (iblk m c 1 t) (fun d => iblk m c 8 t (ix2 row d)) (fun d => iblk m c 9 t (ix2 row d))) (iblk m c 2 t) (iblk m c 3 t) (iblk m c 4 t)) (iblk m c 5 t) (iblk m c 6 t) (iblk m c 7 t) (iblk m c 1 t) (ix2 r d)
      = outAll row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (rowAt t r) d := by
  show ffOut (iblk m c 0 t (ix2 row 5)) (fun j => (codesMid row (iblk m c 0 t (ix2 row 4)) (iblk m c 0 t (ix2 row 5)) (codesIn (iblk m c 0 t (ix2 row 4)) (iblk m c 1 t) (fun d => iblk m c 8 t (ix2 row d)) (fun d => iblk m c 9 t (ix2 row d))) (iblk m c 2 t) (iblk m c 3 t) (iblk m c 4 t)) (ix2 r j)) (fun j d => iblk m c 5 t (ix3 0 j d))
    (fun d => iblk m c 6 t (ix2 row d)) (fun d => iblk m c 7 t (ix2 row d)) (fun d => iblk m c 1 t (ix2 r d)) d = _
  simp only [mid_row]
  simp only [blk0, blk1, blk5, blk6, blk7]
  rfl

/-! ## The arrays -/

/-- The output's blocks tile it, whichever the block. -/
theorem covers : (cfg0.win 10).Covers :=
  (by decide +kernel : ∀ (k : ℕ) (h : k < 4), letI : Blk := ⟨k, h⟩; (cfg0.win 10).Covers) Blk.k Blk.lt

/-- The result: the sum returned. -/
theorem out_array (hs : m ((c.tc : Thread nD τ).loc main_arg0) (ix2 row 4) ≠ (0 : EReal)) (hs' : m ((c.tc : Thread nD τ).loc main_arg0) (ix2 row 5) ≠ (0 : EReal)) :
    (dats (F := Ideal) m 0 c).arrAt 10 cfg0.N = fun y : S16384x1280.Idx => outAll row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_covers 10 _ covers fun t hf (y : S512x1280.Idx) => ?_
  blk_simp
  rw [after0_10]
  unfold pointRun
  refine (congrFun (run_out c (grid0.coords t) _ _ _ _ _ _ _ _ _ _ _ _ _ _ _ _ _ _ _ _ _ _ _ _ _ _ (iblk m c 0 t) (iblk m c 1 t) (iblk m c 2 t) (iblk m c 3 t) (iblk m c 4 t)
    (iblk m c 5 t) (iblk m c 6 t) (iblk m c 7 t) (iblk m c 8 t) (iblk m c 9 t) ((blk0 m c t row 4).trans_ne hs) ((blk0 m c t row 5).trans_ne hs')) y).trans ?_
  obtain ⟨e0, e1⟩ := emb10 t y
  obtain ⟨r, d, rfl⟩ : ∃ r d, y = ix2 r d := ⟨y 0, y 1, eq_ix2 y⟩
  exact (out_row m c t r d).trans (congrArg₂ (outAll row _ _ _ _ _ _ _ _ _ _) e0 e1).symm

end Cert.Later.Block

end
-- ==== Proof.Later.Value.lean ====
/-
  For every block number, the run of the kernel's call with its result named: Spec.lean's function of the arguments.
-/
module

public import proofs.«01_k».proof.Proof.Later.Arrays

@[expose] public section

set_option maxRecDepth 16384

noncomputable section

namespace Cert.Later.Block

open Cert.Later Cert.Later.Gen Cert.Math
open Idealize.ShloMosaic Idealize.ShloMosaic.TcCoe Idealize.SL.Sem

variable [Blk]

/-- The run, where the block's two scales are not zero: the result array holds the sum, the arguments are unchanged. -/
theorem value (m : (ℓ : Loc nD τ sig) → Buf (Elt Ideal) ℓ) (ρ : Dev nD → PrngReg)
    (hs : ∀ c : Dev nD, m ((c.tc : Thread nD τ).loc main_arg0) (ix2 row 4) ≠ (0 : EReal) ∧ m ((c.tc : Thread nD τ).loc main_arg0) (ix2 row 5) ≠ (0 : EReal)) :
    θ_run (defs (F := Ideal)) (onTc (τ := τ) (main (F := Ideal))) ⟨m, fun _ => 0, ρ⟩ fun r => ∀ c : Dev nD,
      r.2.mem ((c.tc : Thread nD τ).loc main_v0) = (fun y : S16384x1280.Idx => outAll row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨(h c).1.trans (out_array m c (hs c).1 (hs c).2), (h c).2⟩) (run_blocks m ρ)

end Cert.Later.Block

end
-- ==== Proof.Later.Ref.lean ====
/-
  What the reference's arithmetic leaves, given loads of the block's rows and matrices: Spec.lean's sum, for every block
  number.  The references of the later blocks share it.
-/
module

public import proofs.«01_k».proof.Proof.RefPayload
public import proofs.«01_k».proof.Proof.Codes

@[expose] public section

set_option maxRecDepth 16384

noncomputable section

namespace Cert.Later.Ref

open Cert.ReferenceIdeal Cert.ReferenceIdeal.Gen Cert.ReferenceIdeal.Block Cert.Math
open Idealize.ShloMosaic Idealize.ShloMosaic.TcCoe Idealize.SL.Sem

/-- The load of one scale. -/
theorem ldScale (X : (⟨2, ![4, 6]⟩ : Shape).Idx → Elt Ideal .f32) (k : Fin 4) (j : Fin 6) (off : Fin 2 → ℕ)
    (inb : ∀ x, off x + (![1, 1] : Fin 2 → ℕ) x ≤ (⟨2, ![4, 6]⟩ : Shape).size x) (h) (h0 : k.val = off 0) (h1 : j.val = off 1) :
    View.ld X (Rect.unit off ![1, 1] inb) (Shape.Idx.first h) = X (ix2 k j) :=
  View.ld_unit_apply_of X off ![1, 1] inb _ (ix2 k j) fun x => by
    fin_cases x
    · show k.val = off 0 + 0; omega
    · show j.val = off 1 + 0; omega

/-- The load of a table's row. -/
theorem ldRow {n1 : ℕ} {e : EltTy} (X : (⟨2, ![4, n1]⟩ : Shape).Idx → Elt Ideal e) (k : Fin 4) (off : Fin 2 → ℕ)
    (inb : ∀ x, off x + (![1, n1] : Fin 2 → ℕ) x ≤ (⟨2, ![4, n1]⟩ : Shape).size x)
    (h0 : k.val = off 0) (h1 : off 1 = 0) (d : Fin n1) :
    View.ld X (Rect.unit off ![1, n1] inb) (ix2 0 d) = X (ix2 k d) :=
  ld2 X off inb 0 d k d (by simpa using h0) (by omega)

/-- The load of a stack's matrix. -/
theorem ldMat {n1 n2 : ℕ} {e : EltTy} (X : (⟨3, ![4, n1, n2]⟩ : Shape).Idx → Elt Ideal e) (k : Fin 4) (off : Fin 3 → ℕ)
    (inb : ∀ x, off x + (![1, n1, n2] : Fin 3 → ℕ) x ≤ (⟨3, ![4, n1, n2]⟩ : Shape).size x)
    (h0 : k.val = off 0) (h1 : off 1 = 0) (h2 : off 2 = 0) (i : Fin n1) (d : Fin n2) :
    View.ld X (Rect.unit off ![1, n1, n2] inb) (ix3 0 i d) = X (ix3 k i d) :=
  View.ld_unit_apply_of X off ![1, n1, n2] inb (ix3 0 i d) (ix3 k i d) fun x => by
    fin_cases x
    · show k.val = off 0 + 0; omega
    · show i.val = off 1 + i.val; omega
    · show d.val = off 2 + d.val; omega

/-- The reference's sum, from loads of row and matrix `k`. -/
theorem sum_of_loads (k : Fin 4) (x0 : Vec Ideal S4x6 .f32) (x1 : Vec Ideal S16384x1280 .f32) (x2 : Vec Ideal S4x1280x10240 .fp8e4m3) (x3 x4 : Vec Ideal S4x10240 .f32)
    (x5 : Vec Ideal S4x5120x1280 .fp8e4m3) (x6 x7 x8 x9 : Vec Ideal S4x1280 .f32)
    (s s' : Elt Ideal .f32) (w : Vec Ideal S1x1280x10240 .fp8e4m3) (ws bs : Vec Ideal S1x10240 .f32) (w2 : Vec Ideal S1x5120x1280 .fp8e4m3)
    (ws2 b2 g b : Vec Ideal S1x1280 .f32)
    (hs : s = x0 (ix2 k 4)) (hs' : s' = x0 (ix2 k 5)) (hw : ∀ i d, w (ix3 0 i d) = x2 (ix3 k i d)) (hws : ∀ d, ws (ix2 0 d) = x3 (ix2 k d))
    (hbs : ∀ d, bs (ix2 0 d) = x4 (ix2 k d)) (hw2 : ∀ i d, w2 (ix3 0 i d) = x5 (ix3 k i d)) (hws2 : ∀ d, ws2 (ix2 0 d) = x6 (ix2 k d))
    (hb2 : ∀ d, b2 (ix2 0 d) = x7 (ix2 k d)) (hg : ∀ d, g (ix2 0 d) = x8 (ix2 k d)) (hb : ∀ d, b (ix2 0 d) = x9 (ix2 k d))
    (y : S16384x1280.Idx) :
    k0_pay1 (F := Ideal) x1 (k0_pay5 (F := Ideal) ws2) (k0_pay6 (F := Ideal) b2)
      (k0_pay7 (F := Ideal) s s' (k0_pay2 (F := Ideal) x1 s g b) (k0_pay3 (F := Ideal) w) ws bs w2)
      (k0_pay8 (F := Ideal) s') y = outAll k x0 x1 x2 x3 x4 x5 x6 x7 x8 x9 (y 0) (y 1) := by
  subst hs hs'
  rw [out_at]
  simp only [mid_at, in_at, hw, hws, hbs, hw2, hws2, hb2, hg, hb]
  rfl

end Cert.Later.Ref

end
-- ==== Proof.Later.Block1.lean ====
/-
  The claims about transformer block 1's feed-forward call.  The kernel's part is the proof for every block number, at 1;
  the reference's arrays are read here.
-/
module

public import proofs.«01_k».proof.Defs
public import proofs.«01_k».proof.Proof.Gen.Kernel1
public import proofs.«01_k».proof.Proof.Gen.Kernel1Ideal
public import proofs.«01_k».proof.Proof.Gen.Reference1Ideal.Value
public import proofs.«01_k».proof.Proof.Later.Value
public import proofs.«01_k».proof.Proof.Later.Ref

@[expose] public section

set_option maxRecDepth 16384

noncomputable section

namespace Cert.Block1

open Cert.Reference1Ideal Cert.Reference1Ideal.Gen Cert.Math
open Idealize.ShloMosaic Idealize.ShloMosaic.TcCoe Idealize.SL.Sem
open Idealize.ShloMosaic.Pipeline (Dat)

/-! ## The reference -/

variable (m : (ℓ : Loc nD τ sig) → Buf (Elt Ideal) ℓ) (c : Dev nD)

/-- The one grid point stages every argument whole. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] :=
  (by decide +kernel : ∀ t : Fin grid0.N, _)

/-- Every argument's block is the argument. -/
theorem staged (t : Fin cfg0.N) :
    iblk m c 0 t = m ((c.tc : Thread nD τ).loc main_arg0) ∧ iblk m c 1 t = m ((c.tc : Thread nD τ).loc main_arg1)
      ∧ iblk m c 2 t = m ((c.tc : Thread nD τ).loc main_arg2) ∧ iblk m c 3 t = m ((c.tc : Thread nD τ).loc main_arg3)
      ∧ iblk m c 4 t = m ((c.tc : Thread nD τ).loc main_arg4) ∧ iblk m c 5 t = m ((c.tc : Thread nD τ).loc main_arg5)
      ∧ iblk m c 6 t = m ((c.tc : Thread nD τ).loc main_arg6) ∧ iblk m c 7 t = m ((c.tc : Thread nD τ).loc main_arg7)
      ∧ iblk m c 8 t = m ((c.tc : Thread nD τ).loc main_arg8) ∧ iblk m c 9 t = m ((c.tc : Thread nD τ).loc main_arg9) := by
  refine ⟨?_, ?_, ?_, ?_, ?_, ?_, ?_, ?_, ?_, ?_⟩ <;>
  · funext y
    blk_simp [iblk, V]
    refine congrArg _ ?_
    blk_ext [idx t]

/-- The reference's sum, from loads of the block's rows and matrices. -/
theorem sum_of_loads (x0 : Vec Ideal S4x6 .f32) (x1 : Vec Ideal S16384x1280 .f32) (x2 : Vec Ideal S4x1280x10240 .fp8e4m3) (x3 x4 : Vec Ideal S4x10240 .f32)
    (x5 : Vec Ideal S4x5120x1280 .fp8e4m3) (x6 x7 x8 x9 : Vec Ideal S4x1280 .f32)
    (s s' : Elt Ideal .f32) (w : Vec Ideal S1x1280x10240 .fp8e4m3) (ws bs : Vec Ideal S1x10240 .f32) (w2 : Vec Ideal S1x5120x1280 .fp8e4m3)
    (ws2 b2 g b : Vec Ideal S1x1280 .f32)
    (hs : s = x0 (ix2 1 4)) (hs' : s' = x0 (ix2 1 5)) (hw : ∀ i d, w (ix3 0 i d) = x2 (ix3 1 i d)) (hws : ∀ d, ws (ix2 0 d) = x3 (ix2 1 d))
    (hbs : ∀ d, bs (ix2 0 d) = x4 (ix2 1 d)) (hw2 : ∀ i d, w2 (ix3 0 i d) = x5 (ix3 1 i d)) (hws2 : ∀ d, ws2 (ix2 0 d) = x6 (ix2 1 d))
    (hb2 : ∀ d, b2 (ix2 0 d) = x7 (ix2 1 d)) (hg : ∀ d, g (ix2 0 d) = x8 (ix2 1 d)) (hb : ∀ d, b (ix2 0 d) = x9 (ix2 1 d))
    (y : S16384x1280.Idx) :
    k0_pay1 (F := Ideal) x1 (k0_pay4 (F := Ideal) ws2) (k0_pay5 (F := Ideal) b2)
      (k0_pay6 (F := Ideal) s s' (k0_pay2 (F := Ideal) x1 s g b) (k0_pay3 (F := Ideal) w) ws bs w2)
      (k0_pay7 (F := Ideal) s') y = outAll 1 x0 x1 x2 x3 x4 x5 x6 x7 x8 x9 (y 0) (y 1) := by
  have e := Cert.Later.Ref.sum_of_loads 1 x0 x1 x2 x3 x4 x5 x6 x7 x8 x9 s s' w ws bs w2 ws2 b2 g b hs hs' hw hws hbs hw2 hws2 hb2 hg hb y
  refine Eq.trans ?_ e
  sl_kernel_rfl

/-- The buffer of the reference's result: the sum. -/
theorem out_out (arg0 : Memref sig .tc .smem S4x6 .f32) (harg0 : arg0.IsWhole) (arg1 : Memref sig .tc .vmem S16384x1280 .f32) (harg1 : arg1.IsWhole) (arg2 : Memref sig .tc .vmem S4x1280x10240 .fp8e4m3) (harg2 : arg2.IsWhole) (arg3 : Memref sig .tc .vmem S4x10240 .f32) (harg3 : arg3.IsWhole) (arg4 : Memref sig .tc .vmem S4x10240 .f32) (harg4 : arg4.IsWhole) (arg5 : Memref sig .tc .vmem S4x5120x1280 .fp8e4m3) (harg5 : arg5.IsWhole) (arg6 : Memref sig .tc .vmem S4x1280 .f32) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S16384x1280 .f32) (harg10 : arg10.IsWhole)
    (x0 : Vec Ideal S4x6 .f32) (x1 : Vec Ideal S16384x1280 .f32) (x2 : Vec Ideal S4x1280x10240 .fp8e4m3) (x3 : Vec Ideal S4x10240 .f32) (x4 : Vec Ideal S4x10240 .f32) (x5 : Vec Ideal S4x5120x1280 .fp8e4m3) (x6 : Vec Ideal S4x1280 .f32) (x7 : Vec Ideal S4x1280 .f32) (x8 : Vec Ideal S4x1280 .f32) (x9 : Vec Ideal S4x1280 .f32) :
    out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7 x8 x9
      = fun y : S16384x1280.Idx => outAll 1 x0 x1 x2 x3 x4 x5 x6 x7 x8 x9 (y 0) (y 1) := by
  funext y
  frame_out
  exact sum_of_loads x0 x1 x2 x3 x4 x5 x6 x7 x8 x9 _ _ _ _ _ _ _ _ _ _
    (Cert.Later.Ref.ldScale x0 1 4 ![1, 4] _ _ rfl rfl) (Cert.Later.Ref.ldScale x0 1 5 ![1, 5] _ _ rfl rfl)
    (Cert.Later.Ref.ldMat x2 1 ![1, 0, 0] _ rfl rfl rfl) (Cert.Later.Ref.ldRow x3 1 ![1, 0] _ rfl rfl)
    (Cert.Later.Ref.ldRow x4 1 ![1, 0] _ rfl rfl) (Cert.Later.Ref.ldMat x5 1 ![1, 0, 0] _ rfl rfl rfl)
    (Cert.Later.Ref.ldRow x6 1 ![1, 0] _ rfl rfl) (Cert.Later.Ref.ldRow x7 1 ![1, 0] _ rfl rfl)
    (Cert.Later.Ref.ldRow x8 1 ![1, 0] _ rfl rfl) (Cert.Later.Ref.ldRow x9 1 ![1, 0] _ rfl rfl) y

/-- The reference's result array. -/
theorem out_array :
    (dats (F := Ideal) m 0 c).arrAt 10 cfg0.N = fun y : S16384x1280.Idx => outAll 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_after_last 10 t0_0 (by decide +kernel) _ fun y => ?_
  blk_simp
  rw [after0_10]
  unfold outsAt0
  obtain ⟨e0, e1, e2, e3, e4, e5, e6, e7, e8, e9⟩ := staged m c t0_0
  rw [out_out, e0, e1, e2, e3, e4, e5, e6, e7, e8, e9]

end Cert.Block1

namespace Cert.Pre_scales_nonzero1

open Idealize.ShloMosaic

/-- The side conditions the predicate's operations state. -/
instance facts : Cert.Pre_scales_nonzero1.Facts where
  slices_S4x6_S1x2_1_4 := by decide +kernel
  shapeCasts_S1x2_S2 := by decide +kernel
  bcast_S_S2 := by decide +kernel

variable (a0 : FVec Ideal S4x6 .f32) (a1 : FVec Ideal S16384x1280 .f32) (a2 : FVec Ideal S4x1280x10240 .fp8e4m3) (a3 a4 : FVec Ideal S4x10240 .f32)
  (a5 : FVec Ideal S4x5120x1280 .fp8e4m3) (a6 a7 a8 a9 : FVec Ideal S4x1280 .f32)

/-- Where the predicate holds, scales 4 and 5 of the block's row are not zero. -/
theorem nonzero (h : fn (F := Ideal) a0 a1 a2 a3 a4 a5 a6 a7 a8 a9 = fun _ => 1#1) :
    a0 (ix2 1 4) ≠ (0 : EReal) ∧ a0 (ix2 1 5) ≠ (0 : EReal) := by
  have h4 := congrFun h (ix1 0)
  have h5 := congrFun h (ix1 1)
  pointwise [fn] at h4 h5
  have one : ∀ b : Bool, BitVec.ofBool b = 1#1 → b = true := by decide
  exact ⟨of_decide_eq_true (one _ h4), of_decide_eq_true (one _ h5)⟩

end Cert.Pre_scales_nonzero1

namespace Cert.Block1

open Idealize.ShloMosaic Idealize.ShloMosaic.TcCoe Idealize.SL.Sem

/-! ## The claims -/

/-- The block's number. -/
abbrev blk : Cert.Later.Blk := ⟨1, by decide⟩

/-- The kernel's frame over floats. -/
theorem quiet : Cert.quiescent_Kernel1 := fun m ρ _ => by
  refine cast ?_ (@Cert.Later.Block.frame Bits _ blk m ρ)
  sl_kernel_rfl

/-- The ideal kernel's frame. -/
theorem quiet_ideal : Cert.quiescent_Kernel1Ideal := fun m ρ _ => by
  refine cast ?_ (@Cert.Later.Block.frame Ideal _ blk m ρ)
  sl_kernel_rfl

/-- The ideal kernel's run, where the two scales are not zero: its result array and its arguments. -/
theorem kernel_value (m : (ℓ : Loc Cert.Kernel1Ideal.nD Cert.Kernel1Ideal.τ Cert.Kernel1Ideal.sig) → Buf (Elt Ideal) ℓ) (g : Dev Cert.Kernel1Ideal.nD → PrngReg)
    (hs : ∀ c : Dev Cert.Kernel1Ideal.nD, m ((c.tc : Thread Cert.Kernel1Ideal.nD Cert.Kernel1Ideal.τ).loc Cert.Kernel1Ideal.main_arg0) (ix2 1 4) ≠ (0 : EReal)
      ∧ m ((c.tc : Thread Cert.Kernel1Ideal.nD Cert.Kernel1Ideal.τ).loc Cert.Kernel1Ideal.main_arg0) (ix2 1 5) ≠ (0 : EReal)) :
    θ_run (Cert.Kernel1Ideal.defs (F := Ideal)) (onTc (τ := Cert.Kernel1Ideal.τ) (Cert.Kernel1Ideal.main (F := Ideal))) ⟨m, fun _ => 0, g⟩ fun r => ∀ c : Dev Cert.Kernel1Ideal.nD,
      r.2.mem ((c.tc : Thread Cert.Kernel1Ideal.nD Cert.Kernel1Ideal.τ).loc Cert.Kernel1Ideal.main_v0) = (fun y : Cert.Kernel1Ideal.S16384x1280.Idx => Cert.Math.outAll 1 (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (y 0) (y 1))
      ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9) := by
  refine cast ?_ (@Cert.Later.Block.value blk m g hs)
  sl_kernel_rfl

/-- Kernel and reference leave the same array: Spec.lean's function of the arguments. -/
theorem same : Cert.algebraic_Kernel1Ideal_Reference1Ideal_pre_scales_nonzero1 := by
  intro m g m' g' hpre hargs
  refine ⟨fun c y => Cert.Math.outAll 1 (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (y 0) (y 1), ?_, ?_⟩
  · exact kernel_value m g fun c => Cert.Pre_scales_nonzero1.nonzero _ _ _ _ _ _ _ _ _ _ (hpre c)
  · refine (θ_run _ _ _).mono (fun r h c => ?_) (Cert.Reference1Ideal.Value.run_blocks (F := Ideal) m' g')
    obtain ⟨e0, keep⟩ := h c
    obtain ⟨a0, a1, a2, a3, a4, a5, a6, a7, a8, a9⟩ := hargs c
    have o := out_array m' c
    rw [a0, a1, a2, a3, a4, a5, a6, a7, a8, a9] at o
    exact ⟨e0.trans o, keep⟩

end Cert.Block1

end
-- ==== Proof.Later.Block2.lean ====
/-
  The claims about transformer block 2's feed-forward call.  The kernel's part is the proof for every block number, at 2;
  the reference's arrays are read here.
-/
module

public import proofs.«01_k».proof.Defs
public import proofs.«01_k».proof.Proof.Gen.Kernel2
public import proofs.«01_k».proof.Proof.Gen.Kernel2Ideal
public import proofs.«01_k».proof.Proof.Gen.Reference2Ideal.Value
public import proofs.«01_k».proof.Proof.Later.Value
public import proofs.«01_k».proof.Proof.Later.Ref

@[expose] public section

set_option maxRecDepth 16384

noncomputable section

namespace Cert.Block2

open Cert.Reference2Ideal Cert.Reference2Ideal.Gen Cert.Math
open Idealize.ShloMosaic Idealize.ShloMosaic.TcCoe Idealize.SL.Sem
open Idealize.ShloMosaic.Pipeline (Dat)

/-! ## The reference -/

variable (m : (ℓ : Loc nD τ sig) → Buf (Elt Ideal) ℓ) (c : Dev nD)

/-- The one grid point stages every argument whole. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] :=
  (by decide +kernel : ∀ t : Fin grid0.N, _)

/-- Every argument's block is the argument. -/
theorem staged (t : Fin cfg0.N) :
    iblk m c 0 t = m ((c.tc : Thread nD τ).loc main_arg0) ∧ iblk m c 1 t = m ((c.tc : Thread nD τ).loc main_arg1)
      ∧ iblk m c 2 t = m ((c.tc : Thread nD τ).loc main_arg2) ∧ iblk m c 3 t = m ((c.tc : Thread nD τ).loc main_arg3)
      ∧ iblk m c 4 t = m ((c.tc : Thread nD τ).loc main_arg4) ∧ iblk m c 5 t = m ((c.tc : Thread nD τ).loc main_arg5)
      ∧ iblk m c 6 t = m ((c.tc : Thread nD τ).loc main_arg6) ∧ iblk m c 7 t = m ((c.tc : Thread nD τ).loc main_arg7)
      ∧ iblk m c 8 t = m ((c.tc : Thread nD τ).loc main_arg8) ∧ iblk m c 9 t = m ((c.tc : Thread nD τ).loc main_arg9) := by
  refine ⟨?_, ?_, ?_, ?_, ?_, ?_, ?_, ?_, ?_, ?_⟩ <;>
  · funext y
    blk_simp [iblk, V]
    refine congrArg _ ?_
    blk_ext [idx t]

/-- The reference's sum, from loads of the block's rows and matrices. -/
theorem sum_of_loads (x0 : Vec Ideal S4x6 .f32) (x1 : Vec Ideal S16384x1280 .f32) (x2 : Vec Ideal S4x1280x10240 .fp8e4m3) (x3 x4 : Vec Ideal S4x10240 .f32)
    (x5 : Vec Ideal S4x5120x1280 .fp8e4m3) (x6 x7 x8 x9 : Vec Ideal S4x1280 .f32)
    (s s' : Elt Ideal .f32) (w : Vec Ideal S1x1280x10240 .fp8e4m3) (ws bs : Vec Ideal S1x10240 .f32) (w2 : Vec Ideal S1x5120x1280 .fp8e4m3)
    (ws2 b2 g b : Vec Ideal S1x1280 .f32)
    (hs : s = x0 (ix2 2 4)) (hs' : s' = x0 (ix2 2 5)) (hw : ∀ i d, w (ix3 0 i d) = x2 (ix3 2 i d)) (hws : ∀ d, ws (ix2 0 d) = x3 (ix2 2 d))
    (hbs : ∀ d, bs (ix2 0 d) = x4 (ix2 2 d)) (hw2 : ∀ i d, w2 (ix3 0 i d) = x5 (ix3 2 i d)) (hws2 : ∀ d, ws2 (ix2 0 d) = x6 (ix2 2 d))
    (hb2 : ∀ d, b2 (ix2 0 d) = x7 (ix2 2 d)) (hg : ∀ d, g (ix2 0 d) = x8 (ix2 2 d)) (hb : ∀ d, b (ix2 0 d) = x9 (ix2 2 d))
    (y : S16384x1280.Idx) :
    k0_pay1 (F := Ideal) x1 (k0_pay4 (F := Ideal) ws2) (k0_pay5 (F := Ideal) b2)
      (k0_pay6 (F := Ideal) s s' (k0_pay2 (F := Ideal) x1 s g b) (k0_pay3 (F := Ideal) w) ws bs w2)
      (k0_pay7 (F := Ideal) s') y = outAll 2 x0 x1 x2 x3 x4 x5 x6 x7 x8 x9 (y 0) (y 1) := by
  have e := Cert.Later.Ref.sum_of_loads 2 x0 x1 x2 x3 x4 x5 x6 x7 x8 x9 s s' w ws bs w2 ws2 b2 g b hs hs' hw hws hbs hw2 hws2 hb2 hg hb y
  refine Eq.trans ?_ e
  sl_kernel_rfl

/-- The buffer of the reference's result: the sum. -/
theorem out_out (arg0 : Memref sig .tc .smem S4x6 .f32) (harg0 : arg0.IsWhole) (arg1 : Memref sig .tc .vmem S16384x1280 .f32) (harg1 : arg1.IsWhole) (arg2 : Memref sig .tc .vmem S4x1280x10240 .fp8e4m3) (harg2 : arg2.IsWhole) (arg3 : Memref sig .tc .vmem S4x10240 .f32) (harg3 : arg3.IsWhole) (arg4 : Memref sig .tc .vmem S4x10240 .f32) (harg4 : arg4.IsWhole) (arg5 : Memref sig .tc .vmem S4x5120x1280 .fp8e4m3) (harg5 : arg5.IsWhole) (arg6 : Memref sig .tc .vmem S4x1280 .f32) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S16384x1280 .f32) (harg10 : arg10.IsWhole)
    (x0 : Vec Ideal S4x6 .f32) (x1 : Vec Ideal S16384x1280 .f32) (x2 : Vec Ideal S4x1280x10240 .fp8e4m3) (x3 : Vec Ideal S4x10240 .f32) (x4 : Vec Ideal S4x10240 .f32) (x5 : Vec Ideal S4x5120x1280 .fp8e4m3) (x6 : Vec Ideal S4x1280 .f32) (x7 : Vec Ideal S4x1280 .f32) (x8 : Vec Ideal S4x1280 .f32) (x9 : Vec Ideal S4x1280 .f32) :
    out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7 x8 x9
      = fun y : S16384x1280.Idx => outAll 2 x0 x1 x2 x3 x4 x5 x6 x7 x8 x9 (y 0) (y 1) := by
  funext y
  frame_out
  exact sum_of_loads x0 x1 x2 x3 x4 x5 x6 x7 x8 x9 _ _ _ _ _ _ _ _ _ _
    (Cert.Later.Ref.ldScale x0 2 4 ![2, 4] _ _ rfl rfl) (Cert.Later.Ref.ldScale x0 2 5 ![2, 5] _ _ rfl rfl)
    (Cert.Later.Ref.ldMat x2 2 ![2, 0, 0] _ rfl rfl rfl) (Cert.Later.Ref.ldRow x3 2 ![2, 0] _ rfl rfl)
    (Cert.Later.Ref.ldRow x4 2 ![2, 0] _ rfl rfl) (Cert.Later.Ref.ldMat x5 2 ![2, 0, 0] _ rfl rfl rfl)
    (Cert.Later.Ref.ldRow x6 2 ![2, 0] _ rfl rfl) (Cert.Later.Ref.ldRow x7 2 ![2, 0] _ rfl rfl)
    (Cert.Later.Ref.ldRow x8 2 ![2, 0] _ rfl rfl) (Cert.Later.Ref.ldRow x9 2 ![2, 0] _ rfl rfl) y

/-- The reference's result array. -/
theorem out_array :
    (dats (F := Ideal) m 0 c).arrAt 10 cfg0.N = fun y : S16384x1280.Idx => outAll 2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_after_last 10 t0_0 (by decide +kernel) _ fun y => ?_
  blk_simp
  rw [after0_10]
  unfold outsAt0
  obtain ⟨e0, e1, e2, e3, e4, e5, e6, e7, e8, e9⟩ := staged m c t0_0
  rw [out_out, e0, e1, e2, e3, e4, e5, e6, e7, e8, e9]

end Cert.Block2

namespace Cert.Pre_scales_nonzero2

open Idealize.ShloMosaic

/-- The side conditions the predicate's operations state. -/
instance facts : Cert.Pre_scales_nonzero2.Facts where
  slices_S4x6_S1x2_2_4 := by decide +kernel
  shapeCasts_S1x2_S2 := by decide +kernel
  bcast_S_S2 := by decide +kernel

variable (a0 : FVec Ideal S4x6 .f32) (a1 : FVec Ideal S16384x1280 .f32) (a2 : FVec Ideal S4x1280x10240 .fp8e4m3) (a3 a4 : FVec Ideal S4x10240 .f32)
  (a5 : FVec Ideal S4x5120x1280 .fp8e4m3) (a6 a7 a8 a9 : FVec Ideal S4x1280 .f32)

/-- Where the predicate holds, scales 4 and 5 of the block's row are not zero. -/
theorem nonzero (h : fn (F := Ideal) a0 a1 a2 a3 a4 a5 a6 a7 a8 a9 = fun _ => 1#1) :
    a0 (ix2 2 4) ≠ (0 : EReal) ∧ a0 (ix2 2 5) ≠ (0 : EReal) := by
  have h4 := congrFun h (ix1 0)
  have h5 := congrFun h (ix1 1)
  pointwise [fn] at h4 h5
  have one : ∀ b : Bool, BitVec.ofBool b = 1#1 → b = true := by decide
  exact ⟨of_decide_eq_true (one _ h4), of_decide_eq_true (one _ h5)⟩

end Cert.Pre_scales_nonzero2

namespace Cert.Block2

open Idealize.ShloMosaic Idealize.ShloMosaic.TcCoe Idealize.SL.Sem

/-! ## The claims -/

/-- The block's number. -/
abbrev blk : Cert.Later.Blk := ⟨2, by decide⟩

/-- The kernel's frame over floats. -/
theorem quiet : Cert.quiescent_Kernel2 := fun m ρ _ => by
  refine cast ?_ (@Cert.Later.Block.frame Bits _ blk m ρ)
  sl_kernel_rfl

/-- The ideal kernel's frame. -/
theorem quiet_ideal : Cert.quiescent_Kernel2Ideal := fun m ρ _ => by
  refine cast ?_ (@Cert.Later.Block.frame Ideal _ blk m ρ)
  sl_kernel_rfl

/-- The ideal kernel's run, where the two scales are not zero: its result array and its arguments. -/
theorem kernel_value (m : (ℓ : Loc Cert.Kernel2Ideal.nD Cert.Kernel2Ideal.τ Cert.Kernel2Ideal.sig) → Buf (Elt Ideal) ℓ) (g : Dev Cert.Kernel2Ideal.nD → PrngReg)
    (hs : ∀ c : Dev Cert.Kernel2Ideal.nD, m ((c.tc : Thread Cert.Kernel2Ideal.nD Cert.Kernel2Ideal.τ).loc Cert.Kernel2Ideal.main_arg0) (ix2 2 4) ≠ (0 : EReal)
      ∧ m ((c.tc : Thread Cert.Kernel2Ideal.nD Cert.Kernel2Ideal.τ).loc Cert.Kernel2Ideal.main_arg0) (ix2 2 5) ≠ (0 : EReal)) :
    θ_run (Cert.Kernel2Ideal.defs (F := Ideal)) (onTc (τ := Cert.Kernel2Ideal.τ) (Cert.Kernel2Ideal.main (F := Ideal))) ⟨m, fun _ => 0, g⟩ fun r => ∀ c : Dev Cert.Kernel2Ideal.nD,
      r.2.mem ((c.tc : Thread Cert.Kernel2Ideal.nD Cert.Kernel2Ideal.τ).loc Cert.Kernel2Ideal.main_v0) = (fun y : Cert.Kernel2Ideal.S16384x1280.Idx => Cert.Math.outAll 2 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (y 0) (y 1))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9) := by
  refine cast ?_ (@Cert.Later.Block.value blk m g hs)
  sl_kernel_rfl

/-- Kernel and reference leave the same array: Spec.lean's function of the arguments. -/
theorem same : Cert.algebraic_Kernel2Ideal_Reference2Ideal_pre_scales_nonzero2 := by
  intro m g m' g' hpre hargs
  refine ⟨fun c y => Cert.Math.outAll 2 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (y 0) (y 1), ?_, ?_⟩
  · exact kernel_value m g fun c => Cert.Pre_scales_nonzero2.nonzero _ _ _ _ _ _ _ _ _ _ (hpre c)
  · refine (θ_run _ _ _).mono (fun r h c => ?_) (Cert.Reference2Ideal.Value.run_blocks (F := Ideal) m' g')
    obtain ⟨e0, keep⟩ := h c
    obtain ⟨a0, a1, a2, a3, a4, a5, a6, a7, a8, a9⟩ := hargs c
    have o := out_array m' c
    rw [a0, a1, a2, a3, a4, a5, a6, a7, a8, a9] at o
    exact ⟨e0.trans o, keep⟩

end Cert.Block2

end
-- ==== Proof.Later.Block3.lean ====
/-
  The claims about transformer block 3's feed-forward call.  The kernel's part is the proof for every block number, at 3;
  the reference's arrays are read here.
-/
module

public import proofs.«01_k».proof.Defs
public import proofs.«01_k».proof.Proof.Gen.Kernel3
public import proofs.«01_k».proof.Proof.Gen.Kernel3Ideal
public import proofs.«01_k».proof.Proof.Gen.Reference3Ideal.Value
public import proofs.«01_k».proof.Proof.Later.Value
public import proofs.«01_k».proof.Proof.Later.Ref

@[expose] public section

set_option maxRecDepth 16384

noncomputable section

namespace Cert.Block3

open Cert.Reference3Ideal Cert.Reference3Ideal.Gen Cert.Math
open Idealize.ShloMosaic Idealize.ShloMosaic.TcCoe Idealize.SL.Sem
open Idealize.ShloMosaic.Pipeline (Dat)

/-! ## The reference -/

variable (m : (ℓ : Loc nD τ sig) → Buf (Elt Ideal) ℓ) (c : Dev nD)

/-- The one grid point stages every argument whole. -/
theorem idx : ∀ t : Fin cfg0.N, win0_0.index t = ![0, 0] ∧ win0_1.index t = ![0, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] :=
  (by decide +kernel : ∀ t : Fin grid0.N, _)

/-- Every argument's block is the argument. -/
theorem staged (t : Fin cfg0.N) :
    iblk m c 0 t = m ((c.tc : Thread nD τ).loc main_arg0) ∧ iblk m c 1 t = m ((c.tc : Thread nD τ).loc main_arg1)
      ∧ iblk m c 2 t = m ((c.tc : Thread nD τ).loc main_arg2) ∧ iblk m c 3 t = m ((c.tc : Thread nD τ).loc main_arg3)
      ∧ iblk m c 4 t = m ((c.tc : Thread nD τ).loc main_arg4) ∧ iblk m c 5 t = m ((c.tc : Thread nD τ).loc main_arg5)
      ∧ iblk m c 6 t = m ((c.tc : Thread nD τ).loc main_arg6) ∧ iblk m c 7 t = m ((c.tc : Thread nD τ).loc main_arg7)
      ∧ iblk m c 8 t = m ((c.tc : Thread nD τ).loc main_arg8) ∧ iblk m c 9 t = m ((c.tc : Thread nD τ).loc main_arg9) := by
  refine ⟨?_, ?_, ?_, ?_, ?_, ?_, ?_, ?_, ?_, ?_⟩ <;>
  · funext y
    blk_simp [iblk, V]
    refine congrArg _ ?_
    blk_ext [idx t]

/-- The reference's sum, from loads of the block's rows and matrices. -/
theorem sum_of_loads (x0 : Vec Ideal S4x6 .f32) (x1 : Vec Ideal S16384x1280 .f32) (x2 : Vec Ideal S4x1280x10240 .fp8e4m3) (x3 x4 : Vec Ideal S4x10240 .f32)
    (x5 : Vec Ideal S4x5120x1280 .fp8e4m3) (x6 x7 x8 x9 : Vec Ideal S4x1280 .f32)
    (s s' : Elt Ideal .f32) (w : Vec Ideal S1x1280x10240 .fp8e4m3) (ws bs : Vec Ideal S1x10240 .f32) (w2 : Vec Ideal S1x5120x1280 .fp8e4m3)
    (ws2 b2 g b : Vec Ideal S1x1280 .f32)
    (hs : s = x0 (ix2 3 4)) (hs' : s' = x0 (ix2 3 5)) (hw : ∀ i d, w (ix3 0 i d) = x2 (ix3 3 i d)) (hws : ∀ d, ws (ix2 0 d) = x3 (ix2 3 d))
    (hbs : ∀ d, bs (ix2 0 d) = x4 (ix2 3 d)) (hw2 : ∀ i d, w2 (ix3 0 i d) = x5 (ix3 3 i d)) (hws2 : ∀ d, ws2 (ix2 0 d) = x6 (ix2 3 d))
    (hb2 : ∀ d, b2 (ix2 0 d) = x7 (ix2 3 d)) (hg : ∀ d, g (ix2 0 d) = x8 (ix2 3 d)) (hb : ∀ d, b (ix2 0 d) = x9 (ix2 3 d))
    (y : S16384x1280.Idx) :
    k0_pay1 (F := Ideal) x1 (k0_pay4 (F := Ideal) ws2) (k0_pay5 (F := Ideal) b2)
      (k0_pay6 (F := Ideal) s s' (k0_pay2 (F := Ideal) x1 s g b) (k0_pay3 (F := Ideal) w) ws bs w2)
      (k0_pay7 (F := Ideal) s') y = outAll 3 x0 x1 x2 x3 x4 x5 x6 x7 x8 x9 (y 0) (y 1) := by
  have e := Cert.Later.Ref.sum_of_loads 3 x0 x1 x2 x3 x4 x5 x6 x7 x8 x9 s s' w ws bs w2 ws2 b2 g b hs hs' hw hws hbs hw2 hws2 hb2 hg hb y
  refine Eq.trans ?_ e
  sl_kernel_rfl

/-- The buffer of the reference's result: the sum. -/
theorem out_out (arg0 : Memref sig .tc .smem S4x6 .f32) (harg0 : arg0.IsWhole) (arg1 : Memref sig .tc .vmem S16384x1280 .f32) (harg1 : arg1.IsWhole) (arg2 : Memref sig .tc .vmem S4x1280x10240 .fp8e4m3) (harg2 : arg2.IsWhole) (arg3 : Memref sig .tc .vmem S4x10240 .f32) (harg3 : arg3.IsWhole) (arg4 : Memref sig .tc .vmem S4x10240 .f32) (harg4 : arg4.IsWhole) (arg5 : Memref sig .tc .vmem S4x5120x1280 .fp8e4m3) (harg5 : arg5.IsWhole) (arg6 : Memref sig .tc .vmem S4x1280 .f32) (harg6 : arg6.IsWhole) (arg7 : Memref sig .tc .vmem S4x1280 .f32) (harg7 : arg7.IsWhole) (arg8 : Memref sig .tc .vmem S4x1280 .f32) (harg8 : arg8.IsWhole) (arg9 : Memref sig .tc .vmem S4x1280 .f32) (harg9 : arg9.IsWhole) (arg10 : Memref sig .tc .vmem S16384x1280 .f32) (harg10 : arg10.IsWhole)
    (x0 : Vec Ideal S4x6 .f32) (x1 : Vec Ideal S16384x1280 .f32) (x2 : Vec Ideal S4x1280x10240 .fp8e4m3) (x3 : Vec Ideal S4x10240 .f32) (x4 : Vec Ideal S4x10240 .f32) (x5 : Vec Ideal S4x5120x1280 .fp8e4m3) (x6 : Vec Ideal S4x1280 .f32) (x7 : Vec Ideal S4x1280 .f32) (x8 : Vec Ideal S4x1280 .f32) (x9 : Vec Ideal S4x1280 .f32) :
    out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7 x8 x9
      = fun y : S16384x1280.Idx => outAll 3 x0 x1 x2 x3 x4 x5 x6 x7 x8 x9 (y 0) (y 1) := by
  funext y
  frame_out
  exact sum_of_loads x0 x1 x2 x3 x4 x5 x6 x7 x8 x9 _ _ _ _ _ _ _ _ _ _
    (Cert.Later.Ref.ldScale x0 3 4 ![3, 4] _ _ rfl rfl) (Cert.Later.Ref.ldScale x0 3 5 ![3, 5] _ _ rfl rfl)
    (Cert.Later.Ref.ldMat x2 3 ![3, 0, 0] _ rfl rfl rfl) (Cert.Later.Ref.ldRow x3 3 ![3, 0] _ rfl rfl)
    (Cert.Later.Ref.ldRow x4 3 ![3, 0] _ rfl rfl) (Cert.Later.Ref.ldMat x5 3 ![3, 0, 0] _ rfl rfl rfl)
    (Cert.Later.Ref.ldRow x6 3 ![3, 0] _ rfl rfl) (Cert.Later.Ref.ldRow x7 3 ![3, 0] _ rfl rfl)
    (Cert.Later.Ref.ldRow x8 3 ![3, 0] _ rfl rfl) (Cert.Later.Ref.ldRow x9 3 ![3, 0] _ rfl rfl) y

/-- The reference's result array. -/
theorem out_array :
    (dats (F := Ideal) m 0 c).arrAt 10 cfg0.N = fun y : S16384x1280.Idx => outAll 3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1) := by
  refine (dats m 0 c).arrAt_eq_of_after_last 10 t0_0 (by decide +kernel) _ fun y => ?_
  blk_simp
  rw [after0_10]
  unfold outsAt0
  obtain ⟨e0, e1, e2, e3, e4, e5, e6, e7, e8, e9⟩ := staged m c t0_0
  rw [out_out, e0, e1, e2, e3, e4, e5, e6, e7, e8, e9]

end Cert.Block3

namespace Cert.Pre_scales_nonzero3

open Idealize.ShloMosaic

/-- The side conditions the predicate's operations state. -/
instance facts : Cert.Pre_scales_nonzero3.Facts where
  slices_S4x6_S1x2_3_4 := by decide +kernel
  shapeCasts_S1x2_S2 := by decide +kernel
  bcast_S_S2 := by decide +kernel

variable (a0 : FVec Ideal S4x6 .f32) (a1 : FVec Ideal S16384x1280 .f32) (a2 : FVec Ideal S4x1280x10240 .fp8e4m3) (a3 a4 : FVec Ideal S4x10240 .f32)
  (a5 : FVec Ideal S4x5120x1280 .fp8e4m3) (a6 a7 a8 a9 : FVec Ideal S4x1280 .f32)

/-- Where the predicate holds, scales 4 and 5 of the block's row are not zero. -/
theorem nonzero (h : fn (F := Ideal) a0 a1 a2 a3 a4 a5 a6 a7 a8 a9 = fun _ => 1#1) :
    a0 (ix2 3 4) ≠ (0 : EReal) ∧ a0 (ix2 3 5) ≠ (0 : EReal) := by
  have h4 := congrFun h (ix1 0)
  have h5 := congrFun h (ix1 1)
  pointwise [fn] at h4 h5
  have one : ∀ b : Bool, BitVec.ofBool b = 1#1 → b = true := by decide
  exact ⟨of_decide_eq_true (one _ h4), of_decide_eq_true (one _ h5)⟩

end Cert.Pre_scales_nonzero3

namespace Cert.Block3

open Idealize.ShloMosaic Idealize.ShloMosaic.TcCoe Idealize.SL.Sem

/-! ## The claims -/

/-- The block's number. -/
abbrev blk : Cert.Later.Blk := ⟨3, by decide⟩

/-- The kernel's frame over floats. -/
theorem quiet : Cert.quiescent_Kernel3 := fun m ρ _ => by
  refine cast ?_ (@Cert.Later.Block.frame Bits _ blk m ρ)
  sl_kernel_rfl

/-- The ideal kernel's frame. -/
theorem quiet_ideal : Cert.quiescent_Kernel3Ideal := fun m ρ _ => by
  refine cast ?_ (@Cert.Later.Block.frame Ideal _ blk m ρ)
  sl_kernel_rfl

/-- The ideal kernel's run, where the two scales are not zero: its result array and its arguments. -/
theorem kernel_value (m : (ℓ : Loc Cert.Kernel3Ideal.nD Cert.Kernel3Ideal.τ Cert.Kernel3Ideal.sig) → Buf (Elt Ideal) ℓ) (g : Dev Cert.Kernel3Ideal.nD → PrngReg)
    (hs : ∀ c : Dev Cert.Kernel3Ideal.nD, m ((c.tc : Thread Cert.Kernel3Ideal.nD Cert.Kernel3Ideal.τ).loc Cert.Kernel3Ideal.main_arg0) (ix2 3 4) ≠ (0 : EReal)
      ∧ m ((c.tc : Thread Cert.Kernel3Ideal.nD Cert.Kernel3Ideal.τ).loc Cert.Kernel3Ideal.main_arg0) (ix2 3 5) ≠ (0 : EReal)) :
    θ_run (Cert.Kernel3Ideal.defs (F := Ideal)) (onTc (τ := Cert.Kernel3Ideal.τ) (Cert.Kernel3Ideal.main (F := Ideal))) ⟨m, fun _ => 0, g⟩ fun r => ∀ c : Dev Cert.Kernel3Ideal.nD,
      r.2.mem ((c.tc : Thread Cert.Kernel3Ideal.nD Cert.Kernel3Ideal.τ).loc Cert.Kernel3Ideal.main_v0) = (fun y : Cert.Kernel3Ideal.S16384x1280.Idx => Cert.Math.outAll 3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (y 0) (y 1))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9) := by
  refine cast ?_ (@Cert.Later.Block.value blk m g hs)
  sl_kernel_rfl

/-- Kernel and reference leave the same array: Spec.lean's function of the arguments. -/
theorem same : Cert.algebraic_Kernel3Ideal_Reference3Ideal_pre_scales_nonzero3 := by
  intro m g m' g' hpre hargs
  refine ⟨fun c y => Cert.Math.outAll 3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (y 0) (y 1), ?_, ?_⟩
  · exact kernel_value m g fun c => Cert.Pre_scales_nonzero3.nonzero _ _ _ _ _ _ _ _ _ _ (hpre c)
  · refine (θ_run _ _ _).mono (fun r h c => ?_) (Cert.Reference3Ideal.Value.run_blocks (F := Ideal) m' g')
    obtain ⟨e0, keep⟩ := h c
    obtain ⟨a0, a1, a2, a3, a4, a5, a6, a7, a8, a9⟩ := hargs c
    have o := out_array m' c
    rw [a0, a1, a2, a3, a4, a5, a6, a7, a8, a9] at o
    exact ⟨e0.trans o, keep⟩

end Cert.Block3

end
-- ==== Proof.Out.Spec.lean ====
/-
  The output projection's two results as functions of the arguments' arrays: the codes of the rows, and the rows
  returned, the product of the codes with the weights plus the rows `a2` that entered the stage.
  `a0` the scales, `a1` the rows, `a3 a4 a5` the product's weights, their scales and the bias.
-/
module

public import proofs.«01_k».proof.Proof.Spec

@[expose] public section

noncomputable section

namespace Cert.Math

open Idealize.ShloMosaic

/-- A vector's type: `n` numbers. -/
abbrev Arr1 (n : ℕ) : Type := (⟨1, ![n]⟩ : Shape).Idx → EReal

/-- A row the projection returns: its codes' linear layer plus the row that entered the stage. -/
def projRow (s : EReal) (h : Fin 1280 → EReal) (w : Fin 1280 → Fin 1280 → EReal) (ws b x : Fin 1280 → EReal) (d : Fin 1280) : EReal :=
  linear (fun k => quant (h k) s) (fun k => w k d) s (ws d) (b d) + x d

/-- The codes of every row. -/
def codesAll (a0 : Arr1 2) (a1 : Arr2 16384 1280) (r : Fin 16384) (d : Fin 1280) : EReal := quant (a1 (ix2 r d)) (a0 (ix1 1))

/-- Every row returned. -/
def projAll (a0 : Arr1 2) (a1 a2 : Arr2 16384 1280) (a3 : Arr2 1280 1280) (a4 a5 : Arr1 1280) (r : Fin 16384) : Fin 1280 → EReal :=
  projRow (a0 (ix1 1)) (fun d => a1 (ix2 r d)) (fun k d => a3 (ix2 k d)) (fun d => a4 (ix1 d)) (fun d => a5 (ix1 d))
    (fun d => a2 (ix2 r d))

end Cert.Math

end
-- ==== Proof.Out.Kernel.lean ====
/-
  What the output projection's kernel leaves: its two arrays hold Out/Spec.lean's functions of the arguments.  Grid point
  `t` handles rows `1024 t` on; the codes are stored at once, the rows returned by five trips of 256 columns each.
-/
module

public import proofs.«01_k».proof.Proof.Gen.KernelOutIdeal.Value
public import proofs.«01_k».proof.Proof.Codes
public import proofs.«01_k».proof.Proof.Out.Spec

@[expose] public section

set_option maxRecDepth 16384

noncomputable section

namespace Cert.KernelOutIdeal.Block

open Cert.KernelOutIdeal Cert.KernelOutIdeal.Gen Cert.Math
open Idealize.ShloMosaic Idealize.ShloMosaic.TcCoe Idealize.SL.Sem
open Idealize.ShloMosaic.Pipeline (Dat)

/-! ## What the stores carry -/

/-- The first store: the codes of the rows. -/
theorem pay1_at (s : Elt Ideal .f32) (hs : s ≠ (0 : EReal)) (x : Vec Ideal S1024x1280 .f32) (y : S1024x1280.Idx) :
    k0_pay1 (F := Ideal) s x y = quant (x y) s := by
  pointwise [k0_pay1]
  rw [quant_of_mul hs]

/-- A trip's store: the linear layer of the codes plus the loaded rows. -/
theorem pay2_at (s : Elt Ideal .f32) (t : Vec Ideal S1024x1280 .fp8e4m3) (w : Vec Ideal S1280x256 .fp8e4m3)
    (ws b : Vec Ideal S1x256 .f32) (x : Vec Ideal S1024x256 .bf16) (y : S1024x256.Idx) :
    k0_pay2 (F := Ideal) s t w ws b x y
      = linear (fun k => t (ix2 (y 0) k)) (fun k => w (ix2 k (y 1))) s (ws (ix2 0 (y 1))) (b (ix2 0 (y 1))) + x y := by
  pointwise [k0_pay2]
  rfl

/-! ## A block -/

/-- The codes of a block of rows. -/
def codes (s : EReal) (x1 : Arr2 1024 1280) : Arr2 1024 1280 := fun y => quant (x1 y) s

/-- The rows returned of a block of rows, from its codes `t`. -/
def rows (s : EReal) (t x2 : Arr2 1024 1280) (w : Arr2 1280 1280) (ws b : Arr2 1 1280) : Arr2 1024 1280 :=
  fun y => linear (fun k => t (ix2 (y 0) k)) (fun k => w (ix2 k (y 1))) s (ws (ix2 0 (y 1))) (b (ix2 0 (y 1))) + x2 y

/-- Trip `k` loads and stores the columns `256 k` on: of the weights, -/
theorem off1 : ∀ k : Fin k0_t1_loop.trips, k0_off1 k 0 = 0 ∧ k0_off1 k 1 = 256 * k.val := by decide +kernel
/-- of their scales and the bias, -/
theorem off2 : ∀ k : Fin k0_t1_loop.trips, k0_off2 k 0 = 0 ∧ k0_off2 k 1 = 256 * k.val := by decide +kernel
/-- of the rows. -/
theorem off3 : ∀ k : Fin k0_t1_loop.trips, k0_off3 k 0 = 0 ∧ k0_off3 k 1 = 256 * k.val := by decide +kernel

variable (c : Dev nD) (i : grid0.Coords) (arg1 : Memref sig .tc .smem S2 .f32) (harg1 : arg1.IsWhole) (arg2 : Memref sig .tc .vmem S1024x1280 .f32) (harg2 : arg2.IsWhole) (arg3 : Memref sig .tc .vmem S1024x1280 .bf16) (harg3 : arg3.IsWhole) (arg4 : Memref sig .tc .vmem S1280x1280 .fp8e4m3) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1024x1280 .bf16) (harg7 : arg7.IsWhole) (arg8 : Memref sig .tc .vmem S1024x1280 .fp8e4m3) (harg8 : arg8.IsWhole)
  (x0 : Vec Ideal S2 .f32) (x1 : Vec Ideal S1024x1280 .f32) (x2 : Vec Ideal S1024x1280 .bf16) (x3 : Vec Ideal S1280x1280 .fp8e4m3)
  (x4 x5 : Vec Ideal S1x1280 .f32)

/-- A trip stores a block of the rows returned. -/
theorem trip (s : Elt Ideal .f32) (T : Vec Ideal S1024x1280 .fp8e4m3) (k : Fin k0_t1_loop.trips) :
    ∀ p ∈ tripL_k0_t1 (F := Ideal) Variants.none c none i arg1 harg1 arg2 harg2 arg3 harg3 arg4 harg4 arg5 harg5 arg6 harg6 arg7 harg7 arg8 harg8 s (harg3.unread x2) (harg4.unread x3) (harg5.unread x4) (harg6.unread x5) (harg8.unread T) k,
      ∀ x : p.1.shape.Idx, p.2 x = rows s T x2 x3 x4 x5 (p.1.emb x) := by
  intro p hp
  unfold tripL_k0_t1 trip_k0_t1 at hp
  obtain rfl := List.mem_singleton.mp hp
  intro x
  obtain ⟨h10, h11⟩ := off1 k
  obtain ⟨h20, h21⟩ := off2 k
  obtain ⟨h30, h31⟩ := off3 k
  have e0 := Rect.idx_unit_val (s := S1024x1280) (k0_off3 k) S1024x256.size (k0_off3_inb k) x 0
  have e1 := Rect.idx_unit_val (s := S1024x1280) (k0_off3 k) S1024x256.size (k0_off3_inb k) x 1
  show k0_pay2 (F := Ideal) s _ _ _ _ _ x
    = rows s T x2 x3 x4 x5 ((Rect.unit (s := S1024x1280) (k0_off3 k) S1024x256.size (k0_off3_inb k)).idx x)
  simp only [View.readAt_eq_ld, harg3.read_unread, harg4.read_unread, harg5.read_unread, harg6.read_unread, harg8.read_unread]
  have hh : View.ld x2 (Rect.unit (k0_off3 k) S1024x256.size (k0_off3_inb k)) x
      = x2 ((Rect.unit (s := S1024x1280) (k0_off3 k) S1024x256.size (k0_off3_inb k)).idx x) := rfl
  generalize (Rect.unit (s := S1024x1280) (k0_off3 k) S1024x256.size (k0_off3_inb k)).idx x = y at e0 e1 hh
  rw [pay2_at s, hh]
  unfold rows
  have hT : ∀ d, View.ld T (Rect.unit ![0, 0] S1024x1280.size inb_S1024x1280_S1024x1280_0_0) (ix2 (x 0) d) = T (ix2 (y 0) d) :=
    fun d => ld2 T _ _ _ _ _ _ (by show _ = 0 + _; omega) (by show _ = 0 + _; omega)
  have hw : ∀ d, View.ld x3 (Rect.unit (k0_off1 k) S1280x256.size (k0_off1_inb k)) (ix2 d (x 1)) = x3 (ix2 d (y 1)) :=
    fun d => ld2 x3 _ _ _ _ _ _ (by omega) (by omega)
  have hb : ∀ b : Vec Ideal S1x1280 .f32,
      View.ld b (Rect.unit (k0_off2 k) S1x256.size (k0_off2_inb k)) (ix2 0 (x 1)) = b (ix2 0 (y 1)) :=
    fun b => ld2 b _ _ _ _ _ _ (by show 0 = _ + 0; omega) (by omega)
  simp only [hT, hw]
  rw [hb x4, hb x5]

/-- The trips before the `n`th store blocks of the rows returned. -/
theorem trips (s : Elt Ideal .f32) (T : Vec Ideal S1024x1280 .fp8e4m3) :
    ∀ n ≤ k0_t1_loop.trips, ∀ p ∈ pb_k0_t1 (F := Ideal) Variants.none c none i arg1 harg1 arg2 harg2 arg3 harg3 arg4 harg4 arg5 harg5 arg6 harg6 arg7 harg7 arg8 harg8 s (harg3.unread x2) (harg4.unread x3) (harg5.unread x4) (harg6.unread x5) (harg8.unread T) n,
      ∀ x : p.1.shape.Idx, p.2 x = rows s T x2 x3 x4 x5 (p.1.emb x)
  | 0, _, p, hp => absurd hp List.not_mem_nil
  | n + 1, hn, p, hp => by
    rw [pb_k0_t1_succ _ _ _ _ arg1 harg1 arg2 harg2 arg3 harg3 arg4 harg4 arg5 harg5 arg6 harg6 arg7 harg7 arg8 harg8 s _ _ _ _ _ ⟨n, hn⟩] at hp
    rcases List.mem_append.mp hp with hp | hp
    · exact trip c i arg1 harg1 arg2 harg2 arg3 harg3 arg4 harg4 arg5 harg5 arg6 harg6 arg7 harg7 arg8 harg8 x2 x3 x4 x5 s T _ p hp
    · exact trips s T n (Nat.le_of_succ_le hn) p hp

/-- The block of the codes after the run. -/
theorem out_codes (hs : x0 (ix1 1) ≠ (0 : EReal)) :
    out0_A_7 (F := Ideal) c i arg1 harg1 arg2 harg2 arg3 harg3 arg4 harg4 arg5 harg5 arg6 harg6 arg7 harg7 arg8 harg8 x0 x1 x2 x3 x4 x5 = codes (x0 (ix1 1)) x1 := by
  funext y
  frame_out
  rw [View.ld_unit_apply_of x0 _ _ _ _ _ (fun a => by fin_cases a; rfl : ∀ a, ((ix1 1 : S2.Idx) a).val = _)]
  exact pay1_at _ hs x1 y

/-- The scale loaded. -/
theorem scale : kernelRun0_A.sl.r (F := Ideal) c arg1 harg1 x0 = x0 (ix1 1) := by
  unfold kernelRun0_A.sl.r
  rw [View.readAt_eq_ld, harg1.read_unread]
  exact View.ld_unit_apply_of x0 _ _ _ _ _ fun a => by fin_cases a; rfl

include i arg3 harg3 arg4 harg4 arg5 harg5 arg6 harg6 arg7 harg7 x2 x3 x4 x5 in
/-- The block of the codes while the loop runs. -/
theorem held (hs : x0 (ix1 1) ≠ (0 : EReal)) (f : arg8.view.ty.Contents (Elt Ideal)) :
    arg8.view.writes (Elt Ideal) f (kernelRun0_A.sl.H7_1 (F := Ideal) c arg1 harg1 arg2 harg2 x0 x1) = harg8.unread (codes (x0 (ix1 1)) x1) := by
  rw [writes_whole harg8 S1024x1280.size f _ (by sl_kernel_rfl)]
  rw [← out_codes c i arg1 harg1 arg2 harg2 arg3 harg3 arg4 harg4 arg5 harg5 arg6 harg6 arg7 harg7 arg8 harg8 x0 x1 x2 x3 x4 x5 hs]
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  rfl

/-- The block of the rows returned after the run. -/
theorem out_rows (hs : x0 (ix1 1) ≠ (0 : EReal)) :
    out0_A_6 (F := Ideal) c i arg1 harg1 arg2 harg2 arg3 harg3 arg4 harg4 arg5 harg5 arg6 harg6 arg7 harg7 arg8 harg8 x0 x1 x2 x3 x4 x5 = rows (x0 (ix1 1)) (codes (x0 (ix1 1)) x1) x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [held c i arg1 harg1 arg2 harg2 arg3 harg3 arg4 harg4 arg5 harg5 arg6 harg6 arg7 harg7 arg8 harg8 x0 x1 x2 x3 x4 x5 hs, scale]
  funext y
  exact View.canon_apply_of_pieces (S := S1024x1280) _ _ (trips c i arg1 harg1 arg2 harg2 arg3 harg3 arg4 harg4 arg5 harg5 arg6 harg6 arg7 harg7 arg8 harg8 x2 x3 x4 x5 _ _ _ le_rfl) y
    (View.cover_of_tiledL (s := S1024x1280) _ S1024x256.size (by sl_kernel_rfl) y)

/-! ## The arrays -/

variable (m : (ℓ : Loc nD τ sig) → Buf (Elt Ideal) ℓ)

/-- The block each window stages at each grid point. -/
theorem idx : ∀ t : Fin cfg0.N, win0_0.index t = ![0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- Row `r` of the block of point `t`, in the array. -/
abbrev rowAt (t : Fin cfg0.N) (r : Fin 1024) : Fin 16384 := ⟨1024 * t.val + r.val, by have := t.isLt; have : cfg0.N = 16 := rfl; omega⟩

/-- The scales are staged whole. -/
theorem blk0 (t : Fin cfg0.N) (r : Fin 2) : iblk m c 0 t (ix1 r) = m ((c.tc : Thread nD τ).loc main_arg0) (ix1 r) := by
  blk_simp [iblk, V_main_arg0]
  refine congrArg _ ?_
  blk_ext [idx t]

/-- The rows are staged in turn, -/
theorem blk1 (t : Fin cfg0.N) (r : Fin 1024) (d : Fin 1280) : iblk m c 1 t (ix2 r d) = m ((c.tc : Thread nD τ).loc main_arg1) (ix2 (rowAt t r) d) := by
  blk_simp [iblk, V_main_arg1]
  refine congrArg _ ?_
  blk_ext [idx t]

/-- and so are the rows that entered the stage. -/
theorem blk2 (t : Fin cfg0.N) (r : Fin 1024) (d : Fin 1280) : iblk m c 2 t (ix2 r d) = m ((c.tc : Thread nD τ).loc main_arg2) (ix2 (rowAt t r) d) := by
  blk_simp [iblk, V_main_arg2]
  refine congrArg _ ?_
  blk_ext [idx t]

/-- The weights are staged whole, -/
theorem blk3 (t : Fin cfg0.N) (r : Fin 1280) (d : Fin 1280) : iblk m c 3 t (ix2 r d) = m ((c.tc : Thread nD τ).loc main_arg3) (ix2 r d) := by
  blk_simp [iblk, V_main_arg3]
  refine congrArg _ ?_
  blk_ext [idx t]

/-- their scales as a row, -/
theorem row4 (d : Fin 1280) : V m c main_v0 (ix2 0 d) = m ((c.tc : Thread nD τ).loc main_arg4) (ix1 d) := by
  entry_read
  pointwise

/-- and so the bias. -/
theorem row5 (d : Fin 1280) : V m c main_v1 (ix2 0 d) = m ((c.tc : Thread nD τ).loc main_arg5) (ix1 d) := by
  entry_read
  pointwise

/-- The staged row of scales. -/
theorem blk4 (t : Fin cfg0.N) (d : Fin 1280) : iblk m c 4 t (ix2 0 d) = m ((c.tc : Thread nD τ).loc main_arg4) (ix1 d) := by
  rw [← row4 c m]
  blk_simp [iblk]
  refine congrArg _ ?_
  blk_ext [idx t]

/-- The staged row of biases. -/
theorem blk5 (t : Fin cfg0.N) (d : Fin 1280) : iblk m c 5 t (ix2 0 d) = m ((c.tc : Thread nD τ).loc main_arg5) (ix1 d) := by
  rw [← row5 c m]
  blk_simp [iblk]
  refine congrArg _ ?_
  blk_ext [idx t]

/-- Where an index of the block of the rows returned lies in the array, -/
theorem emb6 (t : Fin cfg0.N) (y : S1024x1280.Idx) :
    (win0_6.blk t).view.emb y 0 = rowAt t (y 0) ∧ (win0_6.blk t).view.emb y 1 = y 1 := by
  constructor
  · refine Fin.ext ?_
    blk_simp [idx t]
    show _ = 1024 * t.val + (y 0).val
    omega
  · refine Fin.ext ?_
    blk_simp [idx t]

/-- and one of the block of codes. -/
theorem emb7 (t : Fin cfg0.N) (y : S1024x1280.Idx) :
    (win0_7.blk t).view.emb y 0 = rowAt t (y 0) ∧ (win0_7.blk t).view.emb y 1 = y 1 := by
  constructor
  · refine Fin.ext ?_
    blk_simp [idx t]
    show _ = 1024 * t.val + (y 0).val
    omega
  · refine Fin.ext ?_
    blk_simp [idx t]

/-- The second result: the codes. -/
theorem codes_array (hs : (m ((c.tc : Thread nD τ).loc main_arg0)) (ix1 1) ≠ (0 : EReal)) :
    (dats (F := Ideal) m 0 c).arrAt 7 cfg0.N = fun y : S16384x1280.Idx => codesAll (m ((c.tc : Thread nD τ).loc main_arg0)) (m ((c.tc : Thread nD τ).loc main_arg1)) (y 0) (y 1) := by
  refine (dats m 0 c).arrAt_eq_of_covers 7 _ (by decide +kernel) fun t hf (y : S1024x1280.Idx) => ?_
  blk_simp
  rw [after0_7]
  unfold outsAt0
  dsimp only
  rw [out_codes _ _ _ _ _ _ _ _ _ _ _ _ _ _ _ _ _ _ _ _ _ _ _ _ (by rw [blk0]; exact hs)]
  obtain ⟨e0, e1⟩ := emb7 t y
  rw [e0, e1]
  obtain ⟨r, d, rfl⟩ : ∃ r d, y = ix2 r d := ⟨y 0, y 1, eq_ix2 y⟩
  show quant (iblk m c 1 t (ix2 r d)) (iblk m c 0 t (ix1 1)) = _
  rw [blk0, blk1]
  rfl

/-- The first result: the rows returned. -/
theorem rows_array (hs : (m ((c.tc : Thread nD τ).loc main_arg0)) (ix1 1) ≠ (0 : EReal)) :
    (dats (F := Ideal) m 0 c).arrAt 6 cfg0.N = fun y : S16384x1280.Idx => projAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) := by
  refine (dats m 0 c).arrAt_eq_of_covers 6 _ (by decide +kernel) fun t hf (y : S1024x1280.Idx) => ?_
  blk_simp
  rw [after0_6]
  unfold outsAt0
  dsimp only
  rw [out_rows _ _ _ _ _ _ _ _ _ _ _ _ _ _ _ _ _ _ _ _ _ _ _ _ (by rw [blk0]; exact hs)]
  obtain ⟨e0, e1⟩ := emb6 t y
  rw [e0, e1]
  obtain ⟨r, d, rfl⟩ : ∃ r d, y = ix2 r d := ⟨y 0, y 1, eq_ix2 y⟩
  show linear (fun k => quant (iblk m c 1 t (ix2 r k)) (iblk m c 0 t (ix1 1))) (fun k => iblk m c 3 t (ix2 k d)) (iblk m c 0 t (ix1 1))
    (iblk m c 4 t (ix2 0 d)) (iblk m c 5 t (ix2 0 d)) + iblk m c 2 t (ix2 r d) = _
  simp only [blk0, blk1, blk2, blk3, blk4, blk5]
  rfl

end Cert.KernelOutIdeal.Block

end
-- ==== Proof.Out.Ref.lean ====
/-
  What the output projection's reference leaves: its two arrays hold Out/Spec.lean's functions of the arguments.  It has
  one grid point, which stages every array whole.
-/
module

public import proofs.«01_k».proof.Proof.Gen.ReferenceOutIdeal.Value
public import proofs.«01_k».proof.Proof.Out.Spec
public import Idealize.ShloMosaic.Lib.Pipeline.ValueKit

@[expose] public section

set_option maxRecDepth 16384

noncomputable section

namespace Cert.ReferenceOutIdeal.Block

open Cert.ReferenceOutIdeal Cert.ReferenceOutIdeal.Gen Cert.Math
open Idealize.ShloMosaic Idealize.ShloMosaic.TcCoe Idealize.SL.Sem
open Idealize.ShloMosaic.Pipeline (Dat)

/-- The codes stored. -/
theorem codes_at (s : Elt Ideal .f32) (h : Vec Ideal S16384x1280 .f32) (y : S16384x1280.Idx) :
    k0_pay1 (F := Ideal) s h y = quant (h y) s := by
  pointwise [k0_pay1]
  rfl

/-- The rows stored. -/
theorem rows_at (s : Elt Ideal .f32) (h : Vec Ideal S16384x1280 .f32) (x : Vec Ideal S16384x1280 .bf16) (w : Vec Ideal S1280x1280 .fp8e4m3)
    (ws b : Vec Ideal S1280 .f32) (y : S16384x1280.Idx) :
    k0_pay2 (F := Ideal) s h x w ws b y
      = projRow s (fun d => h (ix2 (y 0) d)) (fun k d => w (ix2 k d)) (fun d => ws (ix1 d)) (fun d => b (ix1 d))
          (fun d => x (ix2 (y 0) d)) (y 1) := by
  obtain ⟨r, d, rfl⟩ : ∃ r d, y = ix2 r d := ⟨y 0, y 1, eq_ix2 y⟩
  pointwise [k0_pay2]
  simp only [codes_at]
  rfl

/-! ## What the body leaves -/

variable (c : Dev nD) (arg0 : Memref sig .tc .smem S2 .f32) (harg0 : arg0.IsWhole) (arg1 : Memref sig .tc .vmem S16384x1280 .f32) (harg1 : arg1.IsWhole) (arg2 : Memref sig .tc .vmem S16384x1280 .bf16) (harg2 : arg2.IsWhole) (arg3 : Memref sig .tc .vmem S1280x1280 .fp8e4m3) (harg3 : arg3.IsWhole) (arg4 : Memref sig .tc .vmem S1280 .f32) (harg4 : arg4.IsWhole) (arg5 : Memref sig .tc .vmem S1280 .f32) (harg5 : arg5.IsWhole) (arg6 : Memref sig .tc .vmem S16384x1280 .bf16) (harg6 : arg6.IsWhole) (arg7 : Memref sig .tc .vmem S16384x1280 .fp8e4m3) (harg7 : arg7.IsWhole)
  (x0 : Vec Ideal S2 .f32) (x1 : Vec Ideal S16384x1280 .f32) (x2 : Vec Ideal S16384x1280 .bf16) (x3 : Vec Ideal S1280x1280 .fp8e4m3)
  (x4 x5 : Vec Ideal S1280 .f32)

/-- The load of the scale. -/
theorem ldS (inb) (h) : View.ld x0 (Rect.unit ![1] ![1] inb) (Shape.Idx.first h) = x0 (ix1 1) :=
  View.ld_unit_apply_of x0 _ _ _ _ _ fun a => by fin_cases a; rfl

/-- The second result's buffer: the codes. -/
theorem codes_out : out0_A_7 (F := Ideal) c arg0 harg0 arg1 harg1 arg2 harg2 arg3 harg3 arg4 harg4 arg5 harg5 arg6 harg6 arg7 harg7 x0 x1 x2 x3 x4 x5 = fun y : S16384x1280.Idx => codesAll x0 x1 (y 0) (y 1) := by
  funext y
  frame_out
  rw [ldS x0]
  rw [codes_at]
  unfold codesAll
  rw [← eq_ix2 y]

/-- The first result's buffer: the rows returned. -/
theorem rows_out : out0_A_6 (F := Ideal) c arg0 harg0 arg1 harg1 arg2 harg2 arg3 harg3 arg4 harg4 arg5 harg5 arg6 harg6 arg7 harg7 x0 x1 x2 x3 x4 x5 = fun y : S16384x1280.Idx => projAll x0 x1 x2 x3 x4 x5 (y 0) (y 1) := by
  funext y
  frame_out
  rw [ldS x0]
  exact rows_at _ x1 x2 x3 x4 x5 y

/-! ## The arrays -/

variable (m : (ℓ : Loc nD τ sig) → Buf (Elt Ideal) ℓ)

/-- The one grid point stages every argument whole. -/
theorem idx : ∀ t : Fin cfg0.N, win0_0.index t = ![0] ∧ win0_1.index t = ![0, 0] ∧ win0_2.index t = ![0, 0] ∧ win0_3.index t = ![0, 0] ∧ win0_4.index t = ![0] ∧ win0_5.index t = ![0] ∧ win0_6.index t = ![0, 0] ∧ win0_7.index t = ![0, 0] :=
  (by decide +kernel : ∀ t : Fin grid0.N, _)

/-- Argument 0 is staged whole. -/
theorem blk0 (t : Fin cfg0.N) : iblk m c 0 t = (m ((c.tc : Thread nD τ).loc main_arg0)) := by
  funext y
  blk_simp [iblk, V]
  refine congrArg _ ?_
  blk_ext [idx t]

/-- Argument 1 is staged whole. -/
theorem blk1 (t : Fin cfg0.N) : iblk m c 1 t = (m ((c.tc : Thread nD τ).loc main_arg1)) := by
  funext y
  blk_simp [iblk, V]
  refine congrArg _ ?_
  blk_ext [idx t]

/-- Argument 2 is staged whole. -/
theorem blk2 (t : Fin cfg0.N) : iblk m c 2 t = (m ((c.tc : Thread nD τ).loc main_arg2)) := by
  funext y
  blk_simp [iblk, V]
  refine congrArg _ ?_
  blk_ext [idx t]

/-- Argument 3 is staged whole. -/
theorem blk3 (t : Fin cfg0.N) : iblk m c 3 t = (m ((c.tc : Thread nD τ).loc main_arg3)) := by
  funext y
  blk_simp [iblk, V]
  refine congrArg _ ?_
  blk_ext [idx t]

/-- Argument 4 is staged whole. -/
theorem blk4 (t : Fin cfg0.N) : iblk m c 4 t = (m ((c.tc : Thread nD τ).loc main_arg4)) := by
  funext y
  blk_simp [iblk, V]
  refine congrArg _ ?_
  blk_ext [idx t]

/-- Argument 5 is staged whole. -/
theorem blk5 (t : Fin cfg0.N) : iblk m c 5 t = (m ((c.tc : Thread nD τ).loc main_arg5)) := by
  funext y
  blk_simp [iblk, V]
  refine congrArg _ ?_
  blk_ext [idx t]

/-- The second result. -/
theorem codes_array :
    (dats (F := Ideal) m 0 c).arrAt 7 cfg0.N = fun y : S16384x1280.Idx => codesAll (m ((c.tc : Thread nD τ).loc main_arg0)) (m ((c.tc : Thread nD τ).loc main_arg1)) (y 0) (y 1) := by
  refine (dats m 0 c).arrAt_eq_of_after_last 7 t0_0 (by decide +kernel) _ fun y => ?_
  blk_simp
  rw [after0_7]
  unfold outsAt0
  dsimp only
  rw [codes_out, blk0, blk1]

/-- The first result. -/
theorem rows_array :
    (dats (F := Ideal) m 0 c).arrAt 6 cfg0.N = fun y : S16384x1280.Idx => projAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) := by
  refine (dats m 0 c).arrAt_eq_of_after_last 6 t0_0 (by decide +kernel) _ fun y => ?_
  blk_simp
  rw [after0_6]
  unfold outsAt0
  dsimp only
  rw [rows_out, blk0, blk1, blk2, blk3, blk4, blk5]

end Cert.ReferenceOutIdeal.Block

end
-- ==== Proof.Out.Claim.lean ====
/-
  The claims about the output projection's call: kernel and reference, run on equal arguments whose scale is not zero,
  leave equal results.
-/
module

public import proofs.«01_k».proof.Defs
public import proofs.«01_k».proof.Proof.Gen.KernelOut
public import proofs.«01_k».proof.Proof.Out.Kernel
public import proofs.«01_k».proof.Proof.Out.Ref
public import Idealize.ShloMosaic.Lib.Pipeline.ValueKit

@[expose] public section

set_option maxRecDepth 16384

noncomputable section

namespace Cert.Pre_out_scale_nonzero

open Idealize.ShloMosaic

/-- The side conditions the predicate's operations state. -/
instance facts : Cert.Pre_out_scale_nonzero.Facts where
  slices_S2_S1_1 := by decide +kernel
  shapeCasts_S1_S_ := by decide +kernel

variable (a0 : FVec Ideal S2 .f32) (a1 : FVec Ideal S16384x1280 .f32) (a2 : FVec Ideal S16384x1280 .bf16) (a3 : FVec Ideal S1280x1280 .fp8e4m3)
  (a4 a5 : FVec Ideal S1280 .f32)

/-- Where the predicate holds, the second scale is not zero. -/
theorem nonzero (h : fn (F := Ideal) a0 a1 a2 a3 a4 a5 = fun _ => 1#1) : a0 (ix1 1) ≠ (0 : EReal) := by
  have h1 := congrFun h (fun x => x.elim0)
  pointwise [fn] at h1
  have one : ∀ b : Bool, BitVec.ofBool b = 1#1 → b = true := by decide
  exact of_decide_eq_true (one _ h1)

end Cert.Pre_out_scale_nonzero

namespace Cert.BlockOut

open Idealize.ShloMosaic Idealize.ShloMosaic.TcCoe Idealize.SL.Sem

/-- The kernel's frame: it is the ideal program's text, read over floats. -/
theorem quiet : Cert.quiescent_KernelOut := fun m ρ _ => by
  refine cast ?_ (Cert.KernelOutIdeal.Gen.frame (F := Bits) m ρ)
  sl_kernel_rfl

/-- Kernel and reference leave the same two arrays: Out/Spec.lean's functions of the arguments. -/
theorem same : Cert.algebraic_KernelOutIdeal_ReferenceOutIdeal_pre_out_scale_nonzero := by
  intro m g m' g' hpre hargs
  refine ⟨fun c y => Cert.Math.projAll (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (y 0) (y 1), fun c y => Cert.Math.codesAll (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (y 0) (y 1), ?_, ?_⟩
  · refine (θ_run _ _ _).mono (fun r h c => ?_) (Cert.KernelOutIdeal.Value.run_blocks (F := Ideal) m g)
    have hs := Cert.Pre_out_scale_nonzero.nonzero _ _ _ _ _ _ (hpre c)
    obtain ⟨e0, e1, keep⟩ := h c
    exact ⟨e0.trans (Cert.KernelOutIdeal.Block.rows_array c m hs), e1.trans (Cert.KernelOutIdeal.Block.codes_array c m hs), keep⟩
  · refine (θ_run _ _ _).mono (fun r h c => ?_) (Cert.ReferenceOutIdeal.Value.run_blocks (F := Ideal) m' g')
    obtain ⟨e0, e1, keep⟩ := h c
    obtain ⟨a0, a1, a2, a3, a4, a5⟩ := hargs c
    have o := Cert.ReferenceOutIdeal.Block.rows_array c m'
    have i := Cert.ReferenceOutIdeal.Block.codes_array c m'
    rw [a0, a1, a2, a3, a4, a5] at o
    rw [a0, a1] at i
    exact ⟨e0.trans o, e1.trans i, keep⟩

end Cert.BlockOut

end
-- ==== Proof.Text.Spec.lean ====
/-
  The projection of the text as a function of the arguments' arrays: for each transformer block, the product of the
  text's codes with that block's weights, times the scale of the codes and of the weights' columns.
  `a0` the text's scale, `a1` the codes of its rows, `a2 a3` the weights and their scales.
-/
module

public import proofs.«01_k».proof.Proof.Spec

@[expose] public section

noncomputable section

namespace Cert.Math

open Idealize.ShloMosaic

/-- A linear layer without a bias: the product of the codes times their scales. -/
def scaled {n : ℕ} (x w : Fin n → EReal) (s ws : EReal) : EReal := (∑ k, x k * w k) * (s * ws)

/-- The projected rows of every block. -/
def textAll (s : EReal) (a1 : Arr2 1280 2048) (a2 : Arr3 4 2048 2560) (a3 : Arr2 4 2560) (l : Fin 4) (r : Fin 1280) (d : Fin 2560) : EReal :=
  scaled (fun k => a1 (ix2 r k)) (fun k => a2 (ix3 l k d)) s (a3 (ix2 l d))

/-- The same of one block's weights and scales. -/
def textBlock (s : EReal) (t : Arr2 1280 2048) (w : Arr3 1 2048 2560) (ws : Arr3 1 1 2560) : Arr3 1 1280 2560 :=
  fun y => scaled (fun k => t (ix2 (y 1) k)) (fun k => w (ix3 0 k (y 2))) s (ws (ix3 0 0 (y 2)))

end Cert.Math

end
-- ==== Proof.Text.Kernel.lean ====
/-
  What the text projection's kernel leaves: its array holds Text/Spec.lean's function of the arguments.  Grid point `t`
  handles transformer block `t`, in ten trips of 256 columns each.
-/
module

public import proofs.«01_k».proof.Proof.Gen.KernelTextIdeal.Value
public import proofs.«01_k».proof.Proof.Codes
public import proofs.«01_k».proof.Proof.Text.Spec

@[expose] public section

set_option maxRecDepth 16384

noncomputable section

namespace Cert.KernelTextIdeal.Block

open Cert.KernelTextIdeal Cert.KernelTextIdeal.Gen Cert.Math
open Idealize.ShloMosaic Idealize.ShloMosaic.TcCoe Idealize.SL.Sem
open Idealize.ShloMosaic.Pipeline (Dat)

/-- A trip's store: the scaled product of the codes with the loaded columns. -/
theorem pay1_at (s : Elt Ideal .f32) (t : Vec Ideal S1280x2048 .fp8e4m3) (w : Vec Ideal S1x2048x256 .fp8e4m3)
    (ws : Vec Ideal S1x1x256 .f32) (r : Fin 1280) (d : Fin 256) :
    k0_pay1 (F := Ideal) s t w ws (ix3 0 r d)
      = scaled (fun k => t (ix2 r k)) (fun k => w (ix3 0 k d)) s (ws (ix3 0 0 d)) := by
  pointwise [k0_pay1]
  rfl

/-- Trip `k` loads and stores the columns `256 k` on: of the weights, -/
theorem off1 : ∀ k : Fin k0_t1_loop.trips, k0_off1 k 0 = 0 ∧ k0_off1 k 1 = 0 ∧ k0_off1 k 2 = 256 * k.val := by decide +kernel
/-- of their scales, -/
theorem off2 : ∀ k : Fin k0_t1_loop.trips, k0_off2 k 0 = 0 ∧ k0_off2 k 1 = 0 ∧ k0_off2 k 2 = 256 * k.val := by decide +kernel
/-- of the result. -/
theorem off3 : ∀ k : Fin k0_t1_loop.trips, k0_off3 k 0 = 0 ∧ k0_off3 k 1 = 0 ∧ k0_off3 k 2 = 256 * k.val := by decide +kernel

variable (c : Dev nD) (i : grid0.Coords) (arg1 : Memref sig .tc .smem S1 .f32) (harg1 : arg1.IsWhole) (arg2 : Memref sig .tc .vmem S1280x2048 .fp8e4m3) (harg2 : arg2.IsWhole) (arg3 : Memref sig .tc .vmem S1x2048x2560 .fp8e4m3) (harg3 : arg3.IsWhole) (arg4 : Memref sig .tc .vmem S1x1x2560 .f32) (harg4 : arg4.IsWhole) (arg5 : Memref sig .tc .vmem S1x1280x2560 .bf16) (harg5 : arg5.IsWhole)
  (x0 : Vec Ideal S1 .f32) (x1 : Vec Ideal S1280x2048 .fp8e4m3) (x2 : Vec Ideal S1x2048x2560 .fp8e4m3) (x3 : Vec Ideal S1x1x2560 .f32)

/-- A trip stores a block of the result. -/
theorem trip (s : Elt Ideal .f32) (k : Fin k0_t1_loop.trips) :
    ∀ p ∈ tripL_k0_t1 (F := Ideal) Variants.none c none i arg1 harg1 arg2 harg2 arg3 harg3 arg4 harg4 arg5 harg5 s (harg2.unread x1) (harg3.unread x2) (harg4.unread x3) k,
      ∀ x : p.1.shape.Idx, p.2 x = textBlock s x1 x2 x3 (p.1.emb x) := by
  intro p hp
  unfold tripL_k0_t1 trip_k0_t1 at hp
  obtain rfl := List.mem_singleton.mp hp
  intro x
  obtain ⟨h10, h11, h12⟩ := off1 k
  obtain ⟨h20, h21, h22⟩ := off2 k
  obtain ⟨h30, h31, h32⟩ := off3 k
  have e1 := Rect.idx_unit_val (s := S1x1280x2560) (k0_off3 k) S1x1280x256.size (k0_off3_inb k) x 1
  have e2 := Rect.idx_unit_val (s := S1x1280x2560) (k0_off3 k) S1x1280x256.size (k0_off3_inb k) x 2
  show k0_pay1 (F := Ideal) s _ _ _ x
    = textBlock s x1 x2 x3 ((Rect.unit (s := S1x1280x2560) (k0_off3 k) S1x1280x256.size (k0_off3_inb k)).idx x)
  simp only [View.readAt_eq_ld, harg2.read_unread, harg3.read_unread, harg4.read_unread]
  generalize (Rect.unit (s := S1x1280x2560) (k0_off3 k) S1x1280x256.size (k0_off3_inb k)).idx x = y at e1 e2
  obtain ⟨z, r, d, rfl⟩ : ∃ z r d, x = ix3 z r d := ⟨x 0, x 1, x 2, eq_ix3 x⟩
  obtain rfl : z = 0 := Subsingleton.elim _ _
  replace e1 : (y 1).val = k0_off3 k 1 + r.val := e1
  replace e2 : (y 2).val = k0_off3 k 2 + d.val := e2
  rw [pay1_at s]
  unfold textBlock
  have ht : ∀ q, View.ld x1 (Rect.unit ![0, 0] S1280x2048.size inb_S1280x2048_S1280x2048_0_0) (ix2 r q) = x1 (ix2 (y 1) q) :=
    fun q => ld2 x1 _ _ _ _ _ _ (by show _ = 0 + _; omega) (by show _ = 0 + _; omega)
  have hw : ∀ q, View.ld x2 (Rect.unit (k0_off1 k) S1x2048x256.size (k0_off1_inb k)) (ix3 0 q d) = x2 (ix3 0 q (y 2)) :=
    fun q => ld3 x2 _ _ _ _ _ _ h10 (by omega) (by omega)
  have hs : View.ld x3 (Rect.unit (k0_off2 k) S1x1x256.size (k0_off2_inb k)) (ix3 0 0 d) = x3 (ix3 0 0 (y 2)) :=
    ld3 x3 _ _ _ _ _ _ h20 (by show 0 = _ + 0; omega) (by omega)
  simp only [ht, hw]
  rw [hs]

/-- The trips before the `n`th store blocks of the result. -/
theorem trips (s : Elt Ideal .f32) :
    ∀ n ≤ k0_t1_loop.trips, ∀ p ∈ pb_k0_t1 (F := Ideal) Variants.none c none i arg1 harg1 arg2 harg2 arg3 harg3 arg4 harg4 arg5 harg5 s (harg2.unread x1) (harg3.unread x2) (harg4.unread x3) n,
      ∀ x : p.1.shape.Idx, p.2 x = textBlock s x1 x2 x3 (p.1.emb x)
  | 0, _, p, hp => absurd hp List.not_mem_nil
  | n + 1, hn, p, hp => by
    rw [pb_k0_t1_succ _ _ _ _ arg1 harg1 arg2 harg2 arg3 harg3 arg4 harg4 arg5 harg5 s _ _ _ ⟨n, hn⟩] at hp
    rcases List.mem_append.mp hp with hp | hp
    · exact trip c i arg1 harg1 arg2 harg2 arg3 harg3 arg4 harg4 arg5 harg5 x1 x2 x3 s _ p hp
    · exact trips s n (Nat.le_of_succ_le hn) p hp

/-- The block of the result after the run. -/
theorem out : out0_A_4 (F := Ideal) c i arg1 harg1 arg2 harg2 arg3 harg3 arg4 harg4 arg5 harg5 x0 x1 x2 x3 = textBlock (x0 (ix1 0)) x1 x2 x3 := by
  have scale : kernelRun0_A.sl.r (F := Ideal) c arg1 harg1 x0 = x0 (ix1 0) := by
    unfold kernelRun0_A.sl.r
    rw [View.readAt_eq_ld, harg1.read_unread]
    exact View.ld_unit_apply_of x0 _ _ _ _ _ fun a => by fin_cases a; rfl
  unfold out0_A_4
  rw [View.read_writes_eq_canon _ _ _ (cover0_A_4 c i arg1 harg1 arg2 harg2 arg3 harg3 arg4 harg4 arg5 harg5 x0 x1 x2 x3)]
  unfold kernelRun0_A
  dsimp only
  rw [scale]
  funext y
  exact View.canon_apply_of_pieces (S := S1x1280x2560) _ _ (trips c i arg1 harg1 arg2 harg2 arg3 harg3 arg4 harg4 arg5 harg5 x1 x2 x3 _ _ le_rfl) y
    (View.cover_of_tiledL (s := S1x1280x2560) _ S1x1280x256.size (by sl_kernel_rfl) y)

/-! ## The array -/

variable (m : (ℓ : Loc nD τ sig) → Buf (Elt Ideal) ℓ)

/-- The block each window stages at each grid point. -/
theorem idx : ∀ t : Fin cfg0.N, win0_0.index t = ![0] ∧ win0_1.index t = ![0, 0] ∧ win0_2.index t = ![t.val, 0, 0]
    ∧ win0_3.index t = ![t.val, 0, 0] ∧ win0_4.index t = ![t.val, 0, 0] :=
  (by decide +kernel : ∀ t : Fin grid0.N, _)

/-- The transformer block of a grid point. -/
abbrev layer (t : Fin cfg0.N) : Fin 4 := ⟨t.val, t.isLt⟩

/-- The text's scale as one number of a vector, -/
theorem scale_row : V m c main_v0 (ix1 0) = (m ((c.tc : Thread nD τ).loc main_arg0)) ix0 := by
  entry_read
  pointwise

/-- and the weights' scales with a unit axis. -/
theorem scales_row (l : Fin 4) (d : Fin 2560) : V m c main_v1 (ix3 l 0 d) = (m ((c.tc : Thread nD τ).loc main_arg3)) (ix2 l d) := by
  entry_read
  pointwise

/-- The staged scale. -/
theorem blk0 (t : Fin cfg0.N) : iblk m c 0 t (ix1 0) = (m ((c.tc : Thread nD τ).loc main_arg0)) ix0 := by
  rw [← scale_row c m]
  blk_simp [iblk]
  refine congrArg _ ?_
  blk_ext [idx t]

/-- The codes are staged whole, -/
theorem blk1 (t : Fin cfg0.N) (r : Fin 1280) (k : Fin 2048) : iblk m c 1 t (ix2 r k) = (m ((c.tc : Thread nD τ).loc main_arg1)) (ix2 r k) := by
  blk_simp [iblk, V_main_arg1]
  refine congrArg _ ?_
  blk_ext [idx t]

/-- the weights block after block, -/
theorem blk2 (t : Fin cfg0.N) (k : Fin 2048) (d : Fin 2560) : iblk m c 2 t (ix3 0 k d) = (m ((c.tc : Thread nD τ).loc main_arg2)) (ix3 (layer t) k d) := by
  blk_simp [iblk, V_main_arg2]
  refine congrArg _ ?_
  blk_ext [idx t]

/-- and so their scales. -/
theorem blk3 (t : Fin cfg0.N) (d : Fin 2560) : iblk m c 3 t (ix3 0 0 d) = (m ((c.tc : Thread nD τ).loc main_arg3)) (ix2 (layer t) d) := by
  rw [← scales_row c m]
  blk_simp [iblk]
  refine congrArg _ ?_
  blk_ext [idx t]

/-- Where an index of the output's block lies in the array. -/
theorem emb4 (t : Fin cfg0.N) (y : S1x1280x2560.Idx) : (win0_4.blk t).view.emb y 0 = layer t ∧ (win0_4.blk t).view.emb y 1 = y 1
    ∧ (win0_4.blk t).view.emb y 2 = y 2 := by
  refine ⟨Fin.ext ?_, Fin.ext ?_, Fin.ext ?_⟩
  · blk_simp [idx t]
  · blk_simp [idx t]
  · blk_simp [idx t]

/-- The result. -/
theorem array : (dats (F := Ideal) m 0 c).arrAt 4 cfg0.N = fun y : S4x1280x2560.Idx => textAll ((m ((c.tc : Thread nD τ).loc main_arg0)) ix0) (m ((c.tc : Thread nD τ).loc main_arg1)) (m ((c.tc : Thread nD τ).loc main_arg2)) (m ((c.tc : Thread nD τ).loc main_arg3)) (y 0) (y 1) (y 2) := by
  refine (dats m 0 c).arrAt_eq_of_covers 4 _ (by decide +kernel) fun t hf (y : S1x1280x2560.Idx) => ?_
  blk_simp
  rw [after0_4]
  unfold outsAt0
  dsimp only
  rw [out]
  obtain ⟨e0, e1, e2⟩ := emb4 t y
  rw [e0, e1, e2]
  obtain ⟨z, r, d, rfl⟩ : ∃ z r d, y = ix3 z r d := ⟨y 0, y 1, y 2, eq_ix3 y⟩
  show scaled (fun k => iblk m c 1 t (ix2 r k)) (fun k => iblk m c 2 t (ix3 0 k d)) (iblk m c 0 t (ix1 0)) (iblk m c 3 t (ix3 0 0 d)) = _
  simp only [blk0, blk1, blk2, blk3]
  rfl

end Cert.KernelTextIdeal.Block

end
-- ==== Proof.Text.Ref.lean ====
/-
  What the text projection's reference leaves: its array holds Text/Spec.lean's function of the arguments.  Grid point `t`
  handles transformer block `t`.
-/
module

public import proofs.«01_k».proof.Proof.Gen.ReferenceTextIdeal.Value
public import proofs.«01_k».proof.Proof.Text.Spec
public import Idealize.ShloMosaic.Lib.Pipeline.ValueKit

@[expose] public section

set_option maxRecDepth 16384

noncomputable section

namespace Cert.ReferenceTextIdeal.Block

open Cert.ReferenceTextIdeal Cert.ReferenceTextIdeal.Gen Cert.Math
open Idealize.ShloMosaic Idealize.ShloMosaic.TcCoe Idealize.SL.Sem
open Idealize.ShloMosaic.Pipeline (Dat)

/-- What is stored. -/
theorem pay1_at (s : Elt Ideal .f32) (t : Vec Ideal S1280x2048 .fp8e4m3) (w : Vec Ideal S1x2048x2560 .fp8e4m3)
    (ws : Vec Ideal S1x1x2560 .f32) (y : S1x1280x2560.Idx) :
    k0_pay1 (F := Ideal) t s w ws y = textBlock s t w ws y := by
  obtain ⟨z, r, d, rfl⟩ : ∃ z r d, y = ix3 z r d := ⟨y 0, y 1, y 2, eq_ix3 y⟩
  obtain rfl : z = 0 := Subsingleton.elim _ _
  pointwise [k0_pay1]
  rfl

variable (c : Dev nD) (i : grid0.Coords) (arg1 : Memref sig .tc .smem S1 .f32) (harg1 : arg1.IsWhole) (arg2 : Memref sig .tc .vmem S1280x2048 .fp8e4m3) (harg2 : arg2.IsWhole) (arg3 : Memref sig .tc .vmem S1x2048x2560 .fp8e4m3) (harg3 : arg3.IsWhole) (arg4 : Memref sig .tc .vmem S1x1x2560 .f32) (harg4 : arg4.IsWhole) (arg5 : Memref sig .tc .vmem S1x1280x2560 .bf16) (harg5 : arg5.IsWhole)
  (x0 : Vec Ideal S1 .f32) (x1 : Vec Ideal S1280x2048 .fp8e4m3) (x2 : Vec Ideal S1x2048x2560 .fp8e4m3) (x3 : Vec Ideal S1x1x2560 .f32)

/-- The result's buffer. -/
theorem out : out0_A_4 (F := Ideal) c i arg1 harg1 arg2 harg2 arg3 harg3 arg4 harg4 arg5 harg5 x0 x1 x2 x3 = textBlock (x0 (ix1 0)) x1 x2 x3 := by
  funext y
  frame_out
  rw [View.ld_unit_apply_of x0 _ _ _ _ _ (fun a => by fin_cases a; rfl : ∀ a, ((ix1 0 : S1.Idx) a).val = _)]
  exact pay1_at _ x1 x2 x3 y

/-! ## The array -/

variable (m : (ℓ : Loc nD τ sig) → Buf (Elt Ideal) ℓ)

/-- The block each window stages at each grid point. -/
theorem idx : ∀ t : Fin cfg0.N, win0_0.index t = ![0] ∧ win0_1.index t = ![0, 0] ∧ win0_2.index t = ![t.val, 0, 0]
    ∧ win0_3.index t = ![t.val, 0, 0] ∧ win0_4.index t = ![t.val, 0, 0] :=
  (by decide +kernel : ∀ t : Fin grid0.N, _)

/-- The transformer block of a grid point. -/
abbrev layer (t : Fin cfg0.N) : Fin 4 := ⟨t.val, t.isLt⟩

/-- The text's scale as one number of a vector, -/
theorem scale_row : V m c main_v0 (ix1 0) = (m ((c.tc : Thread nD τ).loc main_arg0)) ix0 := by
  entry_read
  pointwise

/-- and the weights' scales with a unit axis. -/
theorem scales_row (l : Fin 4) (d : Fin 2560) : V m c main_v1 (ix3 l 0 d) = (m ((c.tc : Thread nD τ).loc main_arg3)) (ix2 l d) := by
  entry_read
  pointwise

/-- The staged scale. -/
theorem blk0 (t : Fin cfg0.N) : iblk m c 0 t (ix1 0) = (m ((c.tc : Thread nD τ).loc main_arg0)) ix0 := by
  rw [← scale_row c m]
  blk_simp [iblk]
  refine congrArg _ ?_
  blk_ext [idx t]

/-- The codes are staged whole, -/
theorem blk1 (t : Fin cfg0.N) (r : Fin 1280) (k : Fin 2048) : iblk m c 1 t (ix2 r k) = (m ((c.tc : Thread nD τ).loc main_arg1)) (ix2 r k) := by
  blk_simp [iblk, V_main_arg1]
  refine congrArg _ ?_
  blk_ext [idx t]

/-- the weights block after block, -/
theorem blk2 (t : Fin cfg0.N) (k : Fin 2048) (d : Fin 2560) : iblk m c 2 t (ix3 0 k d) = (m ((c.tc : Thread nD τ).loc main_arg2)) (ix3 (layer t) k d) := by
  blk_simp [iblk, V_main_arg2]
  refine congrArg _ ?_
  blk_ext [idx t]

/-- and so their scales. -/
theorem blk3 (t : Fin cfg0.N) (d : Fin 2560) : iblk m c 3 t (ix3 0 0 d) = (m ((c.tc : Thread nD τ).loc main_arg3)) (ix2 (layer t) d) := by
  rw [← scales_row c m]
  blk_simp [iblk]
  refine congrArg _ ?_
  blk_ext [idx t]

/-- Where an index of the output's block lies in the array. -/
theorem emb4 (t : Fin cfg0.N) (y : S1x1280x2560.Idx) : (win0_4.blk t).view.emb y 0 = layer t ∧ (win0_4.blk t).view.emb y 1 = y 1
    ∧ (win0_4.blk t).view.emb y 2 = y 2 := by
  refine ⟨Fin.ext ?_, Fin.ext ?_, Fin.ext ?_⟩
  · blk_simp [idx t]
  · blk_simp [idx t]
  · blk_simp [idx t]

/-- The result. -/
theorem array : (dats (F := Ideal) m 0 c).arrAt 4 cfg0.N = fun y : S4x1280x2560.Idx => textAll ((m ((c.tc : Thread nD τ).loc main_arg0)) ix0) (m ((c.tc : Thread nD τ).loc main_arg1)) (m ((c.tc : Thread nD τ).loc main_arg2)) (m ((c.tc : Thread nD τ).loc main_arg3)) (y 0) (y 1) (y 2) := by
  refine (dats m 0 c).arrAt_eq_of_covers 4 _ (by decide +kernel) fun t hf (y : S1x1280x2560.Idx) => ?_
  blk_simp
  rw [after0_4]
  unfold outsAt0
  dsimp only
  rw [out]
  obtain ⟨e0, e1, e2⟩ := emb4 t y
  rw [e0, e1, e2]
  obtain ⟨z, r, d, rfl⟩ : ∃ z r d, y = ix3 z r d := ⟨y 0, y 1, y 2, eq_ix3 y⟩
  show scaled (fun k => iblk m c 1 t (ix2 r k)) (fun k => iblk m c 2 t (ix3 0 k d)) (iblk m c 0 t (ix1 0)) (iblk m c 3 t (ix3 0 0 d)) = _
  simp only [blk0, blk1, blk2, blk3]
  rfl

end Cert.ReferenceTextIdeal.Block

end
-- ==== Proof.Text.Claim.lean ====
/-
  The claims about the text projection's call: kernel and reference, run on equal arguments, leave equal results.
-/
module

public import proofs.«01_k».proof.Defs
public import proofs.«01_k».proof.Proof.Gen.KernelText
public import proofs.«01_k».proof.Proof.Text.Kernel
public import proofs.«01_k».proof.Proof.Text.Ref
public import Idealize.ShloMosaic.Lib.Pipeline.ValueKit

@[expose] public section

set_option maxRecDepth 16384

noncomputable section

namespace Cert.BlockText

open Idealize.ShloMosaic Idealize.ShloMosaic.TcCoe Idealize.SL.Sem

/-- The kernel's frame: it is the ideal program's text, read over floats. -/
theorem quiet : Cert.quiescent_KernelText := fun m ρ _ => by
  refine cast ?_ (Cert.KernelTextIdeal.Gen.frame (F := Bits) m ρ)
  sl_kernel_rfl

/-- Kernel and reference leave the same array: Text/Spec.lean's function of the arguments. -/
theorem same : Cert.algebraic_KernelTextIdeal_ReferenceTextIdeal := by
  intro m g m' g' _ hargs
  refine ⟨fun c y => Cert.Math.textAll ((m ((c.tc : Thread Cert.KernelTextIdeal.nD Cert.KernelTextIdeal.τ).loc Cert.KernelTextIdeal.main_arg0)) ix0) (m ((c.tc : Thread Cert.KernelTextIdeal.nD Cert.KernelTextIdeal.τ).loc Cert.KernelTextIdeal.main_arg1)) (m ((c.tc : Thread Cert.KernelTextIdeal.nD Cert.KernelTextIdeal.τ).loc Cert.KernelTextIdeal.main_arg2)) (m ((c.tc : Thread Cert.KernelTextIdeal.nD Cert.KernelTextIdeal.τ).loc Cert.KernelTextIdeal.main_arg3)) (y 0) (y 1) (y 2), ?_, ?_⟩
  · refine (θ_run _ _ _).mono (fun r h c => ?_) (Cert.KernelTextIdeal.Value.run_blocks (F := Ideal) m g)
    obtain ⟨e, keep⟩ := h c
    exact ⟨e.trans (Cert.KernelTextIdeal.Block.array c m), keep⟩
  · refine (θ_run _ _ _).mono (fun r h c => ?_) (Cert.ReferenceTextIdeal.Value.run_blocks (F := Ideal) m' g')
    obtain ⟨e, keep⟩ := h c
    obtain ⟨a0, a1, a2, a3⟩ := hargs c
    have o := Cert.ReferenceTextIdeal.Block.array c m'
    rw [a0, a1, a2, a3] at o
    exact ⟨e.trans o, keep⟩

end Cert.BlockText

end
-- ==== Proof.lean ====
/- The five claims, for the feed-forward call of each of the four transformer blocks and for the output projection: each program runs to an end, faults
   nowhere and keeps its arguments; the ideal program is the kernel over the extended reals; kernel and reference, run on
   equal arguments whose divisors are not zero, leave equal results.  The first block's call, which returns its codes too,
   is proved here; those of the three other blocks in Later/, the projections in Out/ and
   Text/. -/
module

public import proofs.«01_k».proof.Defs
public import proofs.«01_k».proof.Proof.Gen.Kernel
public import proofs.«01_k».proof.Proof.Gen.ReferenceIdeal.Value
public import proofs.«01_k».proof.Proof.Arrays
public import proofs.«01_k».proof.Proof.RefArrays
public import proofs.«01_k».proof.Proof.Pre
public import proofs.«01_k».proof.Proof.Later.Block1
public import proofs.«01_k».proof.Proof.Later.Block2
public import proofs.«01_k».proof.Proof.Later.Block3
public import proofs.«01_k».proof.Proof.Out.Claim
public import proofs.«01_k».proof.Proof.Text.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame: it is the ideal program's text, read over floats, and Frame.lean's run holds for any values. -/
theorem quiet : Cert.quiescent_Kernel := fun m ρ _ => by
  refine cast ?_ (Cert.KernelIdeal.Block.frame (F := Bits) m ρ)
  sl_kernel_rfl

/-- Kernel and reference leave the same three arrays: Spec.lean's functions of the arguments. -/
theorem same : Cert.algebraic_KernelIdeal_ReferenceIdeal_pre_scales_nonzero := by
  intro m g m' g' hpre hargs
  refine ⟨fun c y => Cert.Math.outAll 0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (y 0) (y 1),
    fun c y => Cert.Math.inAll 0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (y 0) (y 1),
    fun c y => Cert.Math.midAll 0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (y 0) (y 1), ?_, ?_⟩
  · refine (θ_run _ _ _).mono (fun r h c => ?_) (Cert.KernelIdeal.Block.run_blocks (F := Ideal) m g)
    obtain ⟨h4, h5⟩ := Cert.Pre_scales_nonzero.nonzero _ _ _ _ _ _ _ _ _ _ (hpre c)
    obtain ⟨e0, e1, e2, keep⟩ := h c
    exact ⟨e0.trans (Cert.KernelIdeal.Block.out_array m c h4 h5), e1.trans (Cert.KernelIdeal.Block.in_array m c h4),
      e2.trans (Cert.KernelIdeal.Block.mid_array m c h4 h5), keep⟩
  · refine (θ_run _ _ _).mono (fun r h c => ?_) (Cert.ReferenceIdeal.Value.run_blocks (F := Ideal) m' g')
    obtain ⟨e0, e1, e2, keep⟩ := h c
    obtain ⟨a0, a1, a2, a3, a4, a5, a6, a7, a8, a9⟩ := hargs c
    have o := Cert.ReferenceIdeal.Block.out_array c m'
    have i := Cert.ReferenceIdeal.Block.in_array c m'
    have d := Cert.ReferenceIdeal.Block.mid_array c m'
    rw [a0, a1, a2, a3, a4, a5, a6, a7, a8, a9] at o
    rw [a0, a1, a8, a9] at i
    rw [a0, a1, a2, a3, a4, a8, a9] at d
    exact ⟨e0.trans o, e1.trans i, e2.trans d, keep⟩

/-- Everything claimed. -/
theorem claim : Cert.Claim :=
  ⟨Cert.Kernel.Gen.facts, Cert.KernelIdeal.Gen.facts, Cert.ReferenceIdeal.Gen.facts,
    Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.KernelOut.Gen.facts, Cert.KernelOutIdeal.Gen.facts, Cert.ReferenceOutIdeal.Gen.facts,
    Cert.KernelText.Gen.facts, Cert.KernelTextIdeal.Gen.facts, Cert.ReferenceTextIdeal.Gen.facts,
    Cert.Pre_scales_nonzero.facts, Cert.Pre_scales_nonzero1.facts, Cert.Pre_scales_nonzero2.facts, Cert.Pre_scales_nonzero3.facts,
    Cert.Pre_out_scale_nonzero.facts,
    quiet,
    fun m ρ _ => Cert.KernelIdeal.Block.frame m ρ,
    fun m ρ _ => Cert.KernelIdeal.Block.frame m ρ,
    fun m ρ _ => Cert.ReferenceIdeal.Gen.frame m ρ,
    fun m ρ _ => Cert.ReferenceIdeal.Gen.frame m ρ,
    Cert.Block1.quiet, Cert.Block1.quiet_ideal, fun m ρ _ => Cert.Block1.quiet_ideal m ρ trivial,
    fun m ρ _ => Cert.Reference1Ideal.Gen.frame m ρ, fun m ρ _ => Cert.Reference1Ideal.Gen.frame m ρ,
    Cert.Block2.quiet, Cert.Block2.quiet_ideal, fun m ρ _ => Cert.Block2.quiet_ideal m ρ trivial,
    fun m ρ _ => Cert.Reference2Ideal.Gen.frame m ρ, fun m ρ _ => Cert.Reference2Ideal.Gen.frame m ρ,
    Cert.Block3.quiet, Cert.Block3.quiet_ideal, fun m ρ _ => Cert.Block3.quiet_ideal m ρ trivial,
    fun m ρ _ => Cert.Reference3Ideal.Gen.frame m ρ, fun m ρ _ => Cert.Reference3Ideal.Gen.frame m ρ,
    Cert.BlockOut.quiet, fun m ρ _ => Cert.KernelOutIdeal.Gen.frame m ρ, fun m ρ _ => Cert.KernelOutIdeal.Gen.frame m ρ,
    fun m ρ _ => Cert.ReferenceOutIdeal.Gen.frame m ρ, fun m ρ _ => Cert.ReferenceOutIdeal.Gen.frame m ρ,
    Cert.BlockText.quiet, fun m ρ _ => Cert.KernelTextIdeal.Gen.frame m ρ, fun m ρ _ => Cert.ReferenceTextIdeal.Gen.frame m ρ,
    trivial, same, trivial, Cert.Block1.same, trivial, Cert.Block2.same, trivial, Cert.Block3.same, trivial, Cert.BlockOut.same,
    trivial, Cert.BlockText.same⟩

end Cert.Proof

end
